-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v35_0)) (v1 : (c : Dev Cert.Kernel2Ideal.nD) → Buf (Elt Ideal) ((c.tc : Thread Cert.Kernel2Ideal.nD Cert.Kernel2Ideal.τ).loc Cert.Kernel2Ideal.main_v35_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v35_0) = v0 c
          ∧ r.2.mem ((c.tc : Thread Cert.Kernel2Ideal.nD Cert.Kernel2Ideal.τ).loc Cert.Kernel2Ideal.main_v35_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_v69) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def preserves_Kernel7_Kernel7Ideal : Prop :=
  True

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v222)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v222) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v252) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hKernel7 : Cert.Kernel7.Facts) (hKernel7Ideal : Cert.Kernel7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel7 (hKernel7 := hKernel7)
    ∧ quiescent_Kernel7Ideal (hKernel7Ideal := hKernel7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ preserves_Kernel7_Kernel7Ideal
    ∧ preserves_Kernel8_Kernel8Ideal
    ∧ algebraic_Kernel8Ideal_Reference8Ideal (hKernel8Ideal := hKernel8Ideal) (hReference8Ideal := hReference8Ideal)
-- ==== Kernel.lean ====
abbrev S8x4096x1024 : Shape := ⟨3, ![8, 4096, 1024]⟩
abbrev S16x1x6144 : Shape := ⟨3, ![16, 1, 6144]⟩
abbrev S16x2048x512 : Shape := ⟨3, ![16, 2048, 512]⟩
abbrev S8x4096x512 : Shape := ⟨3, ![8, 4096, 512]⟩
abbrev S1x512x1024 : Shape := ⟨3, ![1, 512, 1024]⟩
abbrev S1x1024 : Shape := ⟨2, ![1, 1024]⟩
abbrev S1x512 : Shape := ⟨2, ![1, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S256 : Shape := ⟨1, ![256]⟩
abbrev S_ : Shape := ⟨0, ![]⟩
abbrev S4096x1 : Shape := ⟨2, ![4096, 1]⟩
abbrev S1x256 : Shape := ⟨2, ![1, 256]⟩
abbrev S4096x256 : Shape := ⟨2, ![4096, 256]⟩
abbrev S4096x512 : Shape := ⟨2, ![4096, 512]⟩
abbrev S4096x1024 : Shape := ⟨2, ![4096, 1024]⟩
abbrev S512x1024 : Shape := ⟨2, ![512, 1024]⟩
abbrev S512 : Shape := ⟨1, ![512]⟩
abbrev S1024x1024 : Shape := ⟨2, ![1024, 1024]⟩
abbrev S1024x4096 : Shape := ⟨2, ![1024, 4096]⟩
abbrev S8x64x1024 : Shape := ⟨3, ![8, 64, 1024]⟩
abbrev S64x1024 : Shape := ⟨2, ![64, 1024]⟩
abbrev S8x1x6144 : Shape := ⟨3, ![8, 1, 6144]⟩
abbrev S16x32x512 : Shape := ⟨3, ![16, 32, 512]⟩
abbrev S8x64x512 : Shape := ⟨3, ![8, 64, 512]⟩
abbrev S8x1x1024 : Shape := ⟨3, ![8, 1, 1024]⟩
abbrev S1x64x1024 : Shape := ⟨3, ![1, 64, 1024]⟩
abbrev S32x16x512 : Shape := ⟨3, ![32, 16, 512]⟩
abbrev S1x16x512 : Shape := ⟨3, ![1, 16, 512]⟩
abbrev S16x512 : Shape := ⟨2, ![16, 512]⟩
abbrev S512x512 : Shape := ⟨2, ![512, 512]⟩
abbrev S512x1 : Shape := ⟨2, ![512, 1]⟩
abbrev S1x1x1024 : Shape := ⟨3, ![1, 1, 1024]⟩
abbrev S8x64 : Shape := ⟨2, ![8, 64]⟩
abbrev S8x64x1 : Shape := ⟨3, ![8, 64, 1]⟩
abbrev S512x4096 : Shape := ⟨2, ![512, 4096]⟩

abbrev nBuf : Space → Nat
  | .hbm => 65
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S16x1x6144, .f32⟩
  | .hbm, ⟨2, _⟩ => ⟨S16x2048x512, .bf16⟩
  | .hbm, ⟨3, _⟩ => ⟨S8x4096x512, .bf16⟩
  | .hbm, ⟨4, _⟩ => ⟨S1x512x1024, .f32⟩
  | .hbm, ⟨5, _⟩ => ⟨S1x1024, .f32⟩
  | .hbm, ⟨6, _⟩ => ⟨S1x512, .f32⟩
  | .hbm, ⟨7, _⟩ => ⟨S1x512, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1024, .f32⟩
  | .hbm, ⟨13, _⟩ => ⟨S64, .f32⟩
  | .hbm, ⟨14, _⟩ => ⟨S64x64, .f32⟩
  | .hbm, ⟨15, _⟩ => ⟨S4096, .f32⟩
  | .hbm, ⟨16, _⟩ => ⟨S64, .f32⟩
  | .hbm, ⟨17, _⟩ => ⟨S1x64, .f32⟩
  | .hbm, ⟨18, _⟩ => ⟨S64x64, .f32⟩
  | .hbm, ⟨19, _⟩ => ⟨S4096, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S4096x1, .f32⟩
  | .hbm, ⟨31, _⟩ => ⟨S1x256, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S4096x256, .f32⟩
  | .hbm, ⟨37, _⟩ => ⟨S4096x512, .f32⟩
  | .hbm, ⟨38, _⟩ => ⟨S4096x1, .f32⟩
  | .hbm, ⟨39, _⟩ => ⟨S1x256, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S4096x512, .f32⟩
  | .hbm, ⟨46, _⟩ => ⟨S4096x1024, .f32⟩
  | .hbm, ⟨47, _⟩ => ⟨S512x1024, .f32⟩
  | .hbm, ⟨48, _⟩ => ⟨S512x1024, .bf16⟩
  | .hbm, ⟨49, _⟩ => ⟨S1024, .f32⟩
  | .hbm, ⟨50, _⟩ => ⟨S512, .f32⟩
  | .hbm, ⟨51, _⟩ => ⟨S512, .f32⟩
  | .hbm, ⟨52, _⟩ => ⟨S1024x1024, .f32⟩
  | .hbm, ⟨53, _⟩ => ⟨S1024x1024, .bf16⟩
  | .hbm, ⟨54, _⟩ => ⟨S1024, .f32⟩
  | .hbm, ⟨55, _⟩ => ⟨S1024x4096, .f32⟩
  | .hbm, ⟨56, _⟩ => ⟨S1024x4096, .bf16⟩
  | .hbm, ⟨57, _⟩ => ⟨S4096x1024, .f32⟩
  | .hbm, ⟨58, _⟩ => ⟨S4096x1024, .bf16⟩
  | .hbm, ⟨59, _⟩ => ⟨S1x1024, .f32⟩
  | .hbm, ⟨60, _⟩ => ⟨S1x512, .f32⟩
  | .hbm, ⟨61, _⟩ => ⟨S1x512, .f32⟩
  | .hbm, ⟨62, _⟩ => ⟨S1x1024, .f32⟩
  | .hbm, ⟨63, _⟩ => ⟨S1x1024, .f32⟩
  | .hbm, ⟨64, _⟩ => ⟨S8x4096x1024, .f32⟩
  | .local _ .vmem, ⟨0, _⟩ => ⟨S8x64x1024, .f32⟩
  | .local _ .vmem, ⟨1, _⟩ => ⟨S8x64x1024, .f32⟩
  | .local _ .vmem, ⟨2, _⟩ => ⟨S64x1024, .f32⟩
  | .local _ .vmem, ⟨3, _⟩ => ⟨S64x1024, .f32⟩
  | .local _ .vmem, ⟨4, _⟩ => ⟨S8x1x6144, .f32⟩
  | .local _ .vmem, ⟨5, _⟩ => ⟨S16x32x512, .bf16⟩
  | .local _ .vmem, ⟨6, _⟩ => ⟨S16x32x512, .bf16⟩
  | .local _ .vmem, ⟨7, _⟩ => ⟨S8x64x512, .bf16⟩
  | .local _ .vmem, ⟨8, _⟩ => ⟨S8x64x512, .bf16⟩
  | .local _ .vmem, ⟨9, _⟩ => ⟨S512x1024, .bf16⟩
  | .local _ .vmem, ⟨10, _⟩ => ⟨S1x1024, .f32⟩
  | .local _ .vmem, ⟨11, _⟩ => ⟨S1x512, .f32⟩
  | .local _ .vmem, ⟨12, _⟩ => ⟨S1x512, .f32⟩
  | .local _ .vmem, ⟨13, _⟩ => ⟨S1024x1024, .bf16⟩
  | .local _ .vmem, ⟨14, _⟩ => ⟨S1x1024, .f32⟩
  | .local _ .vmem, ⟨15, _⟩ => ⟨S1024x4096, .bf16⟩
  | .local _ .vmem, ⟨16, _⟩ => ⟨S4096x1024, .bf16⟩
  | .local _ .vmem, ⟨17, _⟩ => ⟨S1x1024, .f32⟩
  | .local _ .vmem, ⟨18, _⟩ => ⟨S8x64x1024, .f32⟩
  | .local _ .vmem, ⟨19, _⟩ => ⟨S8x64x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S8x64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S8x4096x1024 : Shape := ⟨3, ![8, 4096, 1024]⟩
abbrev S16x1x6144 : Shape := ⟨3, ![16, 1, 6144]⟩
abbrev S16x2048x512 : Shape := ⟨3, ![16, 2048, 512]⟩
abbrev S8x4096x512 : Shape := ⟨3, ![8, 4096, 512]⟩
abbrev S1x512x1024 : Shape := ⟨3, ![1, 512, 1024]⟩
abbrev S1x1024 : Shape := ⟨2, ![1, 1024]⟩
abbrev S1x512 : Shape := ⟨2, ![1, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S256 : Shape := ⟨1, ![256]⟩
abbrev S_ : Shape := ⟨0, ![]⟩
abbrev S4096x1 : Shape := ⟨2, ![4096, 1]⟩
abbrev S1x256 : Shape := ⟨2, ![1, 256]⟩
abbrev S4096x256 : Shape := ⟨2, ![4096, 256]⟩
abbrev S4096x512 : Shape := ⟨2, ![4096, 512]⟩
abbrev S4096x1024 : Shape := ⟨2, ![4096, 1024]⟩
abbrev S8x1x6144 : Shape := ⟨3, ![8, 1, 6144]⟩
abbrev S8x1x1024 : Shape := ⟨3, ![8, 1, 1024]⟩
abbrev S16x256x8x512 : Shape := ⟨4, ![16, 256, 8, 512]⟩
abbrev S8x256x16x512 : Shape := ⟨4, ![8, 256, 16, 512]⟩
abbrev S512x1024 : Shape := ⟨2, ![512, 1024]⟩
abbrev S1x1x1024 : Shape := ⟨3, ![1, 1, 1024]⟩
abbrev S512 : Shape := ⟨1, ![512]⟩
abbrev S8x4096 : Shape := ⟨2, ![8, 4096]⟩
abbrev S8x4096x1 : Shape := ⟨3, ![8, 4096, 1]⟩
abbrev S1x1x512 : Shape := ⟨3, ![1, 1, 512]⟩
abbrev S1024x1024 : Shape := ⟨2, ![1024, 1024]⟩
abbrev S1024x4096 : Shape := ⟨2, ![1024, 4096]⟩
abbrev S8x4096x4096 : Shape := ⟨3, ![8, 4096, 4096]⟩

abbrev nBuf : Space → Nat
  | .hbm => 170
  | .vmem => 0
  | .smem => 0
  | _ => 0

abbrev hbmTy0_0 (i : Nat) : BufTy := match i % 128 with
  | 0 => ⟨S8x4096x1024, .f32⟩
  | 1 => ⟨S16x1x6144, .f32⟩
  | 2 => ⟨S16x2048x512, .bf16⟩
  | 3 => ⟨S8x4096x512, .bf16⟩
  | 4 => ⟨S1x512x1024, .f32⟩
  | 5 => ⟨S1x1024, .f32⟩
  | 6 => ⟨S1x512, .f32⟩
  | 7 => ⟨S1x512, .f32⟩
  | 8 => ⟨S1x1024x1024, .f32⟩
  | 9 => ⟨S1x1024, .f32⟩
  | 10 => ⟨S1x1024x4096, .f32⟩
  | 11 => ⟨S1x4096x1024, .f32⟩
  | 12 => ⟨S1024, .f32⟩
  | 13 => ⟨S64, .f32⟩
  | 14 => ⟨S64x64, .f32⟩
  | 15 => ⟨S4096, .f32⟩
  | 16 => ⟨S64, .f32⟩
  | 17 => ⟨S1x64, .f32⟩
  | 18 => ⟨S64x64, .f32⟩
  | 19 => ⟨S4096, .f32⟩
  | 20 => ⟨S256, .f32⟩
  | 21 => ⟨S_, .f32⟩
  | 22 => ⟨S256, .f32⟩
  | 23 => ⟨S256, .f32⟩
  | 24 => ⟨S_, .f32⟩
  | 25 => ⟨S256, .f32⟩
  | 26 => ⟨S256, .f32⟩
  | 27 => ⟨S_, .f32⟩
  | 28 => ⟨S256, .f32⟩
  | 29 => ⟨S256, .f32⟩
  | 30 => ⟨S4096x1, .f32⟩
  | 31 => ⟨S1x256, .f32⟩
  | 32 => ⟨S4096x256, .f32⟩
  | 33 => ⟨S4096x256, .f32⟩
  | 34 => ⟨S4096x256, .f32⟩
  | 35 => ⟨S4096x256, .f32⟩
  | 36 => ⟨S4096x256, .f32⟩
  | 37 => ⟨S4096x512, .f32⟩
  | 38 => ⟨S4096x1, .f32⟩
  | 39 => ⟨S1x256, .f32⟩
  | 40 => ⟨S4096x256, .f32⟩
  | 41 => ⟨S4096x256, .f32⟩
  | 42 => ⟨S4096x256, .f32⟩
  | 43 => ⟨S4096x256, .f32⟩
  | 44 => ⟨S4096x256, .f32⟩
  | 45 => ⟨S4096x512, .f32⟩
  | 46 => ⟨S4096x1024, .f32⟩
  | 47 => ⟨S1x4096x1024, .f32⟩
  | 48 => ⟨S8x4096x1024, .f32⟩
  | 49 => ⟨S8x4096x1024, .f32⟩
  | 50 => ⟨S8x1x6144, .f32⟩
  | 51 => ⟨S8x1x1024, .f32⟩
  | 52 => ⟨S8x1x1024, .f32⟩
  | 53 => ⟨S8x1x1024, .f32⟩
  | 54 => ⟨S8x1x1024, .f32⟩
  | 55 => ⟨S8x1x1024, .f32⟩
  | 56 => ⟨S8x1x1024, .f32⟩
  | 57 => ⟨S16x2048x512, .f32⟩
  | 58 => ⟨S16x256x8x512, .f32⟩
  | 59 => ⟨S8x256x16x512, .f32⟩
  | 60 => ⟨S8x4096x512, .f32⟩
  | 61 => ⟨S512x1024, .f32⟩
  | 62 => ⟨S8x4096x1024, .f32⟩
  | 63 => ⟨S1024, .f32⟩
  | 64 => ⟨S1x1x1024, .f32⟩
  | 65 => ⟨S8x4096x1024, .f32⟩
  | 66 => ⟨S8x4096x1024, .f32⟩
  | 67 => ⟨S8x4096x512, .f32⟩
  | 68 => ⟨S8x4096x512, .f32⟩
  | 69 => ⟨S8x4096x512, .f32⟩
  | 70 => ⟨S8x4096x512, .f32⟩
  | 71 => ⟨S_, .f32⟩
  | 72 => ⟨S8x4096x512, .f32⟩
  | 73 => ⟨S8x4096x512, .f32⟩
  | 74 => ⟨S_, .f32⟩
  | 75 => ⟨S8x4096x512, .f32⟩
  | 76 => ⟨S8x4096x512, .f32⟩
  | 77 => ⟨S8x4096x512, .f32⟩
  | 78 => ⟨S512, .f32⟩
  | 79 => ⟨S8x4096x512, .f32⟩
  | 80 => ⟨S_, .f32⟩
  | 81 => ⟨S8x4096, .f32⟩
  | 82 => ⟨S8x4096x1, .f32⟩
  | 83 => ⟨S_, .f32⟩
  | 84 => ⟨S8x4096x1, .f32⟩
  | 85 => ⟨S8x4096x1, .f32⟩
  | 86 => ⟨S_, .f32⟩
  | 87 => ⟨S8x4096x1, .f32⟩
  | 88 => ⟨S8x4096x1, .f32⟩
  | 89 => ⟨S8x4096x1, .f32⟩
  | 90 => ⟨S8x4096x512, .f32⟩
  | 91 => ⟨S8x4096x512, .f32⟩
  | 92 => ⟨S1x1x512, .f32⟩
  | 93 => ⟨S8x4096x512, .f32⟩
  | 94 => ⟨S8x4096x512, .f32⟩
  | 95 => ⟨S8x4096x512, .f32⟩
  | 96 => ⟨S512, .f32⟩
  | 97 => ⟨S8x4096x512, .f32⟩
  | 98 => ⟨S_, .f32⟩
  | 99 => ⟨S8x4096, .f32⟩
  | 100 => ⟨S8x4096x1, .f32⟩
  | 101 => ⟨S_, .f32⟩
  | 102 => ⟨S8x4096x1, .f32⟩
  | 103 => ⟨S8x4096x1, .f32⟩
  | 104 => ⟨S_, .f32⟩
  | 105 => ⟨S8x4096x1, .f32⟩
  | 106 => ⟨S8x4096x1, .f32⟩
  | 107 => ⟨S8x4096x1, .f32⟩
  | 108 => ⟨S8x4096x512, .f32⟩
  | 109 => ⟨S8x4096x512, .f32⟩
  | 110 => ⟨S1x1x512, .f32⟩
  | 111 => ⟨S8x4096x512, .f32⟩
  | 112 => ⟨S8x4096x512, .f32⟩
  | 113 => ⟨S8x4096x1024, .f32⟩
  | 114 => ⟨S1024x1024, .f32⟩
  | 115 => ⟨S8x4096x1024, .f32⟩
  | 116 => ⟨S8x4096x1024, .f32⟩
  | 117 => ⟨S8x4096x1024, .f32⟩
  | 118 => ⟨S8x4096x1024, .f32⟩
  | 119 => ⟨S1024, .f32⟩
  | 120 => ⟨S8x4096x1024, .f32⟩
  | 121 => ⟨S_, .f32⟩
  | 122 => ⟨S8x4096, .f32⟩
  | 123 => ⟨S8x4096x1, .f32⟩
  | 124 => ⟨S_, .f32⟩
  | 125 => ⟨S8x4096x1, .f32⟩
  | 126 => ⟨S8x4096x1, .f32⟩
  | 127 => ⟨S_, .f32⟩
  | _ => ⟨S8x4096x1024, .f32⟩

abbrev hbmTy0_1 (i : Nat) : BufTy := match i % 128 with
  | 0 => ⟨S8x4096x1, .f32⟩
  | 1 => ⟨S8x4096x1, .f32⟩
  | 2 => ⟨S8x4096x1, .f32⟩
  | 3 => ⟨S8x4096x1024, .f32⟩
  | 4 => ⟨S8x4096x1024, .f32⟩
  | 5 => ⟨S1x1x1024, .f32⟩
  | 6 => ⟨S8x4096x1024, .f32⟩
  | 7 => ⟨S8x4096x1024, .f32⟩
  | 8 => ⟨S_, .f32⟩
  | 9 => ⟨S8x1x1024, .f32⟩
  | 10 => ⟨S8x1x1024, .f32⟩
  | 11 => ⟨S8x4096x1024, .f32⟩
  | 12 => ⟨S8x4096x1024, .f32⟩
  | 13 => ⟨S8x4096x1024, .f32⟩
  | 14 => ⟨S8x4096x1024, .f32⟩
  | 15 => ⟨S1024x4096, .f32⟩
  | 16 => ⟨S8x4096x4096, .f32⟩
  | 17 => ⟨S_, .f32⟩
  | 18 => ⟨S8x4096x4096, .f32⟩
  | 19 => ⟨S8x4096x4096, .f32⟩
  | 20 => ⟨S8x4096x4096, .f32⟩
  | 21 => ⟨S4096x1024, .f32⟩
  | 22 => ⟨S8x4096x1024, .f32⟩
  | 23 => ⟨S8x4096x1024, .f32⟩
  | 24 => ⟨S8x4096x1024, .f32⟩
  | 25 => ⟨S8x4096x1024, .f32⟩
  | 26 => ⟨S8x4096x1024, .f32⟩
  | 27 => ⟨S_, .f32⟩
  | 28 => ⟨S8x4096, .f32⟩
  | 29 => ⟨S8x4096x1, .f32⟩
  | 30 => ⟨S_, .f32⟩
  | 31 => ⟨S8x4096x1, .f32⟩
  | 32 => ⟨S8x4096x1, .f32⟩
  | 33 => ⟨S_, .f32⟩
  | 34 => ⟨S8x4096x1, .f32⟩
  | 35 => ⟨S8x4096x1, .f32⟩
  | 36 => ⟨S8x4096x1, .f32⟩
  | 37 => ⟨S8x4096x1024, .f32⟩
  | 38 => ⟨S8x4096x1024, .f32⟩
  | 39 => ⟨S1x1x1024, .f32⟩
  | 40 => ⟨S8x4096x1024, .f32⟩
  | 41 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_2 : Ref sig .tc := ⟨.hbm, 71, rfl⟩
abbrev main_v55 : Ref sig .tc := ⟨.hbm, 72, rfl⟩
abbrev main_v56 : Ref sig .tc := ⟨.hbm, 73, rfl⟩
abbrev main_cst_3 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_4 : Ref sig .tc := ⟨.hbm, 80, rfl⟩
abbrev main_v62 : Ref sig .tc := ⟨.hbm, 81, rfl⟩
abbrev main_v63 : Ref sig .tc := ⟨.hbm, 82, rfl⟩
abbrev main_cst_5 : Ref sig .tc := ⟨.hbm, 83, rfl⟩
abbrev main_v64 : Ref sig .tc := ⟨.hbm, 84, rfl⟩
abbrev main_v65 : Ref sig .tc := ⟨.hbm, 85, rfl⟩
abbrev main_cst_6 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_7 : Ref sig .tc := ⟨.hbm, 98, rfl⟩
abbrev main_v77 : Ref sig .tc := ⟨.hbm, 99, rfl⟩
abbrev main_v78 : Ref sig .tc := ⟨.hbm, 100, rfl⟩
abbrev main_cst_8 : Ref sig .tc := ⟨.hbm, 101, rfl⟩
abbrev main_v79 : Ref sig .tc := ⟨.hbm, 102, rfl⟩
abbrev main_v80 : Ref sig .tc := ⟨.hbm, 103, rfl⟩
abbrev main_cst_9 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_10 : Ref sig .tc := ⟨.hbm, 121, rfl⟩
abbrev main_v97 : Ref sig .tc := ⟨.hbm, 122, rfl⟩
abbrev main_v98 : Ref sig .tc := ⟨.hbm, 123, rfl⟩
abbrev main_cst_11 : Ref sig .tc := ⟨.hbm, 124, rfl⟩
abbrev main_v99 : Ref sig .tc := ⟨.hbm, 125, rfl⟩
abbrev main_v100 : Ref sig .tc := ⟨.hbm, 126, rfl⟩
abbrev main_cst_12 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_13 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_call0_cst : Ref sig .tc := ⟨.hbm, 145, rfl⟩
abbrev main_call0_v0 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_cst_14 : Ref sig .tc := ⟨.hbm, 155, rfl⟩
abbrev main_v125 : Ref sig .tc := ⟨.hbm, 156, rfl⟩
abbrev main_v126 : Ref sig .tc := ⟨.hbm, 157, rfl⟩
abbrev main_cst_15 : Ref sig .tc := ⟨.hbm, 158, rfl⟩
abbrev main_v127 : Ref sig .tc := ⟨.hbm, 159, rfl⟩
abbrev main_v128 : Ref sig .tc := ⟨.hbm, 160, rfl⟩
abbrev main_cst_16 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩

abbrev nD : Nat := 1
abbrev τ : Topo := Topo.v7x

variable {F : FTy → Type} [FloatOps F]
-- ==== Kernel2.lean ====
abbrev S8x4096x1024 : Shape := ⟨3, ![8, 4096, 1024]⟩
abbrev S16x1x6144 : Shape := ⟨3, ![16, 1, 6144]⟩
abbrev S1x1024 : Shape := ⟨2, ![1, 1024]⟩
abbrev S1x1024x2048 : Shape := ⟨3, ![1, 1024, 2048]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S256 : Shape := ⟨1, ![256]⟩
abbrev S_ : Shape := ⟨0, ![]⟩
abbrev S4096x1 : Shape := ⟨2, ![4096, 1]⟩
abbrev S1x256 : Shape := ⟨2, ![1, 256]⟩
abbrev S4096x256 : Shape := ⟨2, ![4096, 256]⟩
abbrev S4096x512 : Shape := ⟨2, ![4096, 512]⟩
abbrev S4096x1024 : Shape := ⟨2, ![4096, 1024]⟩
abbrev S1024 : Shape := ⟨1, ![1024]⟩
abbrev S1024x2048 : Shape := ⟨2, ![1024, 2048]⟩
abbrev S16x2048x512 : Shape := ⟨3, ![16, 2048, 512]⟩
abbrev S8x4096x1536 : Shape := ⟨3, ![8, 4096, 1536]⟩
abbrev S8x128x1024 : Shape := ⟨3, ![8, 128, 1024]⟩
abbrev S128x1024 : Shape := ⟨2, ![128, 1024]⟩
abbrev S8x1x6144 : Shape := ⟨3, ![8, 1, 6144]⟩
abbrev S16x64x512 : Shape := ⟨3, ![16, 64, 512]⟩
abbrev S8x128x1536 : Shape := ⟨3, ![8, 128, 1536]⟩
abbrev S1x128x1024 : Shape := ⟨3, ![1, 128, 1024]⟩
abbrev S1x1x1024 : Shape := ⟨3, ![1, 1, 1024]⟩
abbrev S8x128 : Shape := ⟨2, ![8, 128]⟩
abbrev S8x128x1 : Shape := ⟨3, ![8, 128, 1]⟩
abbrev S8x1x1024 : Shape := ⟨3, ![8, 1, 1024]⟩
abbrev S1024x1024 : Shape := ⟨2, ![1024, 1024]⟩
abbrev S1024x512 : Shape := ⟨2, ![1024, 512]⟩
abbrev S64x16x512 : Shape := ⟨3, ![64, 16, 512]⟩
abbrev S1x16x512 : Shape := ⟨3, ![1, 16, 512]⟩
abbrev S16x512 : Shape := ⟨2, ![16, 512]⟩
abbrev S1024x1536 : Shape := ⟨2, ![1024, 1536]⟩

abbrev nBuf : Space → Nat
  | .hbm => 44
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S16x1x6144, .f32⟩
  | .hbm, ⟨2, _⟩ => ⟨S1x1024, .f32⟩
  | .hbm, ⟨3, _⟩ => ⟨S1x1024x2048, .f32⟩
  | .hbm, ⟨4, _⟩ => ⟨S64, .f32⟩
  | .hbm, ⟨5, _⟩ => ⟨S64x64, .f32⟩
  | .hbm, ⟨6, _⟩ => ⟨S4096, .f32⟩
  | .hbm, ⟨7, _⟩ => ⟨S64, .f32⟩
  | .hbm, ⟨8, _⟩ => ⟨S1x64, .f32⟩
  | .hbm, ⟨9, _⟩ => ⟨S64x64, .f32⟩
  | .hbm, ⟨10, _⟩ => ⟨S4096, .f32⟩
  | .hbm, ⟨11, _⟩ => ⟨S256, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S_, .f32⟩
  | .hbm, ⟨16, _⟩ => ⟨S256, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S4096x1, .f32⟩
  | .hbm, ⟨22, _⟩ => ⟨S1x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S4096x512, .f32⟩
  | .hbm, ⟨29, _⟩ => ⟨S4096x1, .f32⟩
  | .hbm, ⟨30, _⟩ => ⟨S1x256, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S4096x512, .f32⟩
  | .hbm, ⟨37, _⟩ => ⟨S4096x1024, .f32⟩
  | .hbm, ⟨38, _⟩ => ⟨S1024, .f32⟩
  | .hbm, ⟨39, _⟩ => ⟨S1024x2048, .f32⟩
  | .hbm, ⟨40, _⟩ => ⟨S1024x2048, .bf16⟩
  | .hbm, ⟨41, _⟩ => ⟨S1x1024, .f32⟩
  | .hbm, ⟨42, _⟩ => ⟨S16x2048x512, .bf16⟩
  | .hbm, ⟨43, _⟩ => ⟨S8x4096x1536, .bf16⟩
  | .local _ .vmem, ⟨0, _⟩ => ⟨S8x128x1024, .f32⟩
  | .local _ .vmem, ⟨1, _⟩ => ⟨S8x128x1024, .f32⟩
  | .local _ .vmem, ⟨2, _⟩ => ⟨S128x1024, .f32⟩
  | .local _ .vmem, ⟨3, _⟩ => ⟨S128x1024, .f32⟩
  | .local _ .vmem, ⟨4, _⟩ => ⟨S8x1x6144, .f32⟩
  | .local _ .vmem, ⟨5, _⟩ => ⟨S1x1024, .f32⟩
  | .local _ .vmem, ⟨6, _⟩ => ⟨S1024x2048, .bf16⟩
  | .local _ .vmem, ⟨7, _⟩ => ⟨S16x64x512, .bf16⟩
  | .local _ .vmem, ⟨8, _⟩ => ⟨S16x64x512, .bf16⟩
  | .local _ .vmem, ⟨9, _⟩ => ⟨S8x128x1536, .bf16⟩
  | .local _ .vmem, ⟨10, _⟩ => ⟨S8x128x1536, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35_0 : Ref sig .tc := ⟨.hbm, 42, rfl⟩
abbrev main_v35_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x4096x1024 : Shape := ⟨3, ![8, 4096, 1024]⟩
abbrev S16x1x6144 : Shape := ⟨3, ![16, 1, 6144]⟩
abbrev S1x1024 : Shape := ⟨2, ![1, 1024]⟩
abbrev S1x1024x2048 : Shape := ⟨3, ![1, 1024, 2048]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S256 : Shape := ⟨1, ![256]⟩
abbrev S_ : Shape := ⟨0, ![]⟩
abbrev S4096x1 : Shape := ⟨2, ![4096, 1]⟩
abbrev S1x256 : Shape := ⟨2, ![1, 256]⟩
abbrev S4096x256 : Shape := ⟨2, ![4096, 256]⟩
abbrev S4096x512 : Shape := ⟨2, ![4096, 512]⟩
abbrev S4096x1024 : Shape := ⟨2, ![4096, 1024]⟩
abbrev S1x4096x1024 : Shape := ⟨3, ![1, 4096, 1024]⟩
abbrev S8x1x6144 : Shape := ⟨3, ![8, 1, 6144]⟩
abbrev S8x1x1024 : Shape := ⟨3, ![8, 1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S1024x2048 : Shape := ⟨2, ![1024, 2048]⟩
abbrev S8x4096x2048 : Shape := ⟨3, ![8, 4096, 2048]⟩
abbrev S8x4096x512 : Shape := ⟨3, ![8, 4096, 512]⟩
abbrev S8x4096x1536 : Shape := ⟨3, ![8, 4096, 1536]⟩
abbrev S8x256x16x512 : Shape := ⟨4, ![8, 256, 16, 512]⟩
abbrev S16x256x8x512 : Shape := ⟨4, ![16, 256, 8, 512]⟩
abbrev S16x2048x512 : Shape := ⟨3, ![16, 2048, 512]⟩

abbrev nBuf : Space → Nat
  | .hbm => 81
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x1x6144, .f32⟩
  | .hbm, ⟨2, _⟩ => ⟨S1x1024, .f32⟩
  | .hbm, ⟨3, _⟩ => ⟨S1x1024x2048, .f32⟩
  | .hbm, ⟨4, _⟩ => ⟨S64, .f32⟩
  | .hbm, ⟨5, _⟩ => ⟨S64x64, .f32⟩
  | .hbm, ⟨6, _⟩ => ⟨S4096, .f32⟩
  | .hbm, ⟨7, _⟩ => ⟨S64, .f32⟩
  | .hbm, ⟨8, _⟩ => ⟨S1x64, .f32⟩
  | .hbm, ⟨9, _⟩ => ⟨S64x64, .f32⟩
  | .hbm, ⟨10, _⟩ => ⟨S4096, .f32⟩
  | .hbm, ⟨11, _⟩ => ⟨S256, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S_, .f32⟩
  | .hbm, ⟨16, _⟩ => ⟨S256, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S4096x1, .f32⟩
  | .hbm, ⟨22, _⟩ => ⟨S1x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S4096x512, .f32⟩
  | .hbm, ⟨29, _⟩ => ⟨S4096x1, .f32⟩
  | .hbm, ⟨30, _⟩ => ⟨S1x256, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S4096x512, .f32⟩
  | .hbm, ⟨37, _⟩ => ⟨S4096x1024, .f32⟩
  | .hbm, ⟨38, _⟩ => ⟨S1x4096x1024, .f32⟩
  | .hbm, ⟨39, _⟩ => ⟨S8x4096x1024, .f32⟩
  | .hbm, ⟨40, _⟩ => ⟨S8x4096x1024, .f32⟩
  | .hbm, ⟨41, _⟩ => ⟨S8x1x6144, .f32⟩
  | .hbm, ⟨42, _⟩ => ⟨S8x1x1024, .f32⟩
  | .hbm, ⟨43, _⟩ => ⟨S8x1x1024, .f32⟩
  | .hbm, ⟨44, _⟩ => ⟨S8x1x1024, .f32⟩
  | .hbm, ⟨45, _⟩ => ⟨S8x1x1024, .f32⟩
  | .hbm, ⟨46, _⟩ => ⟨S8x1x1024, .f32⟩
  | .hbm, ⟨47, _⟩ => ⟨S8x1x1024, .f32⟩
  | .hbm, ⟨48, _⟩ => ⟨S1024, .f32⟩
  | .hbm, ⟨49, _⟩ => ⟨S8x4096x1024, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x4096x1, .f32⟩
  | .hbm, ⟨60, _⟩ => ⟨S8x4096x1024, .f32⟩
  | .hbm, ⟨61, _⟩ => ⟨S8x4096x1024, .f32⟩
  | .hbm, ⟨62, _⟩ => ⟨S1x1x1024, .f32⟩
  | .hbm, ⟨63, _⟩ => ⟨S8x4096x1024, .f32⟩
  | .hbm, ⟨64, _⟩ => ⟨S8x4096x1024, .f32⟩
  | .hbm, ⟨65, _⟩ => ⟨S_, .f32⟩
  | .hbm, ⟨66, _⟩ => ⟨S8x1x1024, .f32⟩
  | .hbm, ⟨67, _⟩ => ⟨S8x1x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | .hbm, ⟨71, _⟩ => ⟨S8x4096x1024, .f32⟩
  | .hbm, ⟨72, _⟩ => ⟨S1024x2048, .f32⟩
  | .hbm, ⟨73, _⟩ => ⟨S8x4096x2048, .f32⟩
  | .hbm, ⟨74, _⟩ => ⟨S8x4096x512, .f32⟩
  | .hbm, ⟨75, _⟩ => ⟨S8x4096x1536, .f32⟩
  | .hbm, ⟨76, _⟩ => ⟨S8x256x16x512, .f32⟩
  | .hbm, ⟨77, _⟩ => ⟨S16x256x8x512, .f32⟩
  | .hbm, ⟨78, _⟩ => ⟨S16x2048x512, .f32⟩
  | .hbm, ⟨79, _⟩ => ⟨S16x2048x512, .bf16⟩
  | .hbm, ⟨80, _⟩ => ⟨S8x4096x1536, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_2 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_5 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩

abbrev nD : Nat := 1
abbrev τ : Topo := Topo.v7x

variable {F : FTy → Type} [FloatOps F]
-- ==== Kernel3.lean ====
abbrev S8x256x1024 : Shape := ⟨3, ![8, 256, 1024]⟩
abbrev S16x1x6144 : Shape := ⟨3, ![16, 1, 6144]⟩
abbrev S1x1024 : Shape := ⟨2, ![1, 1024]⟩
abbrev S1x1024x2048 : Shape := ⟨3, ![1, 1024, 2048]⟩
abbrev S1024 : Shape := ⟨1, ![1024]⟩
abbrev S1024x2048 : Shape := ⟨2, ![1024, 2048]⟩
abbrev S16x128x512 : Shape := ⟨3, ![16, 128, 512]⟩
abbrev S8x128x1024 : Shape := ⟨3, ![8, 128, 1024]⟩
abbrev S1x1x6144 : Shape := ⟨3, ![1, 1, 6144]⟩
abbrev S1024x512 : Shape := ⟨2, ![1024, 512]⟩
abbrev S16x64x512 : Shape := ⟨3, ![16, 64, 512]⟩
abbrev S1x1x1024 : Shape := ⟨3, ![1, 1, 1024]⟩
abbrev S8x128 : Shape := ⟨2, ![8, 128]⟩
abbrev S8x128x1 : Shape := ⟨3, ![8, 128, 1]⟩
abbrev S1024x1024 : Shape := ⟨2, ![1024, 1024]⟩
abbrev S64x16x512 : Shape := ⟨3, ![64, 16, 512]⟩
abbrev S1x16x512 : Shape := ⟨3, ![1, 16, 512]⟩
abbrev S16x512 : Shape := ⟨2, ![16, 512]⟩

abbrev nBuf : Space → Nat
  | .hbm => 9
  | .vmem => 7
  | .smem => 0
  | _ => 0

abbrev bufTy : (tb : Table) → Fin (tcTables nBuf tb) → BufTy
  | .hbm, ⟨0, _⟩ => ⟨S8x256x1024, .f32⟩
  | .hbm, ⟨1, _⟩ => ⟨S16x1x6144, .f32⟩
  | .hbm, ⟨2, _⟩ => ⟨S1x1024, .f32⟩
  | .hbm, ⟨3, _⟩ => ⟨S1x1024x2048, .f32⟩
  | .hbm, ⟨4, _⟩ => ⟨S1024, .f32⟩
  | .hbm, ⟨5, _⟩ => ⟨S1024x2048, .f32⟩
  | .hbm, ⟨6, _⟩ => ⟨S1024x2048, .bf16⟩
  | .hbm, ⟨7, _⟩ => ⟨S1x1024, .f32⟩
  | .hbm, ⟨8, _⟩ => ⟨S16x128x512, .bf16⟩
  | .local _ .vmem, ⟨0, _⟩ => ⟨S8x128x1024, .f32⟩
  | .local _ .vmem, ⟨1, _⟩ => ⟨S8x128x1024, .f32⟩
  | .local _ .vmem, ⟨2, _⟩ => ⟨S1x1x6144, .f32⟩
  | .local _ .vmem, ⟨3, _⟩ => ⟨S1x1024, .f32⟩
  | .local _ .vmem, ⟨4, _⟩ => ⟨S1024x512, .bf16⟩
  | .local _ .vmem, ⟨5, _⟩ => ⟨S16x64x512, .bf16⟩
  | .local _ .vmem, ⟨6, _⟩ => ⟨S16x64x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8x256x1024 : Shape := ⟨3, ![8, 256, 1024]⟩
abbrev S16x1x6144 : Shape := ⟨3, ![16, 1, 6144]⟩
abbrev S1x1024 : Shape := ⟨2, ![1, 1024]⟩
abbrev S1x1024x2048 : Shape := ⟨3, ![1, 1024, 2048]⟩
abbrev S1x1x6144 : Shape := ⟨3, ![1, 1, 6144]⟩
abbrev S6144 : Shape := ⟨1, ![6144]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x2048 : Shape := ⟨2, ![1024, 2048]⟩
abbrev S1024x512 : Shape := ⟨2, ![1024, 512]⟩
abbrev S8x256x512 : Shape := ⟨3, ![8, 256, 512]⟩
abbrev S8x16x16x512 : Shape := ⟨4, ![8, 16, 16, 512]⟩
abbrev S16x16x8x512 : Shape := ⟨4, ![16, 16, 8, 512]⟩
abbrev S16x128x512 : Shape := ⟨3, ![16, 128, 512]⟩

abbrev nBuf : Space → Nat
  | .hbm => 41
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S16x1x6144, .f32⟩
  | .hbm, ⟨2, _⟩ => ⟨S1x1024, .f32⟩
  | .hbm, ⟨3, _⟩ => ⟨S1x1024x2048, .f32⟩
  | .hbm, ⟨4, _⟩ => ⟨S1x1x6144, .f32⟩
  | .hbm, ⟨5, _⟩ => ⟨S6144, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S8x256x1024, .f32⟩
  | .hbm, ⟨10, _⟩ => ⟨S_, .f32⟩
  | .hbm, ⟨11, _⟩ => ⟨S8x256, .f32⟩
  | .hbm, ⟨12, _⟩ => ⟨S8x256x1, .f32⟩
  | .hbm, ⟨13, _⟩ => ⟨S_, .f32⟩
  | .hbm, ⟨14, _⟩ => ⟨S8x256x1, .f32⟩
  | .hbm, ⟨15, _⟩ => ⟨S8x256x1, .f32⟩
  | .hbm, ⟨16, _⟩ => ⟨S_, .f32⟩
  | .hbm, ⟨17, _⟩ => ⟨S8x256x1, .f32⟩
  | .hbm, ⟨18, _⟩ => ⟨S8x256x1, .f32⟩
  | .hbm, ⟨19, _⟩ => ⟨S8x256x1, .f32⟩
  | .hbm, ⟨20, _⟩ => ⟨S8x256x1024, .f32⟩
  | .hbm, ⟨21, _⟩ => ⟨S8x256x1024, .f32⟩
  | .hbm, ⟨22, _⟩ => ⟨S1x1x1024, .f32⟩
  | .hbm, ⟨23, _⟩ => ⟨S8x256x1024, .f32⟩
  | .hbm, ⟨24, _⟩ => ⟨S8x256x1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1x1024, .f32⟩
  | .hbm, ⟨29, _⟩ => ⟨S8x256x1024, .f32⟩
  | .hbm, ⟨30, _⟩ => ⟨S8x256x1024, .f32⟩
  | .hbm, ⟨31, _⟩ => ⟨S1x1x1024, .f32⟩
  | .hbm, ⟨32, _⟩ => ⟨S8x256x1024, .f32⟩
  | .hbm, ⟨33, _⟩ => ⟨S8x256x1024, .f32⟩
  | .hbm, ⟨34, _⟩ => ⟨S1024x2048, .f32⟩
  | .hbm, ⟨35, _⟩ => ⟨S1024x512, .f32⟩
  | .hbm, ⟨36, _⟩ => ⟨S8x256x512, .f32⟩
  | .hbm, ⟨37, _⟩ => ⟨S8x16x16x512, .f32⟩
  | .hbm, ⟨38, _⟩ => ⟨S16x16x8x512, .f32⟩
  | .hbm, ⟨39, _⟩ => ⟨S16x128x512, .f32⟩
  | .hbm, ⟨40, _⟩ => ⟨S16x128x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Kernel4.lean ====
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1024x6144 : Shape := ⟨2, ![1024, 6144]⟩
abbrev S6144 : Shape := ⟨1, ![6144]⟩
abbrev S16x6144 : Shape := ⟨2, ![16, 6144]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S1024x6144, .f32⟩
  | .hbm, ⟨9, _⟩ => ⟨S6144, .f32⟩
  | .hbm, ⟨10, _⟩ => ⟨S1x6144, .f32⟩
  | .hbm, ⟨11, _⟩ => ⟨S16x6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S8x6144 : Shape := ⟨2, ![8, 6144]⟩
abbrev S6144 : Shape := ⟨1, ![6144]⟩
abbrev S7x6144 : Shape := ⟨2, ![7, 6144]⟩
abbrev S16x6144 : Shape := ⟨2, ![16, 6144]⟩

abbrev nBuf : Space → Nat
  | .hbm => 37
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1024x6144, .f32⟩
  | .hbm, ⟨14, _⟩ => ⟨S8x6144, .f32⟩
  | .hbm, ⟨15, _⟩ => ⟨S6144, .f32⟩
  | .hbm, ⟨16, _⟩ => ⟨S1x6144, .f32⟩
  | .hbm, ⟨17, _⟩ => ⟨S8x6144, .f32⟩
  | .hbm, ⟨18, _⟩ => ⟨S8x6144, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1024x6144, .f32⟩
  | .hbm, ⟨29, _⟩ => ⟨S6144, .f32⟩
  | .hbm, ⟨30, _⟩ => ⟨S6144, .f32⟩
  | .hbm, ⟨31, _⟩ => ⟨S6144, .f32⟩
  | .hbm, ⟨32, _⟩ => ⟨S6144, .f32⟩
  | .hbm, ⟨33, _⟩ => ⟨S1x6144, .f32⟩
  | .hbm, ⟨34, _⟩ => ⟨S7x6144, .f32⟩
  | .hbm, ⟨35, _⟩ => ⟨S1x6144, .f32⟩
  | .hbm, ⟨36, _⟩ => ⟨S16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]
-- ==== Kernel5.lean ====
abbrev S16x2048x512 : Shape := ⟨3, ![16, 2048, 512]⟩
abbrev S16x128x512 : Shape := ⟨3, ![16, 128, 512]⟩
abbrev S32x256x256 : Shape := ⟨3, ![32, 256, 256]⟩
abbrev S1x2x32x64 : Shape := ⟨4, ![1, 2, 32, 64]⟩
abbrev S1x2x32 : Shape := ⟨3, ![1, 2, 32]⟩
abbrev S1x2x32x64x16 : Shape := ⟨5, ![1, 2, 32, 64, 16]⟩
abbrev S1x2x32x16x64 : Shape := ⟨5, ![1, 2, 32, 16, 64]⟩
abbrev S32x1 : Shape := ⟨2, ![32, 1]⟩
abbrev S32x16 : Shape := ⟨2, ![32, 16]⟩
abbrev S256 : Shape := ⟨1, ![256]⟩
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S2x32x1 : Shape := ⟨3, ![2, 32, 1]⟩
abbrev S32x1x1 : Shape := ⟨3, ![32, 1, 1]⟩
abbrev S1x32x64 : Shape := ⟨3, ![1, 32, 64]⟩
abbrev S32x64 : Shape := ⟨2, ![32, 64]⟩
abbrev S32x1x64 : Shape := ⟨3, ![32, 1, 64]⟩
abbrev S_ : Shape := ⟨0, ![]⟩
abbrev S2x32x64x1 : Shape := ⟨4, ![2, 32, 64, 1]⟩
abbrev S32x16x1 : Shape := ⟨3, ![32, 16, 1]⟩
abbrev S32x16x64 : Shape := ⟨3, ![32, 16, 64]⟩
abbrev S1x32x64x16 : Shape := ⟨4, ![1, 32, 64, 16]⟩
abbrev S32x64x16 : Shape := ⟨3, ![32, 64, 16]⟩
abbrev S32x1x16x64 : Shape := ⟨4, ![32, 1, 16, 64]⟩
abbrev S32x16x1x64 : Shape := ⟨4, ![32, 16, 1, 64]⟩
abbrev S32x16x16x64 : Shape := ⟨4, ![32, 16, 16, 64]⟩
abbrev S32x256x64 : Shape := ⟨3, ![32, 256, 64]⟩
abbrev S1x32x16x64 : Shape := ⟨4, ![1, 32, 16, 64]⟩
abbrev S32x64x1x16 : Shape := ⟨4, ![32, 64, 1, 16]⟩
abbrev S32x64x16x1 : Shape := ⟨4, ![32, 64, 16, 1]⟩
abbrev S32x64x16x16 : Shape := ⟨4, ![32, 64, 16, 16]⟩
abbrev S32x64x256 : Shape := ⟨3, ![32, 64, 256]⟩
abbrev S32x128 : Shape := ⟨2, ![32, 128]⟩
abbrev S32x1x128 : Shape := ⟨3, ![32, 1, 128]⟩
abbrev S32x2x128 : Shape := ⟨3, ![32, 2, 128]⟩
abbrev S1x256x1 : Shape := ⟨3, ![1, 256, 1]⟩
abbrev S16x2048x128 : Shape := ⟨3, ![16, 2048, 128]⟩
abbrev S16x128x128 : Shape := ⟨3, ![16, 128, 128]⟩
abbrev S8x256x256 : Shape := ⟨3, ![8, 256, 256]⟩
abbrev S8x2x128 : Shape := ⟨3, ![8, 2, 128]⟩
abbrev S8x2176x256 : Shape := ⟨3, ![8, 2176, 256]⟩
abbrev S2x2176x256 : Shape := ⟨3, ![2, 2176, 256]⟩
abbrev S2x2048x256 : Shape := ⟨3, ![2, 2048, 256]⟩
abbrev S1x128 : Shape := ⟨2, ![1, 128]⟩
abbrev S1x256x128 : Shape := ⟨3, ![1, 256, 128]⟩
abbrev S256x128 : Shape := ⟨2, ![256, 128]⟩
abbrev S1x128x128 : Shape := ⟨3, ![1, 128, 128]⟩
abbrev S128x128 : Shape := ⟨2, ![128, 128]⟩
abbrev S1x256 : Shape := ⟨2, ![1, 256]⟩
abbrev S1x2176x256 : Shape := ⟨3, ![1, 2176, 256]⟩
abbrev S2176x256 : Shape := ⟨2, ![2176, 256]⟩
abbrev S1x256x256 : Shape := ⟨3, ![1, 256, 256]⟩
abbrev S256x256 : Shape := ⟨2, ![256, 256]⟩
abbrev S1x1x128 : Shape := ⟨3, ![1, 1, 128]⟩
abbrev S8x128 : Shape := ⟨2, ![8, 128]⟩
abbrev S1x8x256 : Shape := ⟨3, ![1, 8, 256]⟩
abbrev S8x256 : Shape := ⟨2, ![8, 256]⟩
abbrev S1x2048x256 : Shape := ⟨3, ![1, 2048, 256]⟩
abbrev S2048x256 : Shape := ⟨2, ![2048, 256]⟩

abbrev nBuf : Space → Nat
  | .hbm => 390
  | .vmem => 19
  | .smem => 0
  | _ => 0

abbrev hbmTy0_0 (i : Nat) : BufTy := match i % 128 with
  | 0 => ⟨S16x2048x512, .bf16⟩
  | 1 => ⟨S16x128x512, .bf16⟩
  | 2 => ⟨S32x256x256, .bf16⟩
  | 3 => ⟨S1x2x32x64, .f32⟩
  | 4 => ⟨S1x2x32x64, .f32⟩
  | 5 => ⟨S1x2x32, .f32⟩
  | 6 => ⟨S1x2x32x64x16, .f32⟩
  | 7 => ⟨S1x2x32x64x16, .f32⟩
  | 8 => ⟨S1x2x32x16x64, .f32⟩
  | 9 => ⟨S1x2x32x16x64, .f32⟩
  | 10 => ⟨S32x1, .f32⟩
  | 11 => ⟨S32x1, .f32⟩
  | 12 => ⟨S32x16, .f32⟩
  | 13 => ⟨S32x16, .f32⟩
  | 14 => ⟨S32x16, .f32⟩
  | 15 => ⟨S32x16, .f32⟩
  | 16 => ⟨S32x1, .f32⟩
  | 17 => ⟨S32x1, .f32⟩
  | 18 => ⟨S256, .i1⟩
  | 19 => ⟨S2x32x64, .f32⟩
  | 20 => ⟨S2x32x64, .f32⟩
  | 21 => ⟨S2x32, .f32⟩
  | 22 => ⟨S2x32x64x16, .f32⟩
  | 23 => ⟨S2x32x64x16, .f32⟩
  | 24 => ⟨S2x32x16x64, .f32⟩
  | 25 => ⟨S2x32x16x64, .f32⟩
  | 26 => ⟨S2x32, .f32⟩
  | 27 => ⟨S2x32x1, .f32⟩
  | 28 => ⟨S2x32x64, .f32⟩
  | 29 => ⟨S2x32x64, .f32⟩
  | 30 => ⟨S2x32x64, .f32⟩
  | 31 => ⟨S2x32x64, .f32⟩
  | 32 => ⟨S32x1x1, .f32⟩
  | 33 => ⟨S1x32x64, .f32⟩
  | 34 => ⟨S32x64, .f32⟩
  | 35 => ⟨S32x1x64, .f32⟩
  | 36 => ⟨S32x1x64, .f32⟩
  | 37 => ⟨S32x1x64, .f32⟩
  | 38 => ⟨S32x1x64, .f32⟩
  | 39 => ⟨S1x32x64, .f32⟩
  | 40 => ⟨S32x64, .f32⟩
  | 41 => ⟨S32x1x64, .f32⟩
  | 42 => ⟨S32x1x64, .f32⟩
  | 43 => ⟨S32x1x64, .f32⟩
  | 44 => ⟨S32x1x64, .f32⟩
  | 45 => ⟨S32x1x64, .f32⟩
  | 46 => ⟨S1x32x64, .f32⟩
  | 47 => ⟨S32x64, .f32⟩
  | 48 => ⟨S32x1x64, .f32⟩
  | 49 => ⟨S32x1x64, .f32⟩
  | 50 => ⟨S32x1x64, .f32⟩
  | 51 => ⟨S32x1x64, .f32⟩
  | 52 => ⟨S32x1x64, .f32⟩
  | 53 => ⟨S32x1x1, .f32⟩
  | 54 => ⟨S1x32x64, .f32⟩
  | 55 => ⟨S32x64, .f32⟩
  | 56 => ⟨S32x1x64, .f32⟩
  | 57 => ⟨S32x1x64, .f32⟩
  | 58 => ⟨S32x1x64, .f32⟩
  | 59 => ⟨S32x1x64, .f32⟩
  | 60 => ⟨S1x32x64, .f32⟩
  | 61 => ⟨S32x64, .f32⟩
  | 62 => ⟨S32x1x64, .f32⟩
  | 63 => ⟨S32x1x64, .f32⟩
  | 64 => ⟨S32x1x64, .f32⟩
  | 65 => ⟨S32x1x64, .f32⟩
  | 66 => ⟨S32x1x64, .f32⟩
  | 67 => ⟨S1x32x64, .f32⟩
  | 68 => ⟨S32x64, .f32⟩
  | 69 => ⟨S32x1x64, .f32⟩
  | 70 => ⟨S32x1x64, .f32⟩
  | 71 => ⟨S32x1x64, .f32⟩
  | 72 => ⟨S32x1x64, .f32⟩
  | 73 => ⟨S32x1x64, .f32⟩
  | 74 => ⟨S32x64, .f32⟩
  | 75 => ⟨S32x64, .f32⟩
  | 76 => ⟨S1x32x64, .f32⟩
  | 77 => ⟨S1x32x64, .f32⟩
  | 78 => ⟨S2x32x64, .f32⟩
  | 79 => ⟨S_, .f32⟩
  | 80 => ⟨S2x32x64, .f32⟩
  | 81 => ⟨S2x32x64, .f32⟩
  | 82 => ⟨S32x64, .f32⟩
  | 83 => ⟨S32x64, .f32⟩
  | 84 => ⟨S1x32x64, .f32⟩
  | 85 => ⟨S1x32x64, .f32⟩
  | 86 => ⟨S2x32x64, .f32⟩
  | 87 => ⟨S2x32x64, .f32⟩
  | 88 => ⟨S2x32x64, .f32⟩
  | 89 => ⟨S2x32x64, .f32⟩
  | 90 => ⟨S2x32x64, .f32⟩
  | 91 => ⟨S2x32x64, .f32⟩
  | 92 => ⟨S2x32x64, .f32⟩
  | 93 => ⟨S2x32x64, .f32⟩
  | 94 => ⟨S2x32x64, .f32⟩
  | 95 => ⟨S2x32x64, .f32⟩
  | 96 => ⟨S2x32x64, .f32⟩
  | 97 => ⟨S2x32x64, .f32⟩
  | 98 => ⟨S2x32x64x1, .f32⟩
  | 99 => ⟨S2x32x64x16, .f32⟩
  | 100 => ⟨S2x32x64x16, .f32⟩
  | 101 => ⟨S2x32x64x1, .f32⟩
  | 102 => ⟨S2x32x64x16, .f32⟩
  | 103 => ⟨S2x32x64x16, .f32⟩
  | 104 => ⟨S2x32x64x16, .f32⟩
  | 105 => ⟨S2x32x64x1, .f32⟩
  | 106 => ⟨S2x32x64x16, .f32⟩
  | 107 => ⟨S2x32x64x16, .f32⟩
  | 108 => ⟨S2x32x64x1, .f32⟩
  | 109 => ⟨S2x32x64x16, .f32⟩
  | 110 => ⟨S2x32x64x16, .f32⟩
  | 111 => ⟨S2x32x64x16, .f32⟩
  | 112 => ⟨S32x16x1, .f32⟩
  | 113 => ⟨S1x32x64, .f32⟩
  | 114 => ⟨S32x64, .f32⟩
  | 115 => ⟨S32x1x64, .f32⟩
  | 116 => ⟨S32x16x64, .f32⟩
  | 117 => ⟨S32x16x64, .f32⟩
  | 118 => ⟨S32x16x64, .f32⟩
  | 119 => ⟨S32x16x64, .f32⟩
  | 120 => ⟨S1x32x64, .f32⟩
  | 121 => ⟨S32x64, .f32⟩
  | 122 => ⟨S32x1x64, .f32⟩
  | 123 => ⟨S32x16x64, .f32⟩
  | 124 => ⟨S32x16x64, .f32⟩
  | 125 => ⟨S32x16x64, .f32⟩
  | 126 => ⟨S32x16x64, .f32⟩
  | 127 => ⟨S32x16x64, .f32⟩
  | _ => ⟨S16x2048x512, .bf16⟩

abbrev hbmTy0_1 (i : Nat) : BufTy := match i % 128 with
  | 0 => ⟨S1x32x64, .f32⟩
  | 1 => ⟨S32x64, .f32⟩
  | 2 => ⟨S32x1x64, .f32⟩
  | 3 => ⟨S32x16x64, .f32⟩
  | 4 => ⟨S32x16x64, .f32⟩
  | 5 => ⟨S32x16x64, .f32⟩
  | 6 => ⟨S32x16x64, .f32⟩
  | 7 => ⟨S32x16x64, .f32⟩
  | 8 => ⟨S1x32x64x16, .f32⟩
  | 9 => ⟨S32x64x16, .f32⟩
  | 10 => ⟨S32x16x64, .f32⟩
  | 11 => ⟨S32x1x16x64, .f32⟩
  | 12 => ⟨S1x32x64x16, .f32⟩
  | 13 => ⟨S32x64x16, .f32⟩
  | 14 => ⟨S32x16x64, .f32⟩
  | 15 => ⟨S32x1x16x64, .f32⟩
  | 16 => ⟨S32x16x1x64, .f32⟩
  | 17 => ⟨S32x16x16x64, .f32⟩
  | 18 => ⟨S32x16x16x64, .f32⟩
  | 19 => ⟨S32x16x16x64, .f32⟩
  | 20 => ⟨S32x16x1x64, .f32⟩
  | 21 => ⟨S32x16x16x64, .f32⟩
  | 22 => ⟨S32x16x16x64, .f32⟩
  | 23 => ⟨S32x16x16x64, .f32⟩
  | 24 => ⟨S32x16x16x64, .f32⟩
  | 25 => ⟨S32x16x1x64, .f32⟩
  | 26 => ⟨S32x16x16x64, .f32⟩
  | 27 => ⟨S32x16x16x64, .f32⟩
  | 28 => ⟨S32x16x16x64, .f32⟩
  | 29 => ⟨S32x16x1x64, .f32⟩
  | 30 => ⟨S32x16x16x64, .f32⟩
  | 31 => ⟨S32x16x16x64, .f32⟩
  | 32 => ⟨S32x16x16x64, .f32⟩
  | 33 => ⟨S32x16x16x64, .f32⟩
  | 34 => ⟨S32x256x64, .f32⟩
  | 35 => ⟨S32x256x64, .f32⟩
  | 36 => ⟨S32x16x1, .f32⟩
  | 37 => ⟨S1x32x64, .f32⟩
  | 38 => ⟨S32x64, .f32⟩
  | 39 => ⟨S32x1x64, .f32⟩
  | 40 => ⟨S32x16x64, .f32⟩
  | 41 => ⟨S32x16x64, .f32⟩
  | 42 => ⟨S32x16x64, .f32⟩
  | 43 => ⟨S32x16x64, .f32⟩
  | 44 => ⟨S1x32x64, .f32⟩
  | 45 => ⟨S32x64, .f32⟩
  | 46 => ⟨S32x1x64, .f32⟩
  | 47 => ⟨S32x16x64, .f32⟩
  | 48 => ⟨S32x16x64, .f32⟩
  | 49 => ⟨S32x16x64, .f32⟩
  | 50 => ⟨S32x16x64, .f32⟩
  | 51 => ⟨S32x16x64, .f32⟩
  | 52 => ⟨S1x32x64, .f32⟩
  | 53 => ⟨S32x64, .f32⟩
  | 54 => ⟨S32x1x64, .f32⟩
  | 55 => ⟨S32x16x64, .f32⟩
  | 56 => ⟨S32x16x64, .f32⟩
  | 57 => ⟨S32x16x64, .f32⟩
  | 58 => ⟨S32x16x64, .f32⟩
  | 59 => ⟨S32x16x64, .f32⟩
  | 60 => ⟨S1x32x64x16, .f32⟩
  | 61 => ⟨S32x64x16, .f32⟩
  | 62 => ⟨S32x16x64, .f32⟩
  | 63 => ⟨S32x1x16x64, .f32⟩
  | 64 => ⟨S1x32x64x16, .f32⟩
  | 65 => ⟨S32x64x16, .f32⟩
  | 66 => ⟨S32x16x64, .f32⟩
  | 67 => ⟨S32x1x16x64, .f32⟩
  | 68 => ⟨S32x16x1x64, .f32⟩
  | 69 => ⟨S32x16x16x64, .f32⟩
  | 70 => ⟨S32x16x16x64, .f32⟩
  | 71 => ⟨S32x16x16x64, .f32⟩
  | 72 => ⟨S32x16x1x64, .f32⟩
  | 73 => ⟨S32x16x16x64, .f32⟩
  | 74 => ⟨S32x16x16x64, .f32⟩
  | 75 => ⟨S32x16x16x64, .f32⟩
  | 76 => ⟨S32x16x16x64, .f32⟩
  | 77 => ⟨S32x16x1x64, .f32⟩
  | 78 => ⟨S32x16x16x64, .f32⟩
  | 79 => ⟨S32x16x16x64, .f32⟩
  | 80 => ⟨S32x16x16x64, .f32⟩
  | 81 => ⟨S32x16x1x64, .f32⟩
  | 82 => ⟨S32x16x16x64, .f32⟩
  | 83 => ⟨S32x16x16x64, .f32⟩
  | 84 => ⟨S32x16x16x64, .f32⟩
  | 85 => ⟨S32x16x16x64, .f32⟩
  | 86 => ⟨S32x256x64, .f32⟩
  | 87 => ⟨S32x256x64, .f32⟩
  | 88 => ⟨S32x256x256, .f32⟩
  | 89 => ⟨S32x16x1, .f32⟩
  | 90 => ⟨S1x32x64, .f32⟩
  | 91 => ⟨S32x64, .f32⟩
  | 92 => ⟨S32x1x64, .f32⟩
  | 93 => ⟨S32x16x64, .f32⟩
  | 94 => ⟨S32x16x64, .f32⟩
  | 95 => ⟨S32x16x64, .f32⟩
  | 96 => ⟨S32x16x64, .f32⟩
  | 97 => ⟨S1x32x64, .f32⟩
  | 98 => ⟨S32x64, .f32⟩
  | 99 => ⟨S32x1x64, .f32⟩
  | 100 => ⟨S32x16x64, .f32⟩
  | 101 => ⟨S32x16x64, .f32⟩
  | 102 => ⟨S32x16x64, .f32⟩
  | 103 => ⟨S32x16x64, .f32⟩
  | 104 => ⟨S32x16x64, .f32⟩
  | 105 => ⟨S1x32x64, .f32⟩
  | 106 => ⟨S32x64, .f32⟩
  | 107 => ⟨S32x1x64, .f32⟩
  | 108 => ⟨S32x16x64, .f32⟩
  | 109 => ⟨S32x16x64, .f32⟩
  | 110 => ⟨S32x16x64, .f32⟩
  | 111 => ⟨S32x16x64, .f32⟩
  | 112 => ⟨S32x16x64, .f32⟩
  | 113 => ⟨S1x32x16x64, .f32⟩
  | 114 => ⟨S32x16x64, .f32⟩
  | 115 => ⟨S32x64x16, .f32⟩
  | 116 => ⟨S32x64x1x16, .f32⟩
  | 117 => ⟨S1x32x16x64, .f32⟩
  | 118 => ⟨S32x16x64, .f32⟩
  | 119 => ⟨S32x64x16, .f32⟩
  | 120 => ⟨S32x64x1x16, .f32⟩
  | 121 => ⟨S32x64x16, .f32⟩
  | 122 => ⟨S32x64x16x1, .f32⟩
  | 123 => ⟨S32x64x16, .f32⟩
  | 124 => ⟨S32x64x16x1, .f32⟩
  | 125 => ⟨S32x64x16x16, .f32⟩
  | 126 => ⟨S32x64x16x16, .f32⟩
  | 127 => ⟨S32x64x16x16, .f32⟩
  | _ => ⟨S16x2048x512, .bf16⟩

abbrev hbmTy0_2 (i : Nat) : BufTy := match i % 128 with
  | 0 => ⟨S32x64x16x16, .f32⟩
  | 1 => ⟨S32x64x16x16, .f32⟩
  | 2 => ⟨S32x64x16x16, .f32⟩
  | 3 => ⟨S32x64x16x16, .f32⟩
  | 4 => ⟨S32x64x16x16, .f32⟩
  | 5 => ⟨S32x64x16x16, .f32⟩
  | 6 => ⟨S32x64x16x16, .f32⟩
  | 7 => ⟨S32x64x16x16, .f32⟩
  | 8 => ⟨S32x64x16x16, .f32⟩
  | 9 => ⟨S32x64x16x16, .f32⟩
  | 10 => ⟨S32x64x16x16, .f32⟩
  | 11 => ⟨S32x64x256, .f32⟩
  | 12 => ⟨S32x64x256, .f32⟩
  | 13 => ⟨S32x64x256, .f32⟩
  | 14 => ⟨S32x16x1, .f32⟩
  | 15 => ⟨S1x32x64, .f32⟩
  | 16 => ⟨S32x64, .f32⟩
  | 17 => ⟨S32x1x64, .f32⟩
  | 18 => ⟨S32x16x64, .f32⟩
  | 19 => ⟨S32x16x64, .f32⟩
  | 20 => ⟨S32x16x64, .f32⟩
  | 21 => ⟨S32x16x64, .f32⟩
  | 22 => ⟨S1x32x64, .f32⟩
  | 23 => ⟨S32x64, .f32⟩
  | 24 => ⟨S32x1x64, .f32⟩
  | 25 => ⟨S32x16x64, .f32⟩
  | 26 => ⟨S32x16x64, .f32⟩
  | 27 => ⟨S32x16x64, .f32⟩
  | 28 => ⟨S32x16x64, .f32⟩
  | 29 => ⟨S32x16x64, .f32⟩
  | 30 => ⟨S1x32x64, .f32⟩
  | 31 => ⟨S32x64, .f32⟩
  | 32 => ⟨S32x1x64, .f32⟩
  | 33 => ⟨S32x16x64, .f32⟩
  | 34 => ⟨S32x16x64, .f32⟩
  | 35 => ⟨S32x16x64, .f32⟩
  | 36 => ⟨S32x16x64, .f32⟩
  | 37 => ⟨S32x16x64, .f32⟩
  | 38 => ⟨S1x32x16x64, .f32⟩
  | 39 => ⟨S32x16x64, .f32⟩
  | 40 => ⟨S32x64x16, .f32⟩
  | 41 => ⟨S32x64x1x16, .f32⟩
  | 42 => ⟨S1x32x16x64, .f32⟩
  | 43 => ⟨S32x16x64, .f32⟩
  | 44 => ⟨S32x64x16, .f32⟩
  | 45 => ⟨S32x64x1x16, .f32⟩
  | 46 => ⟨S32x64x16, .f32⟩
  | 47 => ⟨S32x64x16x1, .f32⟩
  | 48 => ⟨S32x64x16, .f32⟩
  | 49 => ⟨S32x64x16x1, .f32⟩
  | 50 => ⟨S32x64x16x16, .f32⟩
  | 51 => ⟨S32x64x16x16, .f32⟩
  | 52 => ⟨S32x64x16x16, .f32⟩
  | 53 => ⟨S32x64x16x16, .f32⟩
  | 54 => ⟨S32x64x16x16, .f32⟩
  | 55 => ⟨S32x64x16x16, .f32⟩
  | 56 => ⟨S32x64x16x16, .f32⟩
  | 57 => ⟨S32x64x16x16, .f32⟩
  | 58 => ⟨S32x64x16x16, .f32⟩
  | 59 => ⟨S32x64x16x16, .f32⟩
  | 60 => ⟨S32x64x16x16, .f32⟩
  | 61 => ⟨S32x64x16x16, .f32⟩
  | 62 => ⟨S32x64x16x16, .f32⟩
  | 63 => ⟨S32x64x16x16, .f32⟩
  | 64 => ⟨S32x64x256, .f32⟩
  | 65 => ⟨S32x64x256, .f32⟩
  | 66 => ⟨S32x64x256, .f32⟩
  | 67 => ⟨S32x256x256, .f32⟩
  | 68 => ⟨S32x1x1, .f32⟩
  | 69 => ⟨S1x32x64, .f32⟩
  | 70 => ⟨S32x64, .f32⟩
  | 71 => ⟨S32x1x64, .f32⟩
  | 72 => ⟨S32x1x64, .f32⟩
  | 73 => ⟨S32x1x64, .f32⟩
  | 74 => ⟨S32x1x64, .f32⟩
  | 75 => ⟨S1x32x64, .f32⟩
  | 76 => ⟨S32x64, .f32⟩
  | 77 => ⟨S32x1x64, .f32⟩
  | 78 => ⟨S32x1x64, .f32⟩
  | 79 => ⟨S32x1x64, .f32⟩
  | 80 => ⟨S32x1x64, .f32⟩
  | 81 => ⟨S32x1x64, .f32⟩
  | 82 => ⟨S1x32x64, .f32⟩
  | 83 => ⟨S32x64, .f32⟩
  | 84 => ⟨S32x1x64, .f32⟩
  | 85 => ⟨S32x1x64, .f32⟩
  | 86 => ⟨S32x1x64, .f32⟩
  | 87 => ⟨S32x1x64, .f32⟩
  | 88 => ⟨S32x1x64, .f32⟩
  | 89 => ⟨S32x1x1, .f32⟩
  | 90 => ⟨S1x32x64, .f32⟩
  | 91 => ⟨S32x64, .f32⟩
  | 92 => ⟨S32x1x64, .f32⟩
  | 93 => ⟨S32x1x64, .f32⟩
  | 94 => ⟨S32x1x64, .f32⟩
  | 95 => ⟨S32x1x64, .f32⟩
  | 96 => ⟨S1x32x64, .f32⟩
  | 97 => ⟨S32x64, .f32⟩
  | 98 => ⟨S32x1x64, .f32⟩
  | 99 => ⟨S32x1x64, .f32⟩
  | 100 => ⟨S32x1x64, .f32⟩
  | 101 => ⟨S32x1x64, .f32⟩
  | 102 => ⟨S32x1x64, .f32⟩
  | 103 => ⟨S1x32x64, .f32⟩
  | 104 => ⟨S32x64, .f32⟩
  | 105 => ⟨S32x1x64, .f32⟩
  | 106 => ⟨S32x1x64, .f32⟩
  | 107 => ⟨S32x1x64, .f32⟩
  | 108 => ⟨S32x1x64, .f32⟩
  | 109 => ⟨S32x1x64, .f32⟩
  | 110 => ⟨S32x64, .f32⟩
  | 111 => ⟨S32x64, .f32⟩
  | 112 => ⟨S32x128, .f32⟩
  | 113 => ⟨S32x64, .f32⟩
  | 114 => ⟨S32x64, .f32⟩
  | 115 => ⟨S32x128, .f32⟩
  | 116 => ⟨S32x1x128, .f32⟩
  | 117 => ⟨S32x1x128, .f32⟩
  | 118 => ⟨S32x2x128, .f32⟩
  | 119 => ⟨S1x256x1, .i1⟩
  | 120 => ⟨S_, .f32⟩
  | 121 => ⟨S_, .f32⟩
  | 122 => ⟨S32x256x256, .i1⟩
  | 123 => ⟨S32x256x256, .f32⟩
  | 124 => ⟨S32x256x256, .f32⟩
  | 125 => ⟨S32x256x256, .bf16⟩
  | 126 => ⟨S_, .f32⟩
  | 127 => ⟨S_, .f32⟩
  | _ => ⟨S16x2048x512, .bf16⟩

abbrev hbmTy0_3 (i : Nat) : BufTy := match i % 128 with
  | 0 => ⟨S32x256x256, .i1⟩
  | 1 => ⟨S32x256x256, .f32⟩
  | 2 => ⟨S32x256x256, .f32⟩
  | 3 => ⟨S32x256x256, .bf16⟩
  | 4 => ⟨S32x256x256, .bf16⟩
  | 5 => ⟨S16x2048x512, .bf16⟩
  | _ => ⟨S16x2048x512, .bf16⟩

abbrev hbmTy (i : Nat) : BufTy := match i / 128 with
  | 0 => hbmTy0_0 i
  | 1 => hbmTy0_1 i
  | 2 => hbmTy0_2 i
  | 3 => hbmTy0_3 i
  | _ => ⟨S16x2048x512, .bf16⟩

abbrev bufTy : (tb : Table) → Fin (tcTables nBuf tb) → BufTy
  | .hbm, ⟨i, _⟩ => hbmTy i
  | .local _ .vmem, ⟨0, _⟩ => ⟨S16x2048x128, .bf16⟩
  | .local _ .vmem, ⟨1, _⟩ => ⟨S16x2048x128, .bf16⟩
  | .local _ .vmem, ⟨2, _⟩ => ⟨S16x128x128, .bf16⟩
  | .local _ .vmem, ⟨3, _⟩ => ⟨S16x128x128, .bf16⟩
  | .local _ .vmem, ⟨4, _⟩ => ⟨S8x256x256, .bf16⟩
  | .local _ .vmem, ⟨5, _⟩ => ⟨S8x256x256, .bf16⟩
  | .local _ .vmem, ⟨6, _⟩ => ⟨S8x256x256, .bf16⟩
  | .local _ .vmem, ⟨7, _⟩ => ⟨S8x256x256, .bf16⟩
  | .local _ .vmem, ⟨8, _⟩ => ⟨S8x256x256, .bf16⟩
  | .local _ .vmem, ⟨9, _⟩ => ⟨S8x256x256, .bf16⟩
  | .local _ .vmem, ⟨10, _⟩ => ⟨S8x256x256, .bf16⟩
  | .local _ .vmem, ⟨11, _⟩ => ⟨S8x256x256, .bf16⟩
  | .local _ .vmem, ⟨12, _⟩ => ⟨S8x2x128, .f32⟩
  | .local _ .vmem, ⟨13, _⟩ => ⟨S8x2x128, .f32⟩
  | .local _ .vmem, ⟨14, _⟩ => ⟨S16x2048x128, .bf16⟩
  | .local _ .vmem, ⟨15, _⟩ => ⟨S8x2176x256, .bf16⟩
  | .local _ .vmem, ⟨16, _⟩ => ⟨S2x2176x256, .f32⟩
  | .local _ .vmem, ⟨17, _⟩ => ⟨S2x2048x256, .f32⟩
  | .local _ .vmem, ⟨18, _⟩ => ⟨S2x2048x256, .f32⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_cst_1 : Ref sig .tc := ⟨.hbm, 12, rfl⟩
abbrev main_cst_2 : Ref sig .tc := ⟨.hbm, 13, rfl⟩
abbrev main_cst_3 : Ref sig .tc := ⟨.hbm, 14, rfl⟩
abbrev main_cst_4 : Ref sig .tc := ⟨.hbm, 15, rfl⟩
abbrev main_cst_5 : Ref sig .tc := ⟨.hbm, 16, rfl⟩
abbrev main_cst_6 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_7 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_v221 : Ref sig .tc := ⟨.hbm, 241, rfl⟩
abbrev main_v222 : Ref sig .tc := ⟨.hbm, 242, rfl⟩
abbrev main_v223 : Ref sig .tc := ⟨.hbm, 243, rfl⟩
abbrev main_v224 : Ref sig .tc := ⟨.hbm, 244, rfl⟩
abbrev main_v225 : Ref sig .tc := ⟨.hbm, 245, rfl⟩
abbrev main_v226 : Ref sig .tc := ⟨.hbm, 246, rfl⟩
abbrev main_v227 : Ref sig .tc := ⟨.hbm, 247, rfl⟩
abbrev main_v228 : Ref sig .tc := ⟨.hbm, 248, rfl⟩
abbrev main_v229 : Ref sig .tc := ⟨.hbm, 249, rfl⟩
abbrev main_v230 : Ref sig .tc := ⟨.hbm, 250, rfl⟩
abbrev main_v231 : Ref sig .tc := ⟨.hbm, 251, rfl⟩
abbrev main_v232 : Ref sig .tc := ⟨.hbm, 252, rfl⟩
abbrev main_v233 : Ref sig .tc := ⟨.hbm, 253, rfl⟩
abbrev main_v234 : Ref sig .tc := ⟨.hbm, 254, rfl⟩
abbrev main_v235 : Ref sig .tc := ⟨.hbm, 255, rfl⟩
abbrev main_v236 : Ref sig .tc := ⟨.hbm, 256, rfl⟩
abbrev main_v237 : Ref sig .tc := ⟨.hbm, 257, rfl⟩
abbrev main_v238 : Ref sig .tc := ⟨.hbm, 258, rfl⟩
abbrev main_v239 : Ref sig .tc := ⟨.hbm, 259, rfl⟩
abbrev main_v240 : Ref sig .tc := ⟨.hbm, 260, rfl⟩
abbrev main_v241 : Ref sig .tc := ⟨.hbm, 261, rfl⟩
abbrev main_v242 : Ref sig .tc := ⟨.hbm, 262, rfl⟩
abbrev main_v243 : Ref sig .tc := ⟨.hbm, 263, rfl⟩
abbrev main_v244 : Ref sig .tc := ⟨.hbm, 264, rfl⟩
abbrev main_v245 : Ref sig .tc := ⟨.hbm, 265, rfl⟩
abbrev main_v246 : Ref sig .tc := ⟨.hbm, 266, rfl⟩
abbrev main_v247 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_v251 : Ref sig .tc := ⟨.hbm, 271, rfl⟩
abbrev main_v252 : Ref sig .tc := ⟨.hbm, 272, rfl⟩
abbrev main_v253 : Ref sig .tc := ⟨.hbm, 273, rfl⟩
abbrev main_v254 : Ref sig .tc := ⟨.hbm, 274, rfl⟩
abbrev main_v255 : Ref sig .tc := ⟨.hbm, 275, rfl⟩
abbrev main_v256 : Ref sig .tc := ⟨.hbm, 276, rfl⟩
abbrev main_v257 : Ref sig .tc := ⟨.hbm, 277, rfl⟩
abbrev main_v258 : Ref sig .tc := ⟨.hbm, 278, rfl⟩
abbrev main_v259 : Ref sig .tc := ⟨.hbm, 279, rfl⟩
abbrev main_v260 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_v265 : Ref sig .tc := ⟨.hbm, 285, rfl⟩
abbrev main_v266 : Ref sig .tc := ⟨.hbm, 286, rfl⟩
abbrev main_v267 : Ref sig .tc := ⟨.hbm, 287, rfl⟩
abbrev main_v268 : Ref sig .tc := ⟨.hbm, 288, rfl⟩
abbrev main_v269 : Ref sig .tc := ⟨.hbm, 289, rfl⟩
abbrev main_v270 : Ref sig .tc := ⟨.hbm, 290, rfl⟩
abbrev main_v271 : Ref sig .tc := ⟨.hbm, 291, rfl⟩
abbrev main_v272 : Ref sig .tc := ⟨.hbm, 292, rfl⟩
abbrev main_v273 : Ref sig .tc := ⟨.hbm, 293, rfl⟩
abbrev main_v274 : Ref sig .tc := ⟨.hbm, 294, rfl⟩
abbrev main_v275 : Ref sig .tc := ⟨.hbm, 295, rfl⟩
abbrev main_v276 : Ref sig .tc := ⟨.hbm, 296, rfl⟩
abbrev main_v277 : Ref sig .tc := ⟨.hbm, 297, rfl⟩
abbrev main_v278 : Ref sig .tc := ⟨.hbm, 298, rfl⟩
abbrev main_v279 : Ref sig .tc := ⟨.hbm, 299, rfl⟩
abbrev main_v280 : Ref sig .tc := ⟨.hbm, 300, rfl⟩
abbrev main_v281 : Ref sig .tc := ⟨.hbm, 301, rfl⟩
abbrev main_v282 : Ref sig .tc := ⟨.hbm, 302, rfl⟩
abbrev main_v283 : Ref sig .tc := ⟨.hbm, 303, rfl⟩
abbrev main_v284 : Ref sig .tc := ⟨.hbm, 304, rfl⟩
abbrev main_v285 : Ref sig .tc := ⟨.hbm, 305, rfl⟩
abbrev main_v286 : Ref sig .tc := ⟨.hbm, 306, rfl⟩
abbrev main_v287 : Ref sig .tc := ⟨.hbm, 307, rfl⟩
abbrev main_v288 : Ref sig .tc := ⟨.hbm, 308, rfl⟩
abbrev main_v289 : Ref sig .tc := ⟨.hbm, 309, rfl⟩
abbrev main_v290 : Ref sig .tc := ⟨.hbm, 310, rfl⟩
abbrev main_v291 : Ref sig .tc := ⟨.hbm, 311, rfl⟩
abbrev main_v292 : Ref sig .tc := ⟨.hbm, 312, rfl⟩
abbrev main_v293 : Ref sig .tc := ⟨.hbm, 313, rfl⟩
abbrev main_v294 : Ref sig .tc := ⟨.hbm, 314, rfl⟩
abbrev main_v295 : Ref sig .tc := ⟨.hbm, 315, rfl⟩
abbrev main_v296 : Ref sig .tc := ⟨.hbm, 316, rfl⟩
abbrev main_v297 : Ref sig .tc := ⟨.hbm, 317, rfl⟩
abbrev main_v298 : Ref sig .tc := ⟨.hbm, 318, rfl⟩
abbrev main_v299 : Ref sig .tc := ⟨.hbm, 319, rfl⟩
abbrev main_v300 : Ref sig .tc := ⟨.hbm, 320, rfl⟩
abbrev main_v301 : Ref sig .tc := ⟨.hbm, 321, rfl⟩
abbrev main_v302 : Ref sig .tc := ⟨.hbm, 322, rfl⟩
abbrev main_v303 : Ref sig .tc := ⟨.hbm, 323, rfl⟩
abbrev main_v304 : Ref sig .tc := ⟨.hbm, 324, rfl⟩
abbrev main_v305 : Ref sig .tc := ⟨.hbm, 325, rfl⟩
abbrev main_v306 : Ref sig .tc := ⟨.hbm, 326, rfl⟩
abbrev main_v307 : Ref sig .tc := ⟨.hbm, 327, rfl⟩
abbrev main_v308 : Ref sig .tc := ⟨.hbm, 328, rfl⟩
abbrev main_v309 : Ref sig .tc := ⟨.hbm, 329, rfl⟩
abbrev main_v310 : Ref sig .tc := ⟨.hbm, 330, rfl⟩
abbrev main_v311 : Ref sig .tc := ⟨.hbm, 331, rfl⟩
abbrev main_v312 : Ref sig .tc := ⟨.hbm, 332, rfl⟩
abbrev main_v313 : Ref sig .tc := ⟨.hbm, 333, rfl⟩
abbrev main_v314 : Ref sig .tc := ⟨.hbm, 334, rfl⟩
abbrev main_v315 : Ref sig .tc := ⟨.hbm, 335, rfl⟩
abbrev main_v316 : Ref sig .tc := ⟨.hbm, 336, rfl⟩
abbrev main_v317 : Ref sig .tc := ⟨.hbm, 337, rfl⟩
abbrev main_v318 : Ref sig .tc := ⟨.hbm, 338, rfl⟩
abbrev main_v319 : Ref sig .tc := ⟨.hbm, 339, rfl⟩
abbrev main_v320 : Ref sig .tc := ⟨.hbm, 340, rfl⟩
abbrev main_v321 : Ref sig .tc := ⟨.hbm, 341, rfl⟩
abbrev main_v322 : Ref sig .tc := ⟨.hbm, 342, rfl⟩
abbrev main_v323 : Ref sig .tc := ⟨.hbm, 343, rfl⟩
abbrev main_v324 : Ref sig .tc := ⟨.hbm, 344, rfl⟩
abbrev main_v325 : Ref sig .tc := ⟨.hbm, 345, rfl⟩
abbrev main_v326 : Ref sig .tc := ⟨.hbm, 346, rfl⟩
abbrev main_v327 : Ref sig .tc := ⟨.hbm, 347, rfl⟩
abbrev main_v328 : Ref sig .tc := ⟨.hbm, 348, rfl⟩
abbrev main_v329 : Ref sig .tc := ⟨.hbm, 349, rfl⟩
abbrev main_v330 : Ref sig .tc := ⟨.hbm, 350, rfl⟩
abbrev main_v331 : Ref sig .tc := ⟨.hbm, 351, rfl⟩
abbrev main_v332 : Ref sig .tc := ⟨.hbm, 352, rfl⟩
abbrev main_v333 : Ref sig .tc := ⟨.hbm, 353, rfl⟩
abbrev main_v334 : Ref sig .tc := ⟨.hbm, 354, rfl⟩
abbrev main_v335 : Ref sig .tc := ⟨.hbm, 355, rfl⟩
abbrev main_v336 : Ref sig .tc := ⟨.hbm, 356, rfl⟩
abbrev main_v337 : Ref sig .tc := ⟨.hbm, 357, rfl⟩
abbrev main_v338 : Ref sig .tc := ⟨.hbm, 358, rfl⟩
abbrev main_v339 : Ref sig .tc := ⟨.hbm, 359, rfl⟩
abbrev main_v340 : Ref sig .tc := ⟨.hbm, 360, rfl⟩
abbrev main_v341 : Ref sig .tc := ⟨.hbm, 361, rfl⟩
abbrev main_v342 : Ref sig .tc := ⟨.hbm, 362, rfl⟩
abbrev main_v343 : Ref sig .tc := ⟨.hbm, 363, rfl⟩
abbrev main_v344 : Ref sig .tc := ⟨.hbm, 364, rfl⟩
abbrev main_v345 : Ref sig .tc := ⟨.hbm, 365, rfl⟩
abbrev main_v346 : Ref sig .tc := ⟨.hbm, 366, rfl⟩
abbrev main_v347 : Ref sig .tc := ⟨.hbm, 367, rfl⟩
abbrev main_v348 : Ref sig .tc := ⟨.hbm, 368, rfl⟩
abbrev main_v349 : Ref sig .tc := ⟨.hbm, 369, rfl⟩
abbrev main_v350 : Ref sig .tc := ⟨.hbm, 370, rfl⟩
abbrev main_v351 : Ref sig .tc := ⟨.hbm, 371, rfl⟩
abbrev main_v352 : Ref sig .tc := ⟨.hbm, 372, rfl⟩
abbrev main_v353 : Ref sig .tc := ⟨.hbm, 373, rfl⟩
abbrev main_v354 : Ref sig .tc := ⟨.hbm, 374, rfl⟩
abbrev main_v355 : Ref sig .tc := ⟨.hbm, 375, rfl⟩
abbrev main_cst_8 : Ref sig .tc := ⟨.hbm, 376, rfl⟩
abbrev main_call0_v0 : Ref sig .tc := ⟨.hbm, 377, rfl⟩
abbrev main_call0_v1 : Ref sig .tc := ⟨.hbm, 378, rfl⟩
abbrev main_call0_v2 : Ref sig .tc := ⟨.hbm, 379, rfl⟩
abbrev main_v356 : Ref sig .tc := ⟨.hbm, 380, rfl⟩
abbrev main_v357 : Ref sig .tc := ⟨.hbm, 381, rfl⟩
abbrev main_cst_9 : Ref sig .tc := ⟨.hbm, 382, rfl⟩
abbrev main_call1_v0 : Ref sig .tc := ⟨.hbm, 383, rfl⟩
abbrev main_call1_v1 : Ref sig .tc := ⟨.hbm, 384, rfl⟩
abbrev main_call1_v2 : Ref sig .tc := ⟨.hbm, 385, rfl⟩
abbrev main_v358 : Ref sig .tc := ⟨.hbm, 386, rfl⟩
abbrev main_v359 : Ref sig .tc := ⟨.hbm, 387, rfl⟩
abbrev main_v360 : Ref sig .tc := ⟨.hbm, 388, rfl⟩
abbrev main_v361 : Ref sig .tc := ⟨.hbm, 389, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![4], ![false]⟩

def k0_mult1 : BitVec 32 :=
  let c2048_i32 : BitVec 32 := 2048#32
  c2048_i32
def k0_mult2 : BitVec 32 :=
  let c2168_i32 : BitVec 32 := 2168#32
  c2168_i32
def k0_mult3 : BitVec 32 :=
  let c2048_i32_1027 : BitVec 32 := 2048#32
  c2048_i32_1027
def k0_mult4 : BitVec 32 :=
  let c2168_i32_1030 : BitVec 32 := 2168#32
  c2168_i32_1030
def k0_mult5 : BitVec 32 :=
  let c2056_i32 : BitVec 32 := 2056#32
  c2056_i32
def k0_mult6 : BitVec 32 :=
  let c2160_i32 : BitVec 32 := 2160#32
  c2160_i32
def k0_mult7 : BitVec 32 :=
  let c2056_i32_1037 : BitVec 32 := 2056#32
  c2056_i32_1037
def k0_mult8 : BitVec 32 :=
  let c2160_i32_1040 : BitVec 32 := 2160#32
  c2160_i32_1040
def k0_mult9 : BitVec 32 :=
  let c2064_i32 : BitVec 32 := 2064#32
  c2064_i32
def k0_mult10 : BitVec 32 :=
  let c2152_i32 : BitVec 32 := 2152#32
  c2152_i32
def k0_mult11 : BitVec 32 :=
  let c2064_i32_1047 : BitVec 32 := 2064#32
  c2064_i32_1047
def k0_mult12 : BitVec 32 :=
  let c2152_i32_1050 : BitVec 32 := 2152#32
  c2152_i32_1050
def k0_mult13 : BitVec 32 :=
  let c2072_i32 : BitVec 32 := 2072#32
  c2072_i32
def k0_mult14 : BitVec 32 :=
  let c2144_i32 : BitVec 32 := 2144#32
  c2144_i32
def k0_mult15 : BitVec 32 :=
  let c2072_i32_1057 : BitVec 32 := 2072#32
  c2072_i32_1057
def k0_mult16 : BitVec 32 :=
  let c2144_i32_1060 : BitVec 32 := 2144#32
  c2144_i32_1060
def k0_mult17 : BitVec 32 :=
  let c2080_i32 : BitVec 32 := 2080#32
  c2080_i32
def k0_mult18 : BitVec 32 :=
  let c2136_i32 : BitVec 32 := 2136#32
  c2136_i32
def k0_mult19 : BitVec 32 :=
  let c2080_i32_1067 : BitVec 32 := 2080#32
  c2080_i32_1067
def k0_mult20 : BitVec 32 :=
  let c2136_i32_1070 : BitVec 32 := 2136#32
  c2136_i32_1070
def k0_mult21 : BitVec 32 :=
  let c2088_i32 : BitVec 32 := 2088#32
  c2088_i32
def k0_mult22 : BitVec 32 :=
  let c2128_i32 : BitVec 32 := 2128#32
  c2128_i32
def k0_mult23 : BitVec 32 :=
  let c2088_i32_1077 : BitVec 32 := 2088#32
  c2088_i32_1077
def k0_mult24 : BitVec 32 :=
  let c2128_i32_1080 : BitVec 32 := 2128#32
  c2128_i32_1080
def k0_mult25 : BitVec 32 :=
  let c2096_i32 : BitVec 32 := 2096#32
  c2096_i32
def k0_mult26 : BitVec 32 :=
  let c2120_i32 : BitVec 32 := 2120#32
  c2120_i32
def k0_mult27 : BitVec 32 :=
  let c2096_i32_1087 : BitVec 32 := 2096#32
  c2096_i32_1087
def k0_mult28 : BitVec 32 :=
  let c2120_i32_1090 : BitVec 32 := 2120#32
  c2120_i32_1090
def k0_mult29 : BitVec 32 :=
  let c2104_i32 : BitVec 32 := 2104#32
  c2104_i32
def k0_mult30 : BitVec 32 :=
  let c2112_i32 : BitVec 32 := 2112#32
  c2112_i32
def k0_mult31 : BitVec 32 :=
  let c2104_i32_1097 : BitVec 32 := 2104#32
  c2104_i32_1097
def k0_mult32 : BitVec 32 :=
  let c2112_i32_1100 : BitVec 32 := 2112#32
  c2112_i32_1100
def k0_mult33 : BitVec 32 :=
  let c2112_i32_1103 : BitVec 32 := 2112#32
  c2112_i32_1103
def k0_mult34 : BitVec 32 :=
  let c2104_i32_1106 : BitVec 32 := 2104#32
  c2104_i32_1106
def k0_mult35 : BitVec 32 :=
  let c2112_i32_1109 : BitVec 32 := 2112#32
  c2112_i32_1109
def k0_mult36 : BitVec 32 :=
  let c2104_i32_1112 : BitVec 32 := 2104#32
  c2104_i32_1112
def k0_mult37 : BitVec 32 :=
  let c2120_i32_1115 : BitVec 32 := 2120#32
  c2120_i32_1115
def k0_mult38 : BitVec 32 :=
  let c2096_i32_1118 : BitVec 32 := 2096#32
  c2096_i32_1118
def k0_mult39 : BitVec 32 :=
  let c2120_i32_1121 : BitVec 32 := 2120#32
  c2120_i32_1121
def k0_mult40 : BitVec 32 :=
  let c2096_i32_1124 : BitVec 32 := 2096#32
  c2096_i32_1124
def k0_mult41 : BitVec 32 :=
  let c2128_i32_1127 : BitVec 32 := 2128#32
  c2128_i32_1127
def k0_mult42 : BitVec 32 :=
  let c2088_i32_1130 : BitVec 32 := 2088#32
  c2088_i32_1130
def k0_mult43 : BitVec 32 :=
  let c2128_i32_1133 : BitVec 32 := 2128#32
  c2128_i32_1133
def k0_mult44 : BitVec 32 :=
  let c2088_i32_1136 : BitVec 32 := 2088#32
  c2088_i32_1136
def k0_mult45 : BitVec 32 :=
  let c2136_i32_1139 : BitVec 32 := 2136#32
  c2136_i32_1139
def k0_mult46 : BitVec 32 :=
  let c2080_i32_1142 : BitVec 32 := 2080#32
  c2080_i32_1142
def k0_mult47 : BitVec 32 :=
  let c2136_i32_1145 : BitVec 32 := 2136#32
  c2136_i32_1145
def k0_mult48 : BitVec 32 :=
  let c2080_i32_1148 : BitVec 32 := 2080#32
  c2080_i32_1148
def k0_mult49 : BitVec 32 :=
  let c2144_i32_1151 : BitVec 32 := 2144#32
  c2144_i32_1151
def k0_mult50 : BitVec 32 :=
  let c2072_i32_1154 : BitVec 32 := 2072#32
  c2072_i32_1154
def k0_mult51 : BitVec 32 :=
  let c2144_i32_1157 : BitVec 32 := 2144#32
  c2144_i32_1157
def k0_mult52 : BitVec 32 :=
  let c2072_i32_1160 : BitVec 32 := 2072#32
  c2072_i32_1160
def k0_mult53 : BitVec 32 :=
  let c2152_i32_1163 : BitVec 32 := 2152#32
  c2152_i32_1163
def k0_mult54 : BitVec 32 :=
  let c2064_i32_1166 : BitVec 32 := 2064#32
  c2064_i32_1166
def k0_mult55 : BitVec 32 :=
  let c2152_i32_1169 : BitVec 32 := 2152#32
  c2152_i32_1169
def k0_mult56 : BitVec 32 :=
  let c2064_i32_1172 : BitVec 32 := 2064#32
  c2064_i32_1172
def k0_mult57 : BitVec 32 :=
  let c2160_i32_1175 : BitVec 32 := 2160#32
  c2160_i32_1175
def k0_mult58 : BitVec 32 :=
  let c2056_i32_1178 : BitVec 32 := 2056#32
  c2056_i32_1178
def k0_mult59 : BitVec 32 :=
  let c2160_i32_1181 : BitVec 32 := 2160#32
  c2160_i32_1181
def k0_mult60 : BitVec 32 :=
  let c2056_i32_1184 : BitVec 32 := 2056#32
  c2056_i32_1184
def k0_mult61 : BitVec 32 :=
  let c2168_i32_1187 : BitVec 32 := 2168#32
  c2168_i32_1187
def k0_mult62 : BitVec 32 :=
  let c2048_i32_1190 : BitVec 32 := 2048#32
  c2048_i32_1190
def k0_mult63 : BitVec 32 :=
  let c2168_i32_1193 : BitVec 32 := 2168#32
  c2168_i32_1193
def k0_mult64 : BitVec 32 :=
  let c2048_i32_1196 : BitVec 32 := 2048#32
  c2048_i32_1196
@[reducible] def k0_t1_loop : Scf.Loop 32 :=
  let c0_i32_1199 : BitVec 32 := 0#32
  let c256_i32 : BitVec 32 := 256#32
  let v3329 : BitVec 32 := Scalar.addi c0_i32_1199 c256_i32
  let c1_i32_1200 : BitVec 32 := 1#32
  ⟨c0_i32_1199, v3329, c1_i32_1200⟩
def k0_mult65 (k0_t1 : Fin k0_t1_loop.trips) : BitVec 32 :=
  let c0_i32_1199 : BitVec 32 := 0#32
  let c1_i32_1200 : BitVec 32 := 1#32
  let arg13 : BitVec 32 := Scf.iv c0_i32_1199 c1_i32_1200 k0_t1
  let c8_i32 : BitVec 32 := 8#32
  let v8230 : BitVec 32 := Scalar.muli arg13 c8_i32
  v8230
def k0_off1 (k0_t1 : Fin k0_t1_loop.trips) : Fin 3 → Nat :=
  let c0_2993 : Index := 0#32
  let c0_i32_1199 : BitVec 32 := 0#32
  let c1_i32_1200 : BitVec 32 := 1#32
  let arg13 : BitVec 32 := Scf.iv c0_i32_1199 c1_i32_1200 k0_t1
  let c8_i32 : BitVec 32 := 8#32
  let v8230 : BitVec 32 := Scalar.muli arg13 c8_i32
  let v8231 : BitVec 32 := v8230
  let v8232 : Index := Scalar.indexCast v8231
  let c0_2994 : Index := 0#32
  ![0, v8232.toNat, 0]
def k0_mult66 (k0_t1 : Fin k0_t1_loop.trips) : BitVec 32 :=
  let c255_i32 : BitVec 32 := 255#32
  let c0_i32_1199 : BitVec 32 := 0#32
  let c1_i32_1200 : BitVec 32 := 1#32
  let arg13 : BitVec 32 := Scf.iv c0_i32_1199 c1_i32_1200 k0_t1
  let v8228 : BitVec 32 := Scalar.subi c255_i32 arg13
  let c8_i32_2995 : BitVec 32 := 8#32
  let v8236 : BitVec 32 := Scalar.muli v8228 c8_i32_2995
  v8236
def k0_off2 (k0_t1 : Fin k0_t1_loop.trips) : Fin 3 → Nat :=
  let c0_2996 : Index := 0#32
  let c255_i32 : BitVec 32 := 255#32
  let c0_i32_1199 : BitVec 32 := 0#32
  let c1_i32_1200 : BitVec 32 := 1#32
  let arg13 : BitVec 32 := Scf.iv c0_i32_1199 c1_i32_1200 k0_t1
  let v8228 : BitVec 32 := Scalar.subi c255_i32 arg13
  let c8_i32_2995 : BitVec 32 := 8#32
  let v8236 : BitVec 32 := Scalar.muli v8228 c8_i32_2995
  let v8237 : BitVec 32 := v8236
  let v8238 : Index := Scalar.indexCast v8237
  let c0_2997 : Index := 0#32
  ![0, v8238.toNat, 0]
def k0_mult67 (k0_t1 : Fin k0_t1_loop.trips) : BitVec 32 :=
  let c0_i32_1199 : BitVec 32 := 0#32
  let c1_i32_1200 : BitVec 32 := 1#32
  let arg13 : BitVec 32 := Scf.iv c0_i32_1199 c1_i32_1200 k0_t1
  let c8_i32_2998 : BitVec 32 := 8#32
  let v8243 : BitVec 32 := Scalar.muli arg13 c8_i32_2998
  v8243
def k0_off3 (k0_t1 : Fin k0_t1_loop.trips) : Fin 3 → Nat :=
  let c1_2999 : Index := 1#32
  let c0_i32_1199 : BitVec 32 := 0#32
  let c1_i32_1200 : BitVec 32 := 1#32
  let arg13 : BitVec 32 := Scf.iv c0_i32_1199 c1_i32_1200 k0_t1
  let c8_i32_2998 : BitVec 32 := 8#32
  let v8243 : BitVec 32 := Scalar.muli arg13 c8_i32_2998
  let v8244 : BitVec 32 := v8243
  let v8245 : Index := Scalar.indexCast v8244
  let c0_3000 : Index := 0#32
  ![1, v8245.toNat, 0]
def k0_mult68 (k0_t1 : Fin k0_t1_loop.trips) : BitVec 32 :=
  let c255_i32 : BitVec 32 := 255#32
  let c0_i32_1199 : BitVec 32 := 0#32
  let c1_i32_1200 : BitVec 32 := 1#32
  let arg13 : BitVec 32 := Scf.iv c0_i32_1199 c1_i32_1200 k0_t1
  let v8228 : BitVec 32 := Scalar.subi c255_i32 arg13
  let c8_i32_3001 : BitVec 32 := 8#32
  let v8249 : BitVec 32 := Scalar.muli v8228 c8_i32_3001
  v8249
def k0_off4 (k0_t1 : Fin k0_t1_loop.trips) : Fin 3 → Nat :=
  let c1_3002 : Index := 1#32
  let c255_i32 : BitVec 32 := 255#32
  let c0_i32_1199 : BitVec 32 := 0#32
  let c1_i32_1200 : BitVec 32 := 1#32
  let arg13 : BitVec 32 := Scf.iv c0_i32_1199 c1_i32_1200 k0_t1
  let v8228 : BitVec 32 := Scalar.subi c255_i32 arg13
  let c8_i32_3001 : BitVec 32 := 8#32
  let v8249 : BitVec 32 := Scalar.muli v8228 c8_i32_3001
  let v8250 : BitVec 32 := v8249
  let v8251 : Index := Scalar.indexCast v8250
  let c0_3003 : Index := 0#32
  ![1, v8251.toNat, 0]
def k0_mult69 (k0_t1 : Fin k0_t1_loop.trips) : BitVec 32 :=
  let c0_i32_1199 : BitVec 32 := 0#32
  let c1_i32_1200 : BitVec 32 := 1#32
  let arg13 : BitVec 32 := Scf.iv c0_i32_1199 c1_i32_1200 k0_t1
  let c8_i32_3004 : BitVec 32 := 8#32
  let v8255 : BitVec 32 := Scalar.muli arg13 c8_i32_3004
  v8255
def k0_off5 (k0_t1 : Fin k0_t1_loop.trips) : Fin 3 → Nat :=
  let c0_3005 : Index := 0#32
  let c0_i32_1199 : BitVec 32 := 0#32
  let c1_i32_1200 : BitVec 32 := 1#32
  let arg13 : BitVec 32 := Scf.iv c0_i32_1199 c1_i32_1200 k0_t1
  let c8_i32_3004 : BitVec 32 := 8#32
  let v8255 : BitVec 32 := Scalar.muli arg13 c8_i32_3004
  let v8256 : BitVec 32 := v8255
  let v8257 : Index := Scalar.indexCast v8256
  let c0_3006 : Index := 0#32
  ![0, v8257.toNat, 0]
def k0_mult70 (k0_t1 : Fin k0_t1_loop.trips) : BitVec 32 :=
  let c255_i32 : BitVec 32 := 255#32
  let c0_i32_1199 : BitVec 32 := 0#32
  let c1_i32_1200 : BitVec 32 := 1#32
  let arg13 : BitVec 32 := Scf.iv c0_i32_1199 c1_i32_1200 k0_t1
  let v8228 : BitVec 32 := Scalar.subi c255_i32 arg13
  let c8_i32_3007 : BitVec 32 := 8#32
  let v8260 : BitVec 32 := Scalar.muli v8228 c8_i32_3007
  v8260
def k0_off6 (k0_t1 : Fin k0_t1_loop.trips) : Fin 3 → Nat :=
  let c0_3008 : Index := 0#32
  let c255_i32 : BitVec 32 := 255#32
  let c0_i32_1199 : BitVec 32 := 0#32
  let c1_i32_1200 : BitVec 32 := 1#32
  let arg13 : BitVec 32 := Scf.iv c0_i32_1199 c1_i32_1200 k0_t1
  let v8228 : BitVec 32 := Scalar.subi c255_i32 arg13
  let c8_i32_3007 : BitVec 32 := 8#32
  let v8260 : BitVec 32 := Scalar.muli v8228 c8_i32_3007
  let v8261 : BitVec 32 := v8260
  let v8262 : Index := Scalar.indexCast v8261
  let c0_3009 : Index := 0#32
  ![0, v8262.toNat, 0]
def k0_mult71 (k0_t1 : Fin k0_t1_loop.trips) : BitVec 32 :=
  let c0_i32_1199 : BitVec 32 := 0#32
  let c1_i32_1200 : BitVec 32 := 1#32
  let arg13 : BitVec 32 := Scf.iv c0_i32_1199 c1_i32_1200 k0_t1
  let c8_i32_3010 : BitVec 32 := 8#32
  let v8282 : BitVec 32 := Scalar.muli arg13 c8_i32_3010
  v8282
def k0_off7 (k0_t1 : Fin k0_t1_loop.trips) : Fin 3 → Nat :=
  let c1_3011 : Index := 1#32
  let c0_i32_1199 : BitVec 32 := 0#32
  let c1_i32_1200 : BitVec 32 := 1#32
  let arg13 : BitVec 32 := Scf.iv c0_i32_1199 c1_i32_1200 k0_t1
  let c8_i32_3010 : BitVec 32 := 8#32
  let v8282 : BitVec 32 := Scalar.muli arg13 c8_i32_3010
  let v8283 : BitVec 32 := v8282
  let v8284 : Index := Scalar.indexCast v8283
  let c0_3012 : Index := 0#32
  ![1, v8284.toNat, 0]
def k0_mult72 (k0_t1 : Fin k0_t1_loop.trips) : BitVec 32 :=
  let c255_i32 : BitVec 32 := 255#32
  let c0_i32_1199 : BitVec 32 := 0#32
  let c1_i32_1200 : BitVec 32 := 1#32
  let arg13 : BitVec 32 := Scf.iv c0_i32_1199 c1_i32_1200 k0_t1
  let v8228 : BitVec 32 := Scalar.subi c255_i32 arg13
  let c8_i32_3013 : BitVec 32 := 8#32
  let v8287 : BitVec 32 := Scalar.muli v8228 c8_i32_3013
  v8287
def k0_off8 (k0_t1 : Fin k0_t1_loop.trips) : Fin 3 → Nat :=
  let c1_3014 : Index := 1#32
  let c255_i32 : BitVec 32 := 255#32
  let c0_i32_1199 : BitVec 32 := 0#32
  let c1_i32_1200 : BitVec 32 := 1#32
  let arg13 : BitVec 32 := Scf.iv c0_i32_1199 c1_i32_1200 k0_t1
  let v8228 : BitVec 32 := Scalar.subi c255_i32 arg13
  let c8_i32_3013 : BitVec 32 := 8#32
  let v8287 : BitVec 32 := Scalar.muli v8228 c8_i32_3013
  let v8288 : BitVec 32 := v8287
  let v8289 : Index := Scalar.indexCast v8288
  let c0_3015 : Index := 0#32
  ![1, v8289.toNat, 0]
def k0_mult73 : BitVec 32 :=
  let c2048_i32_1291 : BitVec 32 := 2048#32
  c2048_i32_1291
def k0_mult74 : BitVec 32 :=
  let c2168_i32_1294 : BitVec 32 := 2168#32
  c2168_i32_1294
def k0_mult75 : BitVec 32 :=
  let c2048_i32_1297 : BitVec 32 := 2048#32
  c2048_i32_1297
def k0_mult76 : BitVec 32 :=
  let c2168_i32_1300 : BitVec 32 := 2168#32
  c2168_i32_1300
def k0_mult77 : BitVec 32 :=
  let c2056_i32_1303 : BitVec 32 := 2056#32
  c2056_i32_1303
def k0_mult78 : BitVec 32 :=
  let c2160_i32_1306 : BitVec 32 := 2160#32
  c2160_i32_1306
def k0_mult79 : BitVec 32 :=
  let c2056_i32_1309 : BitVec 32 := 2056#32
  c2056_i32_1309
def k0_mult80 : BitVec 32 :=
  let c2160_i32_1312 : BitVec 32 := 2160#32
  c2160_i32_1312
def k0_mult81 : BitVec 32 :=
  let c2064_i32_1315 : BitVec 32 := 2064#32
  c2064_i32_1315
def k0_mult82 : BitVec 32 :=
  let c2152_i32_1318 : BitVec 32 := 2152#32
  c2152_i32_1318
def k0_mult83 : BitVec 32 :=
  let c2064_i32_1321 : BitVec 32 := 2064#32
  c2064_i32_1321
def k0_mult84 : BitVec 32 :=
  let c2152_i32_1324 : BitVec 32 := 2152#32
  c2152_i32_1324
def k0_mult85 : BitVec 32 :=
  let c2072_i32_1327 : BitVec 32 := 2072#32
  c2072_i32_1327
def k0_mult86 : BitVec 32 :=
  let c2144_i32_1330 : BitVec 32 := 2144#32
  c2144_i32_1330
def k0_mult87 : BitVec 32 :=
  let c2072_i32_1333 : BitVec 32 := 2072#32
  c2072_i32_1333
def k0_mult88 : BitVec 32 :=
  let c2144_i32_1336 : BitVec 32 := 2144#32
  c2144_i32_1336
def k0_mult89 : BitVec 32 :=
  let c2080_i32_1339 : BitVec 32 := 2080#32
  c2080_i32_1339
def k0_mult90 : BitVec 32 :=
  let c2136_i32_1342 : BitVec 32 := 2136#32
  c2136_i32_1342
def k0_mult91 : BitVec 32 :=
  let c2080_i32_1345 : BitVec 32 := 2080#32
  c2080_i32_1345
def k0_mult92 : BitVec 32 :=
  let c2136_i32_1348 : BitVec 32 := 2136#32
  c2136_i32_1348
def k0_mult93 : BitVec 32 :=
  let c2088_i32_1351 : BitVec 32 := 2088#32
  c2088_i32_1351
def k0_mult94 : BitVec 32 :=
  let c2128_i32_1354 : BitVec 32 := 2128#32
  c2128_i32_1354
def k0_mult95 : BitVec 32 :=
  let c2088_i32_1357 : BitVec 32 := 2088#32
  c2088_i32_1357
def k0_mult96 : BitVec 32 :=
  let c2128_i32_1360 : BitVec 32 := 2128#32
  c2128_i32_1360
def k0_mult97 : BitVec 32 :=
  let c2096_i32_1363 : BitVec 32 := 2096#32
  c2096_i32_1363
def k0_mult98 : BitVec 32 :=
  let c2120_i32_1366 : BitVec 32 := 2120#32
  c2120_i32_1366
def k0_mult99 : BitVec 32 :=
  let c2096_i32_1369 : BitVec 32 := 2096#32
  c2096_i32_1369
def k0_mult100 : BitVec 32 :=
  let c2120_i32_1372 : BitVec 32 := 2120#32
  c2120_i32_1372
def k0_mult101 : BitVec 32 :=
  let c2104_i32_1375 : BitVec 32 := 2104#32
  c2104_i32_1375
def k0_mult102 : BitVec 32 :=
  let c2112_i32_1378 : BitVec 32 := 2112#32
  c2112_i32_1378
def k0_mult103 : BitVec 32 :=
  let c2104_i32_1381 : BitVec 32 := 2104#32
  c2104_i32_1381
def k0_mult104 : BitVec 32 :=
  let c2112_i32_1384 : BitVec 32 := 2112#32
  c2112_i32_1384
def k0_mult105 : BitVec 32 :=
  let c2112_i32_1387 : BitVec 32 := 2112#32
  c2112_i32_1387
def k0_mult106 : BitVec 32 :=
  let c2104_i32_1390 : BitVec 32 := 2104#32
  c2104_i32_1390
def k0_mult107 : BitVec 32 :=
  let c2112_i32_1393 : BitVec 32 := 2112#32
  c2112_i32_1393
def k0_mult108 : BitVec 32 :=
  let c2104_i32_1396 : BitVec 32 := 2104#32
  c2104_i32_1396
def k0_mult109 : BitVec 32 :=
  let c2120_i32_1399 : BitVec 32 := 2120#32
  c2120_i32_1399
def k0_mult110 : BitVec 32 :=
  let c2096_i32_1402 : BitVec 32 := 2096#32
  c2096_i32_1402
def k0_mult111 : BitVec 32 :=
  let c2120_i32_1405 : BitVec 32 := 2120#32
  c2120_i32_1405
def k0_mult112 : BitVec 32 :=
  let c2096_i32_1408 : BitVec 32 := 2096#32
  c2096_i32_1408
def k0_mult113 : BitVec 32 :=
  let c2128_i32_1411 : BitVec 32 := 2128#32
  c2128_i32_1411
def k0_mult114 : BitVec 32 :=
  let c2088_i32_1414 : BitVec 32 := 2088#32
  c2088_i32_1414
def k0_mult115 : BitVec 32 :=
  let c2128_i32_1417 : BitVec 32 := 2128#32
  c2128_i32_1417
def k0_mult116 : BitVec 32 :=
  let c2088_i32_1420 : BitVec 32 := 2088#32
  c2088_i32_1420
def k0_mult117 : BitVec 32 :=
  let c2136_i32_1423 : BitVec 32 := 2136#32
  c2136_i32_1423
def k0_mult118 : BitVec 32 :=
  let c2080_i32_1426 : BitVec 32 := 2080#32
  c2080_i32_1426
def k0_mult119 : BitVec 32 :=
  let c2136_i32_1429 : BitVec 32 := 2136#32
  c2136_i32_1429
def k0_mult120 : BitVec 32 :=
  let c2080_i32_1432 : BitVec 32 := 2080#32
  c2080_i32_1432
def k0_mult121 : BitVec 32 :=
  let c2144_i32_1435 : BitVec 32 := 2144#32
  c2144_i32_1435
def k0_mult122 : BitVec 32 :=
  let c2072_i32_1438 : BitVec 32 := 2072#32
  c2072_i32_1438
def k0_mult123 : BitVec 32 :=
  let c2144_i32_1441 : BitVec 32 := 2144#32
  c2144_i32_1441
def k0_mult124 : BitVec 32 :=
  let c2072_i32_1444 : BitVec 32 := 2072#32
  c2072_i32_1444
def k0_mult125 : BitVec 32 :=
  let c2152_i32_1447 : BitVec 32 := 2152#32
  c2152_i32_1447
def k0_mult126 : BitVec 32 :=
  let c2064_i32_1450 : BitVec 32 := 2064#32
  c2064_i32_1450
def k0_mult127 : BitVec 32 :=
  let c2152_i32_1453 : BitVec 32 := 2152#32
  c2152_i32_1453
def k0_mult128 : BitVec 32 :=
  let c2064_i32_1456 : BitVec 32 := 2064#32
  c2064_i32_1456
def k0_mult129 : BitVec 32 :=
  let c2160_i32_1459 : BitVec 32 := 2160#32
  c2160_i32_1459
def k0_mult130 : BitVec 32 :=
  let c2056_i32_1462 : BitVec 32 := 2056#32
  c2056_i32_1462
def k0_mult131 : BitVec 32 :=
  let c2160_i32_1465 : BitVec 32 := 2160#32
  c2160_i32_1465
def k0_mult132 : BitVec 32 :=
  let c2056_i32_1468 : BitVec 32 := 2056#32
  c2056_i32_1468
def k0_mult133 : BitVec 32 :=
  let c2168_i32_1471 : BitVec 32 := 2168#32
  c2168_i32_1471
def k0_mult134 : BitVec 32 :=
  let c2048_i32_1474 : BitVec 32 := 2048#32
  c2048_i32_1474
def k0_mult135 : BitVec 32 :=
  let c2168_i32_1477 : BitVec 32 := 2168#32
  c2168_i32_1477
def k0_mult136 : BitVec 32 :=
  let c2048_i32_1480 : BitVec 32 := 2048#32
  c2048_i32_1480
@[reducible] def k0_t2_loop : Scf.Loop 32 :=
  let c0_i32_1483 : BitVec 32 := 0#32
  let c256_i32_1484 : BitVec 32 := 256#32
  let v4228 : BitVec 32 := Scalar.addi c0_i32_1483 c256_i32_1484
  let c1_i32_1485 : BitVec 32 := 1#32
  ⟨c0_i32_1483, v4228, c1_i32_1485⟩
def k0_mult137 (k0_t2 : Fin k0_t2_loop.trips) : BitVec 32 :=
  let c0_i32_1483 : BitVec 32 := 0#32
  let c1_i32_1485 : BitVec 32 := 1#32
  let arg13 : BitVec 32 := Scf.iv c0_i32_1483 c1_i32_1485 k0_t2
  let c8_i32 : BitVec 32 := 8#32
  let v8230 : BitVec 32 := Scalar.muli arg13 c8_i32
  v8230
def k0_off9 (k0_t2 : Fin k0_t2_loop.trips) : Fin 3 → Nat :=
  let c0_2993 : Index := 0#32
  let c0_i32_1483 : BitVec 32 := 0#32
  let c1_i32_1485 : BitVec 32 := 1#32
  let arg13 : BitVec 32 := Scf.iv c0_i32_1483 c1_i32_1485 k0_t2
  let c8_i32 : BitVec 32 := 8#32
  let v8230 : BitVec 32 := Scalar.muli arg13 c8_i32
  let v8231 : BitVec 32 := v8230
  let v8232 : Index := Scalar.indexCast v8231
  let c0_2994 : Index := 0#32
  ![0, v8232.toNat, 0]
def k0_mult138 (k0_t2 : Fin k0_t2_loop.trips) : BitVec 32 :=
  let c255_i32 : BitVec 32 := 255#32
  let c0_i32_1483 : BitVec 32 := 0#32
  let c1_i32_1485 : BitVec 32 := 1#32
  let arg13 : BitVec 32 := Scf.iv c0_i32_1483 c1_i32_1485 k0_t2
  let v8228 : BitVec 32 := Scalar.subi c255_i32 arg13
  let c8_i32_2995 : BitVec 32 := 8#32
  let v8236 : BitVec 32 := Scalar.muli v8228 c8_i32_2995
  v8236
def k0_off10 (k0_t2 : Fin k0_t2_loop.trips) : Fin 3 → Nat :=
  let c0_2996 : Index := 0#32
  let c255_i32 : BitVec 32 := 255#32
  let c0_i32_1483 : BitVec 32 := 0#32
  let c1_i32_1485 : BitVec 32 := 1#32
  let arg13 : BitVec 32 := Scf.iv c0_i32_1483 c1_i32_1485 k0_t2
  let v8228 : BitVec 32 := Scalar.subi c255_i32 arg13
  let c8_i32_2995 : BitVec 32 := 8#32
  let v8236 : BitVec 32 := Scalar.muli v8228 c8_i32_2995
  let v8237 : BitVec 32 := v8236
  let v8238 : Index := Scalar.indexCast v8237
  let c0_2997 : Index := 0#32
  ![0, v8238.toNat, 0]
def k0_mult139 (k0_t2 : Fin k0_t2_loop.trips) : BitVec 32 :=
  let c0_i32_1483 : BitVec 32 := 0#32
  let c1_i32_1485 : BitVec 32 := 1#32
  let arg13 : BitVec 32 := Scf.iv c0_i32_1483 c1_i32_1485 k0_t2
  let c8_i32_2998 : BitVec 32 := 8#32
  let v8243 : BitVec 32 := Scalar.muli arg13 c8_i32_2998
  v8243
def k0_off11 (k0_t2 : Fin k0_t2_loop.trips) : Fin 3 → Nat :=
  let c1_2999 : Index := 1#32
  let c0_i32_1483 : BitVec 32 := 0#32
  let c1_i32_1485 : BitVec 32 := 1#32
  let arg13 : BitVec 32 := Scf.iv c0_i32_1483 c1_i32_1485 k0_t2
  let c8_i32_2998 : BitVec 32 := 8#32
  let v8243 : BitVec 32 := Scalar.muli arg13 c8_i32_2998
  let v8244 : BitVec 32 := v8243
  let v8245 : Index := Scalar.indexCast v8244
  let c0_3000 : Index := 0#32
  ![1, v8245.toNat, 0]
def k0_mult140 (k0_t2 : Fin k0_t2_loop.trips) : BitVec 32 :=
  let c255_i32 : BitVec 32 := 255#32
  let c0_i32_1483 : BitVec 32 := 0#32
  let c1_i32_1485 : BitVec 32 := 1#32
  let arg13 : BitVec 32 := Scf.iv c0_i32_1483 c1_i32_1485 k0_t2
  let v8228 : BitVec 32 := Scalar.subi c255_i32 arg13
  let c8_i32_3001 : BitVec 32 := 8#32
  let v8249 : BitVec 32 := Scalar.muli v8228 c8_i32_3001
  v8249
def k0_off12 (k0_t2 : Fin k0_t2_loop.trips) : Fin 3 → Nat :=
  let c1_3002 : Index := 1#32
  let c255_i32 : BitVec 32 := 255#32
  let c0_i32_1483 : BitVec 32 := 0#32
  let c1_i32_1485 : BitVec 32 := 1#32
  let arg13 : BitVec 32 := Scf.iv c0_i32_1483 c1_i32_1485 k0_t2
  let v8228 : BitVec 32 := Scalar.subi c255_i32 arg13
  let c8_i32_3001 : BitVec 32 := 8#32
  let v8249 : BitVec 32 := Scalar.muli v8228 c8_i32_3001
  let v8250 : BitVec 32 := v8249
  let v8251 : Index := Scalar.indexCast v8250
  let c0_3003 : Index := 0#32
  ![1, v8251.toNat, 0]
def k0_mult141 (k0_t2 : Fin k0_t2_loop.trips) : BitVec 32 :=
  let c0_i32_1483 : BitVec 32 := 0#32
  let c1_i32_1485 : BitVec 32 := 1#32
  let arg13 : BitVec 32 := Scf.iv c0_i32_1483 c1_i32_1485 k0_t2
  let c8_i32_3004 : BitVec 32 := 8#32
  let v8255 : BitVec 32 := Scalar.muli arg13 c8_i32_3004
  v8255
def k0_off13 (k0_t2 : Fin k0_t2_loop.trips) : Fin 3 → Nat :=
  let c0_3005 : Index := 0#32
  let c0_i32_1483 : BitVec 32 := 0#32
  let c1_i32_1485 : BitVec 32 := 1#32
  let arg13 : BitVec 32 := Scf.iv c0_i32_1483 c1_i32_1485 k0_t2
  let c8_i32_3004 : BitVec 32 := 8#32
  let v8255 : BitVec 32 := Scalar.muli arg13 c8_i32_3004
  let v8256 : BitVec 32 := v8255
  let v8257 : Index := Scalar.indexCast v8256
  let c0_3006 : Index := 0#32
  ![0, v8257.toNat, 0]
def k0_mult142 (k0_t2 : Fin k0_t2_loop.trips) : BitVec 32 :=
  let c255_i32 : BitVec 32 := 255#32
  let c0_i32_1483 : BitVec 32 := 0#32
  let c1_i32_1485 : BitVec 32 := 1#32
  let arg13 : BitVec 32 := Scf.iv c0_i32_1483 c1_i32_1485 k0_t2
  let v8228 : BitVec 32 := Scalar.subi c255_i32 arg13
  let c8_i32_3007 : BitVec 32 := 8#32
  let v8260 : BitVec 32 := Scalar.muli v8228 c8_i32_3007
  v8260
def k0_off14 (k0_t2 : Fin k0_t2_loop.trips) : Fin 3 → Nat :=
  let c0_3008 : Index := 0#32
  let c255_i32 : BitVec 32 := 255#32
  let c0_i32_1483 : BitVec 32 := 0#32
  let c1_i32_1485 : BitVec 32 := 1#32
  let arg13 : BitVec 32 := Scf.iv c0_i32_1483 c1_i32_1485 k0_t2
  let v8228 : BitVec 32 := Scalar.subi c255_i32 arg13
  let c8_i32_3007 : BitVec 32 := 8#32
  let v8260 : BitVec 32 := Scalar.muli v8228 c8_i32_3007
  let v8261 : BitVec 32 := v8260
  let v8262 : Index := Scalar.indexCast v8261
  let c0_3009 : Index := 0#32
  ![0, v8262.toNat, 0]
def k0_mult143 (k0_t2 : Fin k0_t2_loop.trips) : BitVec 32 :=
  let c0_i32_1483 : BitVec 32 := 0#32
  let c1_i32_1485 : BitVec 32 := 1#32
  let arg13 : BitVec 32 := Scf.iv c0_i32_1483 c1_i32_1485 k0_t2
  let c8_i32_3010 : BitVec 32 := 8#32
  let v8282 : BitVec 32 := Scalar.muli arg13 c8_i32_3010
  v8282
def k0_off15 (k0_t2 : Fin k0_t2_loop.trips) : Fin 3 → Nat :=
  let c1_3011 : Index := 1#32
  let c0_i32_1483 : BitVec 32 := 0#32
  let c1_i32_1485 : BitVec 32 := 1#32
  let arg13 : BitVec 32 := Scf.iv c0_i32_1483 c1_i32_1485 k0_t2
  let c8_i32_3010 : BitVec 32 := 8#32
  let v8282 : BitVec 32 := Scalar.muli arg13 c8_i32_3010
  let v8283 : BitVec 32 := v8282
  let v8284 : Index := Scalar.indexCast v8283
  let c0_3012 : Index := 0#32
  ![1, v8284.toNat, 0]
def k0_mult144 (k0_t2 : Fin k0_t2_loop.trips) : BitVec 32 :=
  let c255_i32 : BitVec 32 := 255#32
  let c0_i32_1483 : BitVec 32 := 0#32
  let c1_i32_1485 : BitVec 32 := 1#32
  let arg13 : BitVec 32 := Scf.iv c0_i32_1483 c1_i32_1485 k0_t2
  let v8228 : BitVec 32 := Scalar.subi c255_i32 arg13
  let c8_i32_3013 : BitVec 32 := 8#32
  let v8287 : BitVec 32 := Scalar.muli v8228 c8_i32_3013
  v8287
def k0_off16 (k0_t2 : Fin k0_t2_loop.trips) : Fin 3 → Nat :=
  let c1_3014 : Index := 1#32
  let c255_i32 : BitVec 32 := 255#32
  let c0_i32_1483 : BitVec 32 := 0#32
  let c1_i32_1485 : BitVec 32 := 1#32
  let arg13 : BitVec 32 := Scf.iv c0_i32_1483 c1_i32_1485 k0_t2
  let v8228 : BitVec 32 := Scalar.subi c255_i32 arg13
  let c8_i32_3013 : BitVec 32 := 8#32
  let v8287 : BitVec 32 := Scalar.muli v8228 c8_i32_3013
  let v8288 : BitVec 32 := v8287
  let v8289 : Index := Scalar.indexCast v8288
  let c0_3015 : Index := 0#32
  ![1, v8289.toNat, 0]
def k0_mult145 : BitVec 32 :=
  let c2048_i32_1576 : BitVec 32 := 2048#32
  c2048_i32_1576
def k0_mult146 : BitVec 32 :=
  let c2168_i32_1579 : BitVec 32 := 2168#32
  c2168_i32_1579
def k0_mult147 : BitVec 32 :=
  let c2048_i32_1582 : BitVec 32 := 2048#32
  c2048_i32_1582
def k0_mult148 : BitVec 32 :=
  let c2168_i32_1585 : BitVec 32 := 2168#32
  c2168_i32_1585
def k0_mult149 : BitVec 32 :=
  let c2056_i32_1588 : BitVec 32 := 2056#32
  c2056_i32_1588
def k0_mult150 : BitVec 32 :=
  let c2160_i32_1591 : BitVec 32 := 2160#32
  c2160_i32_1591
def k0_mult151 : BitVec 32 :=
  let c2056_i32_1594 : BitVec 32 := 2056#32
  c2056_i32_1594
def k0_mult152 : BitVec 32 :=
  let c2160_i32_1597 : BitVec 32 := 2160#32
  c2160_i32_1597
def k0_mult153 : BitVec 32 :=
  let c2064_i32_1600 : BitVec 32 := 2064#32
  c2064_i32_1600
def k0_mult154 : BitVec 32 :=
  let c2152_i32_1603 : BitVec 32 := 2152#32
  c2152_i32_1603
def k0_mult155 : BitVec 32 :=
  let c2064_i32_1606 : BitVec 32 := 2064#32
  c2064_i32_1606
def k0_mult156 : BitVec 32 :=
  let c2152_i32_1609 : BitVec 32 := 2152#32
  c2152_i32_1609
def k0_mult157 : BitVec 32 :=
  let c2072_i32_1612 : BitVec 32 := 2072#32
  c2072_i32_1612
def k0_mult158 : BitVec 32 :=
  let c2144_i32_1615 : BitVec 32 := 2144#32
  c2144_i32_1615
def k0_mult159 : BitVec 32 :=
  let c2072_i32_1618 : BitVec 32 := 2072#32
  c2072_i32_1618
def k0_mult160 : BitVec 32 :=
  let c2144_i32_1621 : BitVec 32 := 2144#32
  c2144_i32_1621
def k0_mult161 : BitVec 32 :=
  let c2080_i32_1624 : BitVec 32 := 2080#32
  c2080_i32_1624
def k0_mult162 : BitVec 32 :=
  let c2136_i32_1627 : BitVec 32 := 2136#32
  c2136_i32_1627
def k0_mult163 : BitVec 32 :=
  let c2080_i32_1630 : BitVec 32 := 2080#32
  c2080_i32_1630
def k0_mult164 : BitVec 32 :=
  let c2136_i32_1633 : BitVec 32 := 2136#32
  c2136_i32_1633
def k0_mult165 : BitVec 32 :=
  let c2088_i32_1636 : BitVec 32 := 2088#32
  c2088_i32_1636
def k0_mult166 : BitVec 32 :=
  let c2128_i32_1639 : BitVec 32 := 2128#32
  c2128_i32_1639
def k0_mult167 : BitVec 32 :=
  let c2088_i32_1642 : BitVec 32 := 2088#32
  c2088_i32_1642
def k0_mult168 : BitVec 32 :=
  let c2128_i32_1645 : BitVec 32 := 2128#32
  c2128_i32_1645
def k0_mult169 : BitVec 32 :=
  let c2096_i32_1648 : BitVec 32 := 2096#32
  c2096_i32_1648
def k0_mult170 : BitVec 32 :=
  let c2120_i32_1651 : BitVec 32 := 2120#32
  c2120_i32_1651
def k0_mult171 : BitVec 32 :=
  let c2096_i32_1654 : BitVec 32 := 2096#32
  c2096_i32_1654
def k0_mult172 : BitVec 32 :=
  let c2120_i32_1657 : BitVec 32 := 2120#32
  c2120_i32_1657
def k0_mult173 : BitVec 32 :=
  let c2104_i32_1660 : BitVec 32 := 2104#32
  c2104_i32_1660
def k0_mult174 : BitVec 32 :=
  let c2112_i32_1663 : BitVec 32 := 2112#32
  c2112_i32_1663
def k0_mult175 : BitVec 32 :=
  let c2104_i32_1666 : BitVec 32 := 2104#32
  c2104_i32_1666
def k0_mult176 : BitVec 32 :=
  let c2112_i32_1669 : BitVec 32 := 2112#32
  c2112_i32_1669
def k0_mult177 : BitVec 32 :=
  let c2112_i32_1672 : BitVec 32 := 2112#32
  c2112_i32_1672
def k0_mult178 : BitVec 32 :=
  let c2104_i32_1675 : BitVec 32 := 2104#32
  c2104_i32_1675
def k0_mult179 : BitVec 32 :=
  let c2112_i32_1678 : BitVec 32 := 2112#32
  c2112_i32_1678
def k0_mult180 : BitVec 32 :=
  let c2104_i32_1681 : BitVec 32 := 2104#32
  c2104_i32_1681
def k0_mult181 : BitVec 32 :=
  let c2120_i32_1684 : BitVec 32 := 2120#32
  c2120_i32_1684
def k0_mult182 : BitVec 32 :=
  let c2096_i32_1687 : BitVec 32 := 2096#32
  c2096_i32_1687
def k0_mult183 : BitVec 32 :=
  let c2120_i32_1690 : BitVec 32 := 2120#32
  c2120_i32_1690
def k0_mult184 : BitVec 32 :=
  let c2096_i32_1693 : BitVec 32 := 2096#32
  c2096_i32_1693
def k0_mult185 : BitVec 32 :=
  let c2128_i32_1696 : BitVec 32 := 2128#32
  c2128_i32_1696
def k0_mult186 : BitVec 32 :=
  let c2088_i32_1699 : BitVec 32 := 2088#32
  c2088_i32_1699
def k0_mult187 : BitVec 32 :=
  let c2128_i32_1702 : BitVec 32 := 2128#32
  c2128_i32_1702
def k0_mult188 : BitVec 32 :=
  let c2088_i32_1705 : BitVec 32 := 2088#32
  c2088_i32_1705
def k0_mult189 : BitVec 32 :=
  let c2136_i32_1708 : BitVec 32 := 2136#32
  c2136_i32_1708
def k0_mult190 : BitVec 32 :=
  let c2080_i32_1711 : BitVec 32 := 2080#32
  c2080_i32_1711
def k0_mult191 : BitVec 32 :=
  let c2136_i32_1714 : BitVec 32 := 2136#32
  c2136_i32_1714
def k0_mult192 : BitVec 32 :=
  let c2080_i32_1717 : BitVec 32 := 2080#32
  c2080_i32_1717
def k0_mult193 : BitVec 32 :=
  let c2144_i32_1720 : BitVec 32 := 2144#32
  c2144_i32_1720
def k0_mult194 : BitVec 32 :=
  let c2072_i32_1723 : BitVec 32 := 2072#32
  c2072_i32_1723
def k0_mult195 : BitVec 32 :=
  let c2144_i32_1726 : BitVec 32 := 2144#32
  c2144_i32_1726
def k0_mult196 : BitVec 32 :=
  let c2072_i32_1729 : BitVec 32 := 2072#32
  c2072_i32_1729
def k0_mult197 : BitVec 32 :=
  let c2152_i32_1732 : BitVec 32 := 2152#32
  c2152_i32_1732
def k0_mult198 : BitVec 32 :=
  let c2064_i32_1735 : BitVec 32 := 2064#32
  c2064_i32_1735
def k0_mult199 : BitVec 32 :=
  let c2152_i32_1738 : BitVec 32 := 2152#32
  c2152_i32_1738
def k0_mult200 : BitVec 32 :=
  let c2064_i32_1741 : BitVec 32 := 2064#32
  c2064_i32_1741
def k0_mult201 : BitVec 32 :=
  let c2160_i32_1744 : BitVec 32 := 2160#32
  c2160_i32_1744
def k0_mult202 : BitVec 32 :=
  let c2056_i32_1747 : BitVec 32 := 2056#32
  c2056_i32_1747
def k0_mult203 : BitVec 32 :=
  let c2160_i32_1750 : BitVec 32 := 2160#32
  c2160_i32_1750
def k0_mult204 : BitVec 32 :=
  let c2056_i32_1753 : BitVec 32 := 2056#32
  c2056_i32_1753
def k0_mult205 : BitVec 32 :=
  let c2168_i32_1756 : BitVec 32 := 2168#32
  c2168_i32_1756
def k0_mult206 : BitVec 32 :=
  let c2048_i32_1759 : BitVec 32 := 2048#32
  c2048_i32_1759
def k0_mult207 : BitVec 32 :=
  let c2168_i32_1762 : BitVec 32 := 2168#32
  c2168_i32_1762
def k0_mult208 : BitVec 32 :=
  let c2048_i32_1765 : BitVec 32 := 2048#32
  c2048_i32_1765
@[reducible] def k0_t3_loop : Scf.Loop 32 :=
  let c0_i32_1768 : BitVec 32 := 0#32
  let c256_i32_1769 : BitVec 32 := 256#32
  let v5127 : BitVec 32 := Scalar.addi c0_i32_1768 c256_i32_1769
  let c1_i32_1770 : BitVec 32 := 1#32
  ⟨c0_i32_1768, v5127, c1_i32_1770⟩
def k0_mult209 (k0_t3 : Fin k0_t3_loop.trips) : BitVec 32 :=
  let c0_i32_1768 : BitVec 32 := 0#32
  let c1_i32_1770 : BitVec 32 := 1#32
  let arg13 : BitVec 32 := Scf.iv c0_i32_1768 c1_i32_1770 k0_t3
  let c8_i32 : BitVec 32 := 8#32
  let v8230 : BitVec 32 := Scalar.muli arg13 c8_i32
  v8230
def k0_off17 (k0_t3 : Fin k0_t3_loop.trips) : Fin 3 → Nat :=
  let c0_2993 : Index := 0#32
  let c0_i32_1768 : BitVec 32 := 0#32
  let c1_i32_1770 : BitVec 32 := 1#32
  let arg13 : BitVec 32 := Scf.iv c0_i32_1768 c1_i32_1770 k0_t3
  let c8_i32 : BitVec 32 := 8#32
  let v8230 : BitVec 32 := Scalar.muli arg13 c8_i32
  let v8231 : BitVec 32 := v8230
  let v8232 : Index := Scalar.indexCast v8231
  let c0_2994 : Index := 0#32
  ![0, v8232.toNat, 0]
def k0_mult210 (k0_t3 : Fin k0_t3_loop.trips) : BitVec 32 :=
  let c255_i32 : BitVec 32 := 255#32
  let c0_i32_1768 : BitVec 32 := 0#32
  let c1_i32_1770 : BitVec 32 := 1#32
  let arg13 : BitVec 32 := Scf.iv c0_i32_1768 c1_i32_1770 k0_t3
  let v8228 : BitVec 32 := Scalar.subi c255_i32 arg13
  let c8_i32_2995 : BitVec 32 := 8#32
  let v8236 : BitVec 32 := Scalar.muli v8228 c8_i32_2995
  v8236
def k0_off18 (k0_t3 : Fin k0_t3_loop.trips) : Fin 3 → Nat :=
  let c0_2996 : Index := 0#32
  let c255_i32 : BitVec 32 := 255#32
  let c0_i32_1768 : BitVec 32 := 0#32
  let c1_i32_1770 : BitVec 32 := 1#32
  let arg13 : BitVec 32 := Scf.iv c0_i32_1768 c1_i32_1770 k0_t3
  let v8228 : BitVec 32 := Scalar.subi c255_i32 arg13
  let c8_i32_2995 : BitVec 32 := 8#32
  let v8236 : BitVec 32 := Scalar.muli v8228 c8_i32_2995
  let v8237 : BitVec 32 := v8236
  let v8238 : Index := Scalar.indexCast v8237
  let c0_2997 : Index := 0#32
  ![0, v8238.toNat, 0]
def k0_mult211 (k0_t3 : Fin k0_t3_loop.trips) : BitVec 32 :=
  let c0_i32_1768 : BitVec 32 := 0#32
  let c1_i32_1770 : BitVec 32 := 1#32
  let arg13 : BitVec 32 := Scf.iv c0_i32_1768 c1_i32_1770 k0_t3
  let c8_i32_2998 : BitVec 32 := 8#32
  let v8243 : BitVec 32 := Scalar.muli arg13 c8_i32_2998
  v8243
def k0_off19 (k0_t3 : Fin k0_t3_loop.trips) : Fin 3 → Nat :=
  let c1_2999 : Index := 1#32
  let c0_i32_1768 : BitVec 32 := 0#32
  let c1_i32_1770 : BitVec 32 := 1#32
  let arg13 : BitVec 32 := Scf.iv c0_i32_1768 c1_i32_1770 k0_t3
  let c8_i32_2998 : BitVec 32 := 8#32
  let v8243 : BitVec 32 := Scalar.muli arg13 c8_i32_2998
  let v8244 : BitVec 32 := v8243
  let v8245 : Index := Scalar.indexCast v8244
  let c0_3000 : Index := 0#32
  ![1, v8245.toNat, 0]
def k0_mult212 (k0_t3 : Fin k0_t3_loop.trips) : BitVec 32 :=
  let c255_i32 : BitVec 32 := 255#32
  let c0_i32_1768 : BitVec 32 := 0#32
  let c1_i32_1770 : BitVec 32 := 1#32
  let arg13 : BitVec 32 := Scf.iv c0_i32_1768 c1_i32_1770 k0_t3
  let v8228 : BitVec 32 := Scalar.subi c255_i32 arg13
  let c8_i32_3001 : BitVec 32 := 8#32
  let v8249 : BitVec 32 := Scalar.muli v8228 c8_i32_3001
  v8249
def k0_off20 (k0_t3 : Fin k0_t3_loop.trips) : Fin 3 → Nat :=
  let c1_3002 : Index := 1#32
  let c255_i32 : BitVec 32 := 255#32
  let c0_i32_1768 : BitVec 32 := 0#32
  let c1_i32_1770 : BitVec 32 := 1#32
  let arg13 : BitVec 32 := Scf.iv c0_i32_1768 c1_i32_1770 k0_t3
  let v8228 : BitVec 32 := Scalar.subi c255_i32 arg13
  let c8_i32_3001 : BitVec 32 := 8#32
  let v8249 : BitVec 32 := Scalar.muli v8228 c8_i32_3001
  let v8250 : BitVec 32 := v8249
  let v8251 : Index := Scalar.indexCast v8250
  let c0_3003 : Index := 0#32
  ![1, v8251.toNat, 0]
def k0_mult213 (k0_t3 : Fin k0_t3_loop.trips) : BitVec 32 :=
  let c0_i32_1768 : BitVec 32 := 0#32
  let c1_i32_1770 : BitVec 32 := 1#32
  let arg13 : BitVec 32 := Scf.iv c0_i32_1768 c1_i32_1770 k0_t3
  let c8_i32_3004 : BitVec 32 := 8#32
  let v8255 : BitVec 32 := Scalar.muli arg13 c8_i32_3004
  v8255
def k0_off21 (k0_t3 : Fin k0_t3_loop.trips) : Fin 3 → Nat :=
  let c0_3005 : Index := 0#32
  let c0_i32_1768 : BitVec 32 := 0#32
  let c1_i32_1770 : BitVec 32 := 1#32
  let arg13 : BitVec 32 := Scf.iv c0_i32_1768 c1_i32_1770 k0_t3
  let c8_i32_3004 : BitVec 32 := 8#32
  let v8255 : BitVec 32 := Scalar.muli arg13 c8_i32_3004
  let v8256 : BitVec 32 := v8255
  let v8257 : Index := Scalar.indexCast v8256
  let c0_3006 : Index := 0#32
  ![0, v8257.toNat, 0]
def k0_mult214 (k0_t3 : Fin k0_t3_loop.trips) : BitVec 32 :=
  let c255_i32 : BitVec 32 := 255#32
  let c0_i32_1768 : BitVec 32 := 0#32
  let c1_i32_1770 : BitVec 32 := 1#32
  let arg13 : BitVec 32 := Scf.iv c0_i32_1768 c1_i32_1770 k0_t3
  let v8228 : BitVec 32 := Scalar.subi c255_i32 arg13
  let c8_i32_3007 : BitVec 32 := 8#32
  let v8260 : BitVec 32 := Scalar.muli v8228 c8_i32_3007
  v8260
def k0_off22 (k0_t3 : Fin k0_t3_loop.trips) : Fin 3 → Nat :=
  let c0_3008 : Index := 0#32
  let c255_i32 : BitVec 32 := 255#32
  let c0_i32_1768 : BitVec 32 := 0#32
  let c1_i32_1770 : BitVec 32 := 1#32
  let arg13 : BitVec 32 := Scf.iv c0_i32_1768 c1_i32_1770 k0_t3
  let v8228 : BitVec 32 := Scalar.subi c255_i32 arg13
  let c8_i32_3007 : BitVec 32 := 8#32
  let v8260 : BitVec 32 := Scalar.muli v8228 c8_i32_3007
  let v8261 : BitVec 32 := v8260
  let v8262 : Index := Scalar.indexCast v8261
  let c0_3009 : Index := 0#32
  ![0, v8262.toNat, 0]
def k0_mult215 (k0_t3 : Fin k0_t3_loop.trips) : BitVec 32 :=
  let c0_i32_1768 : BitVec 32 := 0#32
  let c1_i32_1770 : BitVec 32 := 1#32
  let arg13 : BitVec 32 := Scf.iv c0_i32_1768 c1_i32_1770 k0_t3
  let c8_i32_3010 : BitVec 32 := 8#32
  let v8282 : BitVec 32 := Scalar.muli arg13 c8_i32_3010
  v8282
def k0_off23 (k0_t3 : Fin k0_t3_loop.trips) : Fin 3 → Nat :=
  let c1_3011 : Index := 1#32
  let c0_i32_1768 : BitVec 32 := 0#32
  let c1_i32_1770 : BitVec 32 := 1#32
  let arg13 : BitVec 32 := Scf.iv c0_i32_1768 c1_i32_1770 k0_t3
  let c8_i32_3010 : BitVec 32 := 8#32
  let v8282 : BitVec 32 := Scalar.muli arg13 c8_i32_3010
  let v8283 : BitVec 32 := v8282
  let v8284 : Index := Scalar.indexCast v8283
  let c0_3012 : Index := 0#32
  ![1, v8284.toNat, 0]
def k0_mult216 (k0_t3 : Fin k0_t3_loop.trips) : BitVec 32 :=
  let c255_i32 : BitVec 32 := 255#32
  let c0_i32_1768 : BitVec 32 := 0#32
  let c1_i32_1770 : BitVec 32 := 1#32
  let arg13 : BitVec 32 := Scf.iv c0_i32_1768 c1_i32_1770 k0_t3
  let v8228 : BitVec 32 := Scalar.subi c255_i32 arg13
  let c8_i32_3013 : BitVec 32 := 8#32
  let v8287 : BitVec 32 := Scalar.muli v8228 c8_i32_3013
  v8287
def k0_off24 (k0_t3 : Fin k0_t3_loop.trips) : Fin 3 → Nat :=
  let c1_3014 : Index := 1#32
  let c255_i32 : BitVec 32 := 255#32
  let c0_i32_1768 : BitVec 32 := 0#32
  let c1_i32_1770 : BitVec 32 := 1#32
  let arg13 : BitVec 32 := Scf.iv c0_i32_1768 c1_i32_1770 k0_t3
  let v8228 : BitVec 32 := Scalar.subi c255_i32 arg13
  let c8_i32_3013 : BitVec 32 := 8#32
  let v8287 : BitVec 32 := Scalar.muli v8228 c8_i32_3013
  let v8288 : BitVec 32 := v8287
  let v8289 : Index := Scalar.indexCast v8288
  let c0_3015 : Index := 0#32
  ![1, v8289.toNat, 0]
def k0_mult217 : BitVec 32 :=
  let c2048_i32_1861 : BitVec 32 := 2048#32
  c2048_i32_1861
def k0_mult218 : BitVec 32 :=
  let c2168_i32_1864 : BitVec 32 := 2168#32
  c2168_i32_1864
def k0_mult219 : BitVec 32 :=
  let c2048_i32_1867 : BitVec 32 := 2048#32
  c2048_i32_1867
def k0_mult220 : BitVec 32 :=
  let c2168_i32_1870 : BitVec 32 := 2168#32
  c2168_i32_1870
def k0_mult221 : BitVec 32 :=
  let c2056_i32_1873 : BitVec 32 := 2056#32
  c2056_i32_1873
def k0_mult222 : BitVec 32 :=
  let c2160_i32_1876 : BitVec 32 := 2160#32
  c2160_i32_1876
def k0_mult223 : BitVec 32 :=
  let c2056_i32_1879 : BitVec 32 := 2056#32
  c2056_i32_1879
def k0_mult224 : BitVec 32 :=
  let c2160_i32_1882 : BitVec 32 := 2160#32
  c2160_i32_1882
def k0_mult225 : BitVec 32 :=
  let c2064_i32_1885 : BitVec 32 := 2064#32
  c2064_i32_1885
def k0_mult226 : BitVec 32 :=
  let c2152_i32_1888 : BitVec 32 := 2152#32
  c2152_i32_1888
def k0_mult227 : BitVec 32 :=
  let c2064_i32_1891 : BitVec 32 := 2064#32
  c2064_i32_1891
def k0_mult228 : BitVec 32 :=
  let c2152_i32_1894 : BitVec 32 := 2152#32
  c2152_i32_1894
def k0_mult229 : BitVec 32 :=
  let c2072_i32_1897 : BitVec 32 := 2072#32
  c2072_i32_1897
def k0_mult230 : BitVec 32 :=
  let c2144_i32_1900 : BitVec 32 := 2144#32
  c2144_i32_1900
def k0_mult231 : BitVec 32 :=
  let c2072_i32_1903 : BitVec 32 := 2072#32
  c2072_i32_1903
def k0_mult232 : BitVec 32 :=
  let c2144_i32_1906 : BitVec 32 := 2144#32
  c2144_i32_1906
def k0_mult233 : BitVec 32 :=
  let c2080_i32_1909 : BitVec 32 := 2080#32
  c2080_i32_1909
def k0_mult234 : BitVec 32 :=
  let c2136_i32_1912 : BitVec 32 := 2136#32
  c2136_i32_1912
def k0_mult235 : BitVec 32 :=
  let c2080_i32_1915 : BitVec 32 := 2080#32
  c2080_i32_1915
def k0_mult236 : BitVec 32 :=
  let c2136_i32_1918 : BitVec 32 := 2136#32
  c2136_i32_1918
def k0_mult237 : BitVec 32 :=
  let c2088_i32_1921 : BitVec 32 := 2088#32
  c2088_i32_1921
def k0_mult238 : BitVec 32 :=
  let c2128_i32_1924 : BitVec 32 := 2128#32
  c2128_i32_1924
def k0_mult239 : BitVec 32 :=
  let c2088_i32_1927 : BitVec 32 := 2088#32
  c2088_i32_1927
def k0_mult240 : BitVec 32 :=
  let c2128_i32_1930 : BitVec 32 := 2128#32
  c2128_i32_1930
def k0_mult241 : BitVec 32 :=
  let c2096_i32_1933 : BitVec 32 := 2096#32
  c2096_i32_1933
def k0_mult242 : BitVec 32 :=
  let c2120_i32_1936 : BitVec 32 := 2120#32
  c2120_i32_1936
def k0_mult243 : BitVec 32 :=
  let c2096_i32_1939 : BitVec 32 := 2096#32
  c2096_i32_1939
def k0_mult244 : BitVec 32 :=
  let c2120_i32_1942 : BitVec 32 := 2120#32
  c2120_i32_1942
def k0_mult245 : BitVec 32 :=
  let c2104_i32_1945 : BitVec 32 := 2104#32
  c2104_i32_1945
def k0_mult246 : BitVec 32 :=
  let c2112_i32_1948 : BitVec 32 := 2112#32
  c2112_i32_1948
def k0_mult247 : BitVec 32 :=
  let c2104_i32_1951 : BitVec 32 := 2104#32
  c2104_i32_1951
def k0_mult248 : BitVec 32 :=
  let c2112_i32_1954 : BitVec 32 := 2112#32
  c2112_i32_1954
def k0_mult249 : BitVec 32 :=
  let c2112_i32_1957 : BitVec 32 := 2112#32
  c2112_i32_1957
def k0_mult250 : BitVec 32 :=
  let c2104_i32_1960 : BitVec 32 := 2104#32
  c2104_i32_1960
def k0_mult251 : BitVec 32 :=
  let c2112_i32_1963 : BitVec 32 := 2112#32
  c2112_i32_1963
def k0_mult252 : BitVec 32 :=
  let c2104_i32_1966 : BitVec 32 := 2104#32
  c2104_i32_1966
def k0_mult253 : BitVec 32 :=
  let c2120_i32_1969 : BitVec 32 := 2120#32
  c2120_i32_1969
def k0_mult254 : BitVec 32 :=
  let c2096_i32_1972 : BitVec 32 := 2096#32
  c2096_i32_1972
def k0_mult255 : BitVec 32 :=
  let c2120_i32_1975 : BitVec 32 := 2120#32
  c2120_i32_1975
def k0_mult256 : BitVec 32 :=
  let c2096_i32_1978 : BitVec 32 := 2096#32
  c2096_i32_1978
def k0_mult257 : BitVec 32 :=
  let c2128_i32_1981 : BitVec 32 := 2128#32
  c2128_i32_1981
def k0_mult258 : BitVec 32 :=
  let c2088_i32_1984 : BitVec 32 := 2088#32
  c2088_i32_1984
def k0_mult259 : BitVec 32 :=
  let c2128_i32_1987 : BitVec 32 := 2128#32
  c2128_i32_1987
def k0_mult260 : BitVec 32 :=
  let c2088_i32_1990 : BitVec 32 := 2088#32
  c2088_i32_1990
def k0_mult261 : BitVec 32 :=
  let c2136_i32_1993 : BitVec 32 := 2136#32
  c2136_i32_1993
def k0_mult262 : BitVec 32 :=
  let c2080_i32_1996 : BitVec 32 := 2080#32
  c2080_i32_1996
def k0_mult263 : BitVec 32 :=
  let c2136_i32_1999 : BitVec 32 := 2136#32
  c2136_i32_1999
def k0_mult264 : BitVec 32 :=
  let c2080_i32_2002 : BitVec 32 := 2080#32
  c2080_i32_2002
def k0_mult265 : BitVec 32 :=
  let c2144_i32_2005 : BitVec 32 := 2144#32
  c2144_i32_2005
def k0_mult266 : BitVec 32 :=
  let c2072_i32_2008 : BitVec 32 := 2072#32
  c2072_i32_2008
def k0_mult267 : BitVec 32 :=
  let c2144_i32_2011 : BitVec 32 := 2144#32
  c2144_i32_2011
def k0_mult268 : BitVec 32 :=
  let c2072_i32_2014 : BitVec 32 := 2072#32
  c2072_i32_2014
def k0_mult269 : BitVec 32 :=
  let c2152_i32_2017 : BitVec 32 := 2152#32
  c2152_i32_2017
def k0_mult270 : BitVec 32 :=
  let c2064_i32_2020 : BitVec 32 := 2064#32
  c2064_i32_2020
def k0_mult271 : BitVec 32 :=
  let c2152_i32_2023 : BitVec 32 := 2152#32
  c2152_i32_2023
def k0_mult272 : BitVec 32 :=
  let c2064_i32_2026 : BitVec 32 := 2064#32
  c2064_i32_2026
def k0_mult273 : BitVec 32 :=
  let c2160_i32_2029 : BitVec 32 := 2160#32
  c2160_i32_2029
def k0_mult274 : BitVec 32 :=
  let c2056_i32_2032 : BitVec 32 := 2056#32
  c2056_i32_2032
def k0_mult275 : BitVec 32 :=
  let c2160_i32_2035 : BitVec 32 := 2160#32
  c2160_i32_2035
def k0_mult276 : BitVec 32 :=
  let c2056_i32_2038 : BitVec 32 := 2056#32
  c2056_i32_2038
def k0_mult277 : BitVec 32 :=
  let c2168_i32_2041 : BitVec 32 := 2168#32
  c2168_i32_2041
def k0_mult278 : BitVec 32 :=
  let c2048_i32_2044 : BitVec 32 := 2048#32
  c2048_i32_2044
def k0_mult279 : BitVec 32 :=
  let c2168_i32_2047 : BitVec 32 := 2168#32
  c2168_i32_2047
def k0_mult280 : BitVec 32 :=
  let c2048_i32_2050 : BitVec 32 := 2048#32
  c2048_i32_2050
@[reducible] def k0_t4_loop : Scf.Loop 32 :=
  let c0_i32_2053 : BitVec 32 := 0#32
  let c256_i32_2054 : BitVec 32 := 256#32
  let v6026 : BitVec 32 := Scalar.addi c0_i32_2053 c256_i32_2054
  let c1_i32_2055 : BitVec 32 := 1#32
  ⟨c0_i32_2053, v6026, c1_i32_2055⟩
def k0_mult281 (k0_t4 : Fin k0_t4_loop.trips) : BitVec 32 :=
  let c0_i32_2053 : BitVec 32 := 0#32
  let c1_i32_2055 : BitVec 32 := 1#32
  let arg13 : BitVec 32 := Scf.iv c0_i32_2053 c1_i32_2055 k0_t4
  let c8_i32 : BitVec 32 := 8#32
  let v8230 : BitVec 32 := Scalar.muli arg13 c8_i32
  v8230
def k0_off25 (k0_t4 : Fin k0_t4_loop.trips) : Fin 3 → Nat :=
  let c0_2993 : Index := 0#32
  let c0_i32_2053 : BitVec 32 := 0#32
  let c1_i32_2055 : BitVec 32 := 1#32
  let arg13 : BitVec 32 := Scf.iv c0_i32_2053 c1_i32_2055 k0_t4
  let c8_i32 : BitVec 32 := 8#32
  let v8230 : BitVec 32 := Scalar.muli arg13 c8_i32
  let v8231 : BitVec 32 := v8230
  let v8232 : Index := Scalar.indexCast v8231
  let c0_2994 : Index := 0#32
  ![0, v8232.toNat, 0]
def k0_mult282 (k0_t4 : Fin k0_t4_loop.trips) : BitVec 32 :=
  let c255_i32 : BitVec 32 := 255#32
  let c0_i32_2053 : BitVec 32 := 0#32
  let c1_i32_2055 : BitVec 32 := 1#32
  let arg13 : BitVec 32 := Scf.iv c0_i32_2053 c1_i32_2055 k0_t4
  let v8228 : BitVec 32 := Scalar.subi c255_i32 arg13
  let c8_i32_2995 : BitVec 32 := 8#32
  let v8236 : BitVec 32 := Scalar.muli v8228 c8_i32_2995
  v8236
def k0_off26 (k0_t4 : Fin k0_t4_loop.trips) : Fin 3 → Nat :=
  let c0_2996 : Index := 0#32
  let c255_i32 : BitVec 32 := 255#32
  let c0_i32_2053 : BitVec 32 := 0#32
  let c1_i32_2055 : BitVec 32 := 1#32
  let arg13 : BitVec 32 := Scf.iv c0_i32_2053 c1_i32_2055 k0_t4
  let v8228 : BitVec 32 := Scalar.subi c255_i32 arg13
  let c8_i32_2995 : BitVec 32 := 8#32
  let v8236 : BitVec 32 := Scalar.muli v8228 c8_i32_2995
  let v8237 : BitVec 32 := v8236
  let v8238 : Index := Scalar.indexCast v8237
  let c0_2997 : Index := 0#32
  ![0, v8238.toNat, 0]
def k0_mult283 (k0_t4 : Fin k0_t4_loop.trips) : BitVec 32 :=
  let c0_i32_2053 : BitVec 32 := 0#32
  let c1_i32_2055 : BitVec 32 := 1#32
  let arg13 : BitVec 32 := Scf.iv c0_i32_2053 c1_i32_2055 k0_t4
  let c8_i32_2998 : BitVec 32 := 8#32
  let v8243 : BitVec 32 := Scalar.muli arg13 c8_i32_2998
  v8243
def k0_off27 (k0_t4 : Fin k0_t4_loop.trips) : Fin 3 → Nat :=
  let c1_2999 : Index := 1#32
  let c0_i32_2053 : BitVec 32 := 0#32
  let c1_i32_2055 : BitVec 32 := 1#32
  let arg13 : BitVec 32 := Scf.iv c0_i32_2053 c1_i32_2055 k0_t4
  let c8_i32_2998 : BitVec 32 := 8#32
  let v8243 : BitVec 32 := Scalar.muli arg13 c8_i32_2998
  let v8244 : BitVec 32 := v8243
  let v8245 : Index := Scalar.indexCast v8244
  let c0_3000 : Index := 0#32
  ![1, v8245.toNat, 0]
def k0_mult284 (k0_t4 : Fin k0_t4_loop.trips) : BitVec 32 :=
  let c255_i32 : BitVec 32 := 255#32
  let c0_i32_2053 : BitVec 32 := 0#32
  let c1_i32_2055 : BitVec 32 := 1#32
  let arg13 : BitVec 32 := Scf.iv c0_i32_2053 c1_i32_2055 k0_t4
  let v8228 : BitVec 32 := Scalar.subi c255_i32 arg13
  let c8_i32_3001 : BitVec 32 := 8#32
  let v8249 : BitVec 32 := Scalar.muli v8228 c8_i32_3001
  v8249
def k0_off28 (k0_t4 : Fin k0_t4_loop.trips) : Fin 3 → Nat :=
  let c1_3002 : Index := 1#32
  let c255_i32 : BitVec 32 := 255#32
  let c0_i32_2053 : BitVec 32 := 0#32
  let c1_i32_2055 : BitVec 32 := 1#32
  let arg13 : BitVec 32 := Scf.iv c0_i32_2053 c1_i32_2055 k0_t4
  let v8228 : BitVec 32 := Scalar.subi c255_i32 arg13
  let c8_i32_3001 : BitVec 32 := 8#32
  let v8249 : BitVec 32 := Scalar.muli v8228 c8_i32_3001
  let v8250 : BitVec 32 := v8249
  let v8251 : Index := Scalar.indexCast v8250
  let c0_3003 : Index := 0#32
  ![1, v8251.toNat, 0]
def k0_mult285 (k0_t4 : Fin k0_t4_loop.trips) : BitVec 32 :=
  let c0_i32_2053 : BitVec 32 := 0#32
  let c1_i32_2055 : BitVec 32 := 1#32
  let arg13 : BitVec 32 := Scf.iv c0_i32_2053 c1_i32_2055 k0_t4
  let c8_i32_3004 : BitVec 32 := 8#32
  let v8255 : BitVec 32 := Scalar.muli arg13 c8_i32_3004
  v8255
def k0_off29 (k0_t4 : Fin k0_t4_loop.trips) : Fin 3 → Nat :=
  let c0_3005 : Index := 0#32
  let c0_i32_2053 : BitVec 32 := 0#32
  let c1_i32_2055 : BitVec 32 := 1#32
  let arg13 : BitVec 32 := Scf.iv c0_i32_2053 c1_i32_2055 k0_t4
  let c8_i32_3004 : BitVec 32 := 8#32
  let v8255 : BitVec 32 := Scalar.muli arg13 c8_i32_3004
  let v8256 : BitVec 32 := v8255
  let v8257 : Index := Scalar.indexCast v8256
  let c0_3006 : Index := 0#32
  ![0, v8257.toNat, 0]
def k0_mult286 (k0_t4 : Fin k0_t4_loop.trips) : BitVec 32 :=
  let c255_i32 : BitVec 32 := 255#32
  let c0_i32_2053 : BitVec 32 := 0#32
  let c1_i32_2055 : BitVec 32 := 1#32
  let arg13 : BitVec 32 := Scf.iv c0_i32_2053 c1_i32_2055 k0_t4
  let v8228 : BitVec 32 := Scalar.subi c255_i32 arg13
  let c8_i32_3007 : BitVec 32 := 8#32
  let v8260 : BitVec 32 := Scalar.muli v8228 c8_i32_3007
  v8260
def k0_off30 (k0_t4 : Fin k0_t4_loop.trips) : Fin 3 → Nat :=
  let c0_3008 : Index := 0#32
  let c255_i32 : BitVec 32 := 255#32
  let c0_i32_2053 : BitVec 32 := 0#32
  let c1_i32_2055 : BitVec 32 := 1#32
  let arg13 : BitVec 32 := Scf.iv c0_i32_2053 c1_i32_2055 k0_t4
  let v8228 : BitVec 32 := Scalar.subi c255_i32 arg13
  let c8_i32_3007 : BitVec 32 := 8#32
  let v8260 : BitVec 32 := Scalar.muli v8228 c8_i32_3007
  let v8261 : BitVec 32 := v8260
  let v8262 : Index := Scalar.indexCast v8261
  let c0_3009 : Index := 0#32
  ![0, v8262.toNat, 0]
def k0_mult287 (k0_t4 : Fin k0_t4_loop.trips) : BitVec 32 :=
  let c0_i32_2053 : BitVec 32 := 0#32
  let c1_i32_2055 : BitVec 32 := 1#32
  let arg13 : BitVec 32 := Scf.iv c0_i32_2053 c1_i32_2055 k0_t4
  let c8_i32_3010 : BitVec 32 := 8#32
  let v8282 : BitVec 32 := Scalar.muli arg13 c8_i32_3010
  v8282
def k0_off31 (k0_t4 : Fin k0_t4_loop.trips) : Fin 3 → Nat :=
  let c1_3011 : Index := 1#32
  let c0_i32_2053 : BitVec 32 := 0#32
  let c1_i32_2055 : BitVec 32 := 1#32
  let arg13 : BitVec 32 := Scf.iv c0_i32_2053 c1_i32_2055 k0_t4
  let c8_i32_3010 : BitVec 32 := 8#32
  let v8282 : BitVec 32 := Scalar.muli arg13 c8_i32_3010
  let v8283 : BitVec 32 := v8282
  let v8284 : Index := Scalar.indexCast v8283
  let c0_3012 : Index := 0#32
  ![1, v8284.toNat, 0]
def k0_mult288 (k0_t4 : Fin k0_t4_loop.trips) : BitVec 32 :=
  let c255_i32 : BitVec 32 := 255#32
  let c0_i32_2053 : BitVec 32 := 0#32
  let c1_i32_2055 : BitVec 32 := 1#32
  let arg13 : BitVec 32 := Scf.iv c0_i32_2053 c1_i32_2055 k0_t4
  let v8228 : BitVec 32 := Scalar.subi c255_i32 arg13
  let c8_i32_3013 : BitVec 32 := 8#32
  let v8287 : BitVec 32 := Scalar.muli v8228 c8_i32_3013
  v8287
def k0_off32 (k0_t4 : Fin k0_t4_loop.trips) : Fin 3 → Nat :=
  let c1_3014 : Index := 1#32
  let c255_i32 : BitVec 32 := 255#32
  let c0_i32_2053 : BitVec 32 := 0#32
  let c1_i32_2055 : BitVec 32 := 1#32
  let arg13 : BitVec 32 := Scf.iv c0_i32_2053 c1_i32_2055 k0_t4
  let v8228 : BitVec 32 := Scalar.subi c255_i32 arg13
  let c8_i32_3013 : BitVec 32 := 8#32
  let v8287 : BitVec 32 := Scalar.muli v8228 c8_i32_3013
  let v8288 : BitVec 32 := v8287
  let v8289 : Index := Scalar.indexCast v8288
  let c0_3015 : Index := 0#32
  ![1, v8289.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S16x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel7.lean ====
abbrev S8x4096x1536 : Shape := ⟨3, ![8, 4096, 1536]⟩
abbrev S1x3x1536 : Shape := ⟨3, ![1, 3, 1536]⟩
abbrev S1x1536 : Shape := ⟨2, ![1, 1536]⟩
abbrev S2x128x128x512 : Shape := ⟨4, ![2, 128, 128, 512]⟩
abbrev S64x256x128 : Shape := ⟨3, ![64, 256, 128]⟩
abbrev S128x128 : Shape := ⟨2, ![128, 128]⟩
abbrev S64x128x256 : Shape := ⟨3, ![64, 128, 256]⟩
abbrev S8x64x64x1536 : Shape := ⟨4, ![8, 64, 64, 1536]⟩
abbrev S2x4x64x64x1536 : Shape := ⟨5, ![2, 4, 64, 64, 1536]⟩
abbrev S3x1536 : Shape := ⟨2, ![3, 1536]⟩
abbrev S1536 : Shape := ⟨1, ![1536]⟩
abbrev S2x4x64x64x512 : Shape := ⟨5, ![2, 4, 64, 64, 512]⟩
abbrev S2x1x64x64x256 : Shape := ⟨5, ![2, 1, 64, 64, 256]⟩
abbrev S3x256 : Shape := ⟨2, ![3, 256]⟩
abbrev S1x256 : Shape := ⟨2, ![1, 256]⟩
abbrev S1x32x128x256 : Shape := ⟨4, ![1, 32, 128, 256]⟩
abbrev S256x64x256 : Shape := ⟨3, ![256, 64, 256]⟩
abbrev S1x1x1x64x256 : Shape := ⟨5, ![1, 1, 1, 64, 256]⟩
abbrev S64x256 : Shape := ⟨2, ![64, 256]⟩
abbrev S128x256 : Shape := ⟨2, ![128, 256]⟩
abbrev S1x256x128 : Shape := ⟨3, ![1, 256, 128]⟩
abbrev S256x128 : Shape := ⟨2, ![256, 128]⟩
abbrev S256x256 : Shape := ⟨2, ![256, 256]⟩
abbrev S1x256x256 : Shape := ⟨3, ![1, 256, 256]⟩
abbrev S16x256x256 : Shape := ⟨3, ![16, 256, 256]⟩
abbrev S256x16x256 : Shape := ⟨3, ![256, 16, 256]⟩
abbrev S1x64x256 : Shape := ⟨3, ![1, 64, 256]⟩
abbrev S1x1x128x256 : Shape := ⟨4, ![1, 1, 128, 256]⟩
abbrev S1x128x256 : Shape := ⟨3, ![1, 128, 256]⟩

abbrev nBuf : Space → Nat
  | .hbm => 15
  | .vmem => 27
  | .smem => 0
  | _ => 0

abbrev bufTy : (tb : Table) → Fin (tcTables nBuf tb) → BufTy
  | .hbm, ⟨0, _⟩ => ⟨S8x4096x1536, .bf16⟩
  | .hbm, ⟨1, _⟩ => ⟨S1x3x1536, .f32⟩
  | .hbm, ⟨2, _⟩ => ⟨S1x1536, .f32⟩
  | .hbm, ⟨3, _⟩ => ⟨S2x128x128x512, .bf16⟩
  | .hbm, ⟨4, _⟩ => ⟨S64x256x128, .bf16⟩
  | .hbm, ⟨5, _⟩ => ⟨S128x128, .bf16⟩
  | .hbm, ⟨6, _⟩ => ⟨S128x128, .bf16⟩
  | .hbm, ⟨7, _⟩ => ⟨S64x128x256, .bf16⟩
  | .hbm, ⟨8, _⟩ => ⟨S8x64x64x1536, .bf16⟩
  | .hbm, ⟨9, _⟩ => ⟨S8x64x64x1536, .bf16⟩
  | .hbm, ⟨10, _⟩ => ⟨S2x4x64x64x1536, .bf16⟩
  | .hbm, ⟨11, _⟩ => ⟨S3x1536, .f32⟩
  | .hbm, ⟨12, _⟩ => ⟨S1536, .f32⟩
  | .hbm, ⟨13, _⟩ => ⟨S1x1536, .f32⟩
  | .hbm, ⟨14, _⟩ => ⟨S2x4x64x64x512, .bf16⟩
  | .local _ .vmem, ⟨0, _⟩ => ⟨S2x1x64x64x256, .bf16⟩
  | .local _ .vmem, ⟨1, _⟩ => ⟨S2x1x64x64x256, .bf16⟩
  | .local _ .vmem, ⟨2, _⟩ => ⟨S2x1x64x64x256, .bf16⟩
  | .local _ .vmem, ⟨3, _⟩ => ⟨S2x1x64x64x256, .bf16⟩
  | .local _ .vmem, ⟨4, _⟩ => ⟨S2x1x64x64x256, .bf16⟩
  | .local _ .vmem, ⟨5, _⟩ => ⟨S2x1x64x64x256, .bf16⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S3x256, .f32⟩
  | .local _ .vmem, ⟨15, _⟩ => ⟨S3x256, .f32⟩
  | .local _ .vmem, ⟨16, _⟩ => ⟨S1x256, .f32⟩
  | .local _ .vmem, ⟨17, _⟩ => ⟨S1x256, .f32⟩
  | .local _ .vmem, ⟨18, _⟩ => ⟨S1x32x128x256, .bf16⟩
  | .local _ .vmem, ⟨19, _⟩ => ⟨S1x32x128x256, .bf16⟩
  | .local _ .vmem, ⟨20, _⟩ => ⟨S64x256x128, .bf16⟩
  | .local _ .vmem, ⟨21, _⟩ => ⟨S128x128, .bf16⟩
  | .local _ .vmem, ⟨22, _⟩ => ⟨S128x128, .bf16⟩
  | .local _ .vmem, ⟨23, _⟩ => ⟨S64x128x256, .bf16⟩
  | .local _ .vmem, ⟨24, _⟩ => ⟨S2x1x64x64x256, .bf16⟩
  | .local _ .vmem, ⟨25, _⟩ => ⟨S256x64x256, .bf16⟩
  | .local _ .vmem, ⟨26, _⟩ => ⟨S2x1x64x64x256, .bf16⟩
  | _, _ => ⟨S8x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨3, ![4, 2, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_716 : BitVec 32 := 0#32
  let c4_i32_717 : BitVec 32 := 4#32
  let v1367 : BitVec 32 := Scalar.addi c0_i32_716 c4_i32_717
  let c1_i32_718 : BitVec 32 := 1#32
  ⟨c0_i32_716, v1367, c1_i32_718⟩
def k0_mult1 (k0_t1 : Fin k0_t1_loop.trips) : BitVec 32 :=
  let c0_i32_716 : BitVec 32 := 0#32
  let c1_i32_718 : BitVec 32 := 1#32
  let arg20 : BitVec 32 := Scf.iv c0_i32_716 c1_i32_718 k0_t1
  let c16_i32_720 : BitVec 32 := 16#32
  let v1368 : BitVec 32 := Scalar.muli arg20 c16_i32_720
  v1368
def k0_off1 (k0_t1 : Fin k0_t1_loop.trips) (c0_i32_725 : BitVec 32) : Fin 5 → Nat :=
  let c0_726 : Index := 0#32
  let c0_727 : Index := 0#32
  let c0_i32_716 : BitVec 32 := 0#32
  let c1_i32_718 : BitVec 32 := 1#32
  let arg20 : BitVec 32 := Scf.iv c0_i32_716 c1_i32_718 k0_t1
  let c16_i32_720 : BitVec 32 := 16#32
  let v1368 : BitVec 32 := Scalar.muli arg20 c16_i32_720
  let v1369 : BitVec 32 := v1368
  let v1374 : BitVec 32 := Scalar.addi v1369 c0_i32_725
  let v1375 : Index := Scalar.indexCast v1374
  let c0_728 : Index := 0#32
  let c0_729 : Index := 0#32
  ![0, 0, v1375.toNat, 0, 0]
def k0_off2 (k0_t1 : Fin k0_t1_loop.trips) : Fin 5 → Nat :=
  let c0_812 : Index := 0#32
  let c0_813 : Index := 0#32
  let c0_i32_716 : BitVec 32 := 0#32
  let c1_i32_718 : BitVec 32 := 1#32
  let arg20 : BitVec 32 := Scf.iv c0_i32_716 c1_i32_718 k0_t1
  let c16_i32_720 : BitVec 32 := 16#32
  let v1368 : BitVec 32 := Scalar.muli arg20 c16_i32_720
  let v1369 : BitVec 32 := v1368
  let c64_i32 : BitVec 32 := 64#32
  let v1455 : BitVec 32 := Scalar.addi v1369 c64_i32
  let c1_i32_805 : BitVec 32 := 1#32
  let v1456 : BitVec 32 := Scalar.subi v1455 c1_i32_805
  let c64_i32_806 : BitVec 32 := 64#32
  let c0_i32_807 : BitVec 32 := 0#32
  let v1457 : BitVec 1 := Scalar.cmpi .eq c64_i32_806 c0_i32_807
  let c1_i32_808 : BitVec 32 := 1#32
  let v1458 : BitVec 32 := Scalar.select v1457 c1_i32_808 c64_i32_806
  let v1459 : BitVec 32 := Scalar.remsi v1456 v1458
  let c0_i32_810 : BitVec 32 := 0#32
  let v1461 : BitVec 1 := Scalar.cmpi .slt v1459 c0_i32_810
  let c0_i32_811 : BitVec 32 := 0#32
  let v1462 : BitVec 1 := Scalar.cmpi .slt v1458 c0_i32_811
  let v1463 : BitVec 1 := Scalar.xori v1461 v1462
  let c0_i32_809 : BitVec 32 := 0#32
  let v1460 : BitVec 1 := Scalar.cmpi .ne v1459 c0_i32_809
  let v1464 : BitVec 1 := Scalar.andi v1463 v1460
  let v1465 : BitVec 32 := Scalar.addi v1459 v1458
  let v1466 : BitVec 32 := Scalar.select v1464 v1465 v1459
  let v1467 : Index := Scalar.indexCast v1466
  let c0_814 : Index := 0#32
  let c0_815 : Index := 0#32
  ![0, 0, v1467.toNat, 0, 0]
def k0_off3 (k0_t1 : Fin k0_t1_loop.trips) : Fin 5 → Nat :=
  let c0_827 : Index := 0#32
  let c0_828 : Index := 0#32
  let c0_i32_716 : BitVec 32 := 0#32
  let c1_i32_718 : BitVec 32 := 1#32
  let arg20 : BitVec 32 := Scf.iv c0_i32_716 c1_i32_718 k0_t1
  let c16_i32_720 : BitVec 32 := 16#32
  let v1368 : BitVec 32 := Scalar.muli arg20 c16_i32_720
  let v1369 : BitVec 32 := v1368
  let c16_i32_820 : BitVec 32 := 16#32
  let v1478 : BitVec 32 := Scalar.addi v1369 c16_i32_820
  let c64_i32_821 : BitVec 32 := 64#32
  let c0_i32_822 : BitVec 32 := 0#32
  let v1479 : BitVec 1 := Scalar.cmpi .eq c64_i32_821 c0_i32_822
  let c1_i32_823 : BitVec 32 := 1#32
  let v1480 : BitVec 32 := Scalar.select v1479 c1_i32_823 c64_i32_821
  let v1481 : BitVec 32 := Scalar.remsi v1478 v1480
  let c0_i32_825 : BitVec 32 := 0#32
  let v1483 : BitVec 1 := Scalar.cmpi .slt v1481 c0_i32_825
  let c0_i32_826 : BitVec 32 := 0#32
  let v1484 : BitVec 1 := Scalar.cmpi .slt v1480 c0_i32_826
  let v1485 : BitVec 1 := Scalar.xori v1483 v1484
  let c0_i32_824 : BitVec 32 := 0#32
  let v1482 : BitVec 1 := Scalar.cmpi .ne v1481 c0_i32_824
  let v1486 : BitVec 1 := Scalar.andi v1485 v1482
  let v1487 : BitVec 32 := Scalar.addi v1481 v1480
  let v1488 : BitVec 32 := Scalar.select v1486 v1487 v1481
  let v1489 : Index := Scalar.indexCast v1488
  let c0_829 : Index := 0#32
  let c0_830 : Index := 0#32
  ![0, 0, v1489.toNat, 0, 0]
def k0_off4 (k0_t1 : Fin k0_t1_loop.trips) (c0_i32_839 : BitVec 32) : Fin 5 → Nat :=
  let c1_840 : Index := 1#32
  let c0_841 : Index := 0#32
  let c0_i32_716 : BitVec 32 := 0#32
  let c1_i32_718 : BitVec 32 := 1#32
  let arg20 : BitVec 32 := Scf.iv c0_i32_716 c1_i32_718 k0_t1
  let c16_i32_720 : BitVec 32 := 16#32
  let v1368 : BitVec 32 := Scalar.muli arg20 c16_i32_720
  let v1369 : BitVec 32 := v1368
  let v1729 : BitVec 32 := Scalar.addi v1369 c0_i32_839
  let v1730 : Index := Scalar.indexCast v1729
  let c0_842 : Index := 0#32
  let c0_843 : Index := 0#32
  ![1, 0, v1730.toNat, 0, 0]
def k0_off5 (k0_t1 : Fin k0_t1_loop.trips) : Fin 5 → Nat :=
  let c1_927 : Index := 1#32
  let c0_928 : Index := 0#32
  let c0_i32_716 : BitVec 32 := 0#32
  let c1_i32_718 : BitVec 32 := 1#32
  let arg20 : BitVec 32 := Scf.iv c0_i32_716 c1_i32_718 k0_t1
  let c16_i32_720 : BitVec 32 := 16#32
  let v1368 : BitVec 32 := Scalar.muli arg20 c16_i32_720
  let v1369 : BitVec 32 := v1368
  let c64_i32_919 : BitVec 32 := 64#32
  let v1810 : BitVec 32 := Scalar.addi v1369 c64_i32_919
  let c1_i32_920 : BitVec 32 := 1#32
  let v1811 : BitVec 32 := Scalar.subi v1810 c1_i32_920
  let c64_i32_921 : BitVec 32 := 64#32
  let c0_i32_922 : BitVec 32 := 0#32
  let v1812 : BitVec 1 := Scalar.cmpi .eq c64_i32_921 c0_i32_922
  let c1_i32_923 : BitVec 32 := 1#32
  let v1813 : BitVec 32 := Scalar.select v1812 c1_i32_923 c64_i32_921
  let v1814 : BitVec 32 := Scalar.remsi v1811 v1813
  let c0_i32_925 : BitVec 32 := 0#32
  let v1816 : BitVec 1 := Scalar.cmpi .slt v1814 c0_i32_925
  let c0_i32_926 : BitVec 32 := 0#32
  let v1817 : BitVec 1 := Scalar.cmpi .slt v1813 c0_i32_926
  let v1818 : BitVec 1 := Scalar.xori v1816 v1817
  let c0_i32_924 : BitVec 32 := 0#32
  let v1815 : BitVec 1 := Scalar.cmpi .ne v1814 c0_i32_924
  let v1819 : BitVec 1 := Scalar.andi v1818 v1815
  let v1820 : BitVec 32 := Scalar.addi v1814 v1813
  let v1821 : BitVec 32 := Scalar.select v1819 v1820 v1814
  let v1822 : Index := Scalar.indexCast v1821
  let c0_929 : Index := 0#32
  let c0_930 : Index := 0#32
  ![1, 0, v1822.toNat, 0, 0]
def k0_off6 (k0_t1 : Fin k0_t1_loop.trips) : Fin 5 → Nat :=
  let c1_942 : Index := 1#32
  let c0_943 : Index := 0#32
  let c0_i32_716 : BitVec 32 := 0#32
  let c1_i32_718 : BitVec 32 := 1#32
  let arg20 : BitVec 32 := Scf.iv c0_i32_716 c1_i32_718 k0_t1
  let c16_i32_720 : BitVec 32 := 16#32
  let v1368 : BitVec 32 := Scalar.muli arg20 c16_i32_720
  let v1369 : BitVec 32 := v1368
  let c16_i32_935 : BitVec 32 := 16#32
  let v1833 : BitVec 32 := Scalar.addi v1369 c16_i32_935
  let c64_i32_936 : BitVec 32 := 64#32
  let c0_i32_937 : BitVec 32 := 0#32
  let v1834 : BitVec 1 := Scalar.cmpi .eq c64_i32_936 c0_i32_937
  let c1_i32_938 : BitVec 32 := 1#32
  let v1835 : BitVec 32 := Scalar.select v1834 c1_i32_938 c64_i32_936
  let v1836 : BitVec 32 := Scalar.remsi v1833 v1835
  let c0_i32_940 : BitVec 32 := 0#32
  let v1838 : BitVec 1 := Scalar.cmpi .slt v1836 c0_i32_940
  let c0_i32_941 : BitVec 32 := 0#32
  let v1839 : BitVec 1 := Scalar.cmpi .slt v1835 c0_i32_941
  let v1840 : BitVec 1 := Scalar.xori v1838 v1839
  let c0_i32_939 : BitVec 32 := 0#32
  let v1837 : BitVec 1 := Scalar.cmpi .ne v1836 c0_i32_939
  let v1841 : BitVec 1 := Scalar.andi v1840 v1837
  let v1842 : BitVec 32 := Scalar.addi v1836 v1835
  let v1843 : BitVec 32 := Scalar.select v1841 v1842 v1836
  let v1844 : Index := Scalar.indexCast v1843
  let c0_944 : Index := 0#32
  let c0_945 : Index := 0#32
  ![1, 0, v1844.toNat, 0, 0]
def k0_off7 (k0_t1 : Fin k0_t1_loop.trips) (c0_i32_951 : BitVec 32) : Fin 3 → Nat :=
  let c0_i32_716 : BitVec 32 := 0#32
  let c1_i32_718 : BitVec 32 := 1#32
  let arg20 : BitVec 32 := Scf.iv c0_i32_716 c1_i32_718 k0_t1
  let c16_i32_720 : BitVec 32 := 16#32
  let v1368 : BitVec 32 := Scalar.muli arg20 c16_i32_720
  let v1369 : BitVec 32 := v1368
  let v2080 : BitVec 32 := Scalar.addi v1369 c0_i32_951
  let v2082 : Index := Scalar.indexCast v2080
  let c0_952 : Index := 0#32
  let c0_953 : Index := 0#32
  ![v2082.toNat, 0, 0]
def k0_off8 (k0_t1 : Fin k0_t1_loop.trips) : Fin 3 → Nat :=
  let c0_1015 : Index := 0#32
  let c0_i32_716 : BitVec 32 := 0#32
  let c1_i32_718 : BitVec 32 := 1#32
  let arg20 : BitVec 32 := Scf.iv c0_i32_716 c1_i32_718 k0_t1
  let c16_i32_720 : BitVec 32 := 16#32
  let v1368 : BitVec 32 := Scalar.muli arg20 c16_i32_720
  let v1369 : BitVec 32 := v1368
  let v2210 : Index := Scalar.indexCast v1369
  let c0_1016 : Index := 0#32
  ![0, v2210.toNat, 0]
def k0_cond2 (i : grid0.Coords) : BitVec 1 :=
  let arg2 : BitVec 32 := BitVec.ofNat 32 (i 2).val
  let c4_i32 : BitVec 32 := 4#32
  let v3 : BitVec 1 := Scalar.cmpi .eq arg2 c4_i32
  let v4 : BitVec 32 := Scalar.extui v3
  let c0_i32_1 : BitVec 32 := 0#32
  let v5 : BitVec 1 := Scalar.cmpi .ne v4 c0_i32_1
  v5

@[reducible] def k0_t2_loop : Scf.Loop 32 :=
  let c0_i32_716 : BitVec 32 := 0#32
  let c4_i32_717 : BitVec 32 := 4#32
  let v1367 : BitVec 32 := Scalar.addi c0_i32_716 c4_i32_717
  let c1_i32_718 : BitVec 32 := 1#32
  ⟨c0_i32_716, v1367, c1_i32_718⟩
def k0_mult2 (k0_t2 : Fin k0_t2_loop.trips) : BitVec 32 :=
  let c0_i32_716 : BitVec 32 := 0#32
  let c1_i32_718 : BitVec 32 := 1#32
  let arg20 : BitVec 32 := Scf.iv c0_i32_716 c1_i32_718 k0_t2
  let c16_i32_720 : BitVec 32 := 16#32
  let v1368 : BitVec 32 := Scalar.muli arg20 c16_i32_720
  v1368
def k0_off9 (k0_t2 : Fin k0_t2_loop.trips) (c0_i32_721 : BitVec 32) : Fin 5 → Nat :=
  let c0_722 : Index := 0#32
  let c0_723 : Index := 0#32
  let c0_i32_716 : BitVec 32 := 0#32
  let c1_i32_718 : BitVec 32 := 1#32
  let arg20 : BitVec 32 := Scf.iv c0_i32_716 c1_i32_718 k0_t2
  let c16_i32_720 : BitVec 32 := 16#32
  let v1368 : BitVec 32 := Scalar.muli arg20 c16_i32_720
  let v1369 : BitVec 32 := v1368
  let v1370 : BitVec 32 := Scalar.addi v1369 c0_i32_721
  let v1371 : Index := Scalar.indexCast v1370
  let c0_724 : Index := 0#32
  let c0_725 : Index := 0#32
  ![0, 0, v1371.toNat, 0, 0]
def k0_off10 (k0_t2 : Fin k0_t2_loop.trips) (c0_i32_721 : BitVec 32) : Fin 5 → Nat :=
  let c1_726 : Index := 1#32
  let c0_727 : Index := 0#32
  let c0_i32_716 : BitVec 32 := 0#32
  let c1_i32_718 : BitVec 32 := 1#32
  let arg20 : BitVec 32 := Scf.iv c0_i32_716 c1_i32_718 k0_t2
  let c16_i32_720 : BitVec 32 := 16#32
  let v1368 : BitVec 32 := Scalar.muli arg20 c16_i32_720
  let v1369 : BitVec 32 := v1368
  let v1370 : BitVec 32 := Scalar.addi v1369 c0_i32_721
  let v1374 : Index := Scalar.indexCast v1370
  let c0_728 : Index := 0#32
  let c0_729 : Index := 0#32
  ![1, 0, v1374.toNat, 0, 0]
def k0_off11 (k0_t2 : Fin k0_t2_loop.trips) (c0_i32_721 : BitVec 32) : Fin 3 → Nat :=
  let c0_i32_716 : BitVec 32 := 0#32
  let c1_i32_718 : BitVec 32 := 1#32
  let arg20 : BitVec 32 := Scf.iv c0_i32_716 c1_i32_718 k0_t2
  let c16_i32_720 : BitVec 32 := 16#32
  let v1368 : BitVec 32 := Scalar.muli arg20 c16_i32_720
  let v1369 : BitVec 32 := v1368
  let v1370 : BitVec 32 := Scalar.addi v1369 c0_i32_721
  let v1378 : Index := Scalar.indexCast v1370
  let c0_730 : Index := 0#32
  let c0_731 : Index := 0#32
  ![v1378.toNat, 0, 0]
def k0_off12 (k0_t2 : Fin k0_t2_loop.trips) : Fin 3 → Nat :=
  let c0_913 : Index := 0#32
  let c0_i32_716 : BitVec 32 := 0#32
  let c1_i32_718 : BitVec 32 := 1#32
  let arg20 : BitVec 32 := Scf.iv c0_i32_716 c1_i32_718 k0_t2
  let c16_i32_720 : BitVec 32 := 16#32
  let v1368 : BitVec 32 := Scalar.muli arg20 c16_i32_720
  let v1369 : BitVec 32 := v1368
  let v1596 : Index := Scalar.indexCast v1369
  let c0_914 : Index := 0#32
  ![0, v1596.toNat, 0]
def k0_off13 (i : grid0.Coords) (c0_i32_7 : BitVec 32) : Fin 3 → Nat :=
  let arg2 : BitVec 32 := BitVec.ofNat 32 (i 2).val
  let c4_i32_2 : BitVec 32 := 4#32
  let c0_i32_3 : BitVec 32 := 0#32
  let v6 : BitVec 1 := Scalar.cmpi .eq c4_i32_2 c0_i32_3
  let c1_i32 : BitVec 32 := 1#32
  let v7 : BitVec 32 := Scalar.select v6 c1_i32 c4_i32_2
  let v8 : BitVec 32 := Scalar.remsi arg2 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c32_i32 : BitVec 32 := 32#32
  let v16 : BitVec 32 := Scalar.muli v15 c32_i32
  let v17 : BitVec 32 := Scalar.addi v16 c0_i32_7
  let v18 : Index := Scalar.indexCast v17
  let c0 : Index := 0#32
  let c0_8 : Index := 0#32
  ![v18.toNat, 0, 0]
def k0_off14 (i : grid0.Coords) (c0_i32_9 : BitVec 32) : Fin 3 → Nat :=
  let c128_i32 : BitVec 32 := 128#32
  let arg2 : BitVec 32 := BitVec.ofNat 32 (i 2).val
  let c4_i32_2 : BitVec 32 := 4#32
  let c0_i32_3 : BitVec 32 := 0#32
  let v6 : BitVec 1 := Scalar.cmpi .eq c4_i32_2 c0_i32_3
  let c1_i32 : BitVec 32 := 1#32
  let v7 : BitVec 32 := Scalar.select v6 c1_i32 c4_i32_2
  let v8 : BitVec 32 := Scalar.remsi arg2 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c32_i32 : BitVec 32 := 32#32
  let v16 : BitVec 32 := Scalar.muli v15 c32_i32
  let v21 : BitVec 32 := Scalar.addi c128_i32 v16
  let v22 : BitVec 32 := Scalar.addi v21 c0_i32_9
  let v23 : Index := Scalar.indexCast v22
  let c0_10 : Index := 0#32
  let c0_11 : Index := 0#32
  ![v23.toNat, 0, 0]
def k0_cond3 (i : grid0.Coords) : BitVec 1 :=
  let arg2 : BitVec 32 := BitVec.ofNat 32 (i 2).val
  let c3_i32_712 : BitVec 32 := 3#32
  let v1361 : BitVec 1 := Scalar.cmpi .eq arg2 c3_i32_712
  let v1362 : BitVec 32 := Scalar.extui v1361
  let c0_i32_713 : BitVec 32 := 0#32
  let v1363 : BitVec 1 := Scalar.cmpi .ne v1362 c0_i32_713
  v1363

@[reducible] def k0_t3_loop : Scf.Loop 32 :=
  let c0_i32_720 : BitVec 32 := 0#32
  let c4_i32_721 : BitVec 32 := 4#32
  let v1371 : BitVec 32 := Scalar.addi c0_i32_720 c4_i32_721
  let c1_i32_722 : BitVec 32 := 1#32
  ⟨c0_i32_720, v1371, c1_i32_722⟩
def k0_mult3 (k0_t3 : Fin k0_t3_loop.trips) : BitVec 32 :=
  let c0_i32_720 : BitVec 32 := 0#32
  let c1_i32_722 : BitVec 32 := 1#32
  let arg20 : BitVec 32 := Scf.iv c0_i32_720 c1_i32_722 k0_t3
  let c16_i32_724 : BitVec 32 := 16#32
  let v1372 : BitVec 32 := Scalar.muli arg20 c16_i32_724
  v1372
def k0_off15 (k0_t3 : Fin k0_t3_loop.trips) : Fin 3 → Nat :=
  let c0_725 : Index := 0#32
  let c0_i32_720 : BitVec 32 := 0#32
  let c1_i32_722 : BitVec 32 := 1#32
  let arg20 : BitVec 32 := Scf.iv c0_i32_720 c1_i32_722 k0_t3
  let c16_i32_724 : BitVec 32 := 16#32
  let v1372 : BitVec 32 := Scalar.muli arg20 c16_i32_724
  let v1373 : BitVec 32 := v1372
  let v1374 : Index := Scalar.indexCast v1373
  let c0_726 : Index := 0#32
  ![0, v1374.toNat, 0]
def k0_off16 (k0_t3 : Fin k0_t3_loop.trips) (c0_i32_727 : BitVec 32) : Fin 5 → Nat :=
  let c0_728 : Index := 0#32
  let c0_729 : Index := 0#32
  let c0_i32_720 : BitVec 32 := 0#32
  let c1_i32_722 : BitVec 32 := 1#32
  let arg20 : BitVec 32 := Scf.iv c0_i32_720 c1_i32_722 k0_t3
  let c16_i32_724 : BitVec 32 := 16#32
  let v1372 : BitVec 32 := Scalar.muli arg20 c16_i32_724
  let v1373 : BitVec 32 := v1372
  let v1377 : BitVec 32 := Scalar.addi v1373 c0_i32_727
  let v1378 : Index := Scalar.indexCast v1377
  let c0_730 : Index := 0#32
  let c0_731 : Index := 0#32
  ![0, 0, v1378.toNat, 0, 0]
def k0_off17 (k0_t3 : Fin k0_t3_loop.trips) : Fin 5 → Nat :=
  let c0_814 : Index := 0#32
  let c0_815 : Index := 0#32
  let c0_i32_720 : BitVec 32 := 0#32
  let c1_i32_722 : BitVec 32 := 1#32
  let arg20 : BitVec 32 := Scf.iv c0_i32_720 c1_i32_722 k0_t3
  let c16_i32_724 : BitVec 32 := 16#32
  let v1372 : BitVec 32 := Scalar.muli arg20 c16_i32_724
  let v1373 : BitVec 32 := v1372
  let c64_i32 : BitVec 32 := 64#32
  let v1458 : BitVec 32 := Scalar.addi v1373 c64_i32
  let c1_i32_807 : BitVec 32 := 1#32
  let v1459 : BitVec 32 := Scalar.subi v1458 c1_i32_807
  let c64_i32_808 : BitVec 32 := 64#32
  let c0_i32_809 : BitVec 32 := 0#32
  let v1460 : BitVec 1 := Scalar.cmpi .eq c64_i32_808 c0_i32_809
  let c1_i32_810 : BitVec 32 := 1#32
  let v1461 : BitVec 32 := Scalar.select v1460 c1_i32_810 c64_i32_808
  let v1462 : BitVec 32 := Scalar.remsi v1459 v1461
  let c0_i32_812 : BitVec 32 := 0#32
  let v1464 : BitVec 1 := Scalar.cmpi .slt v1462 c0_i32_812
  let c0_i32_813 : BitVec 32 := 0#32
  let v1465 : BitVec 1 := Scalar.cmpi .slt v1461 c0_i32_813
  let v1466 : BitVec 1 := Scalar.xori v1464 v1465
  let c0_i32_811 : BitVec 32 := 0#32
  let v1463 : BitVec 1 := Scalar.cmpi .ne v1462 c0_i32_811
  let v1467 : BitVec 1 := Scalar.andi v1466 v1463
  let v1468 : BitVec 32 := Scalar.addi v1462 v1461
  let v1469 : BitVec 32 := Scalar.select v1467 v1468 v1462
  let v1470 : Index := Scalar.indexCast v1469
  let c0_816 : Index := 0#32
  let c0_817 : Index := 0#32
  ![0, 0, v1470.toNat, 0, 0]
def k0_off18 (k0_t3 : Fin k0_t3_loop.trips) : Fin 5 → Nat :=
  let c0_829 : Index := 0#32
  let c0_830 : Index := 0#32
  let c0_i32_720 : BitVec 32 := 0#32
  let c1_i32_722 : BitVec 32 := 1#32
  let arg20 : BitVec 32 := Scf.iv c0_i32_720 c1_i32_722 k0_t3
  let c16_i32_724 : BitVec 32 := 16#32
  let v1372 : BitVec 32 := Scalar.muli arg20 c16_i32_724
  let v1373 : BitVec 32 := v1372
  let c16_i32_822 : BitVec 32 := 16#32
  let v1481 : BitVec 32 := Scalar.addi v1373 c16_i32_822
  let c64_i32_823 : BitVec 32 := 64#32
  let c0_i32_824 : BitVec 32 := 0#32
  let v1482 : BitVec 1 := Scalar.cmpi .eq c64_i32_823 c0_i32_824
  let c1_i32_825 : BitVec 32 := 1#32
  let v1483 : BitVec 32 := Scalar.select v1482 c1_i32_825 c64_i32_823
  let v1484 : BitVec 32 := Scalar.remsi v1481 v1483
  let c0_i32_827 : BitVec 32 := 0#32
  let v1486 : BitVec 1 := Scalar.cmpi .slt v1484 c0_i32_827
  let c0_i32_828 : BitVec 32 := 0#32
  let v1487 : BitVec 1 := Scalar.cmpi .slt v1483 c0_i32_828
  let v1488 : BitVec 1 := Scalar.xori v1486 v1487
  let c0_i32_826 : BitVec 32 := 0#32
  let v1485 : BitVec 1 := Scalar.cmpi .ne v1484 c0_i32_826
  let v1489 : BitVec 1 := Scalar.andi v1488 v1485
  let v1490 : BitVec 32 := Scalar.addi v1484 v1483
  let v1491 : BitVec 32 := Scalar.select v1489 v1490 v1484
  let v1492 : Index := Scalar.indexCast v1491
  let c0_831 : Index := 0#32
  let c0_832 : Index := 0#32
  ![0, 0, v1492.toNat, 0, 0]
def k0_off19 (k0_t3 : Fin k0_t3_loop.trips) (c0_i32_837 : BitVec 32) : Fin 5 → Nat :=
  let c1_838 : Index := 1#32
  let c0_839 : Index := 0#32
  let c0_i32_720 : BitVec 32 := 0#32
  let c1_i32_722 : BitVec 32 := 1#32
  let arg20 : BitVec 32 := Scf.iv c0_i32_720 c1_i32_722 k0_t3
  let c16_i32_724 : BitVec 32 := 16#32
  let v1372 : BitVec 32 := Scalar.muli arg20 c16_i32_724
  let v1373 : BitVec 32 := v1372
  let v1712 : BitVec 32 := Scalar.addi v1373 c0_i32_837
  let v1713 : Index := Scalar.indexCast v1712
  let c0_840 : Index := 0#32
  let c0_841 : Index := 0#32
  ![1, 0, v1713.toNat, 0, 0]
def k0_off20 (k0_t3 : Fin k0_t3_loop.trips) : Fin 5 → Nat :=
  let c1_925 : Index := 1#32
  let c0_926 : Index := 0#32
  let c0_i32_720 : BitVec 32 := 0#32
  let c1_i32_722 : BitVec 32 := 1#32
  let arg20 : BitVec 32 := Scf.iv c0_i32_720 c1_i32_722 k0_t3
  let c16_i32_724 : BitVec 32 := 16#32
  let v1372 : BitVec 32 := Scalar.muli arg20 c16_i32_724
  let v1373 : BitVec 32 := v1372
  let c64_i32_917 : BitVec 32 := 64#32
  let v1793 : BitVec 32 := Scalar.addi v1373 c64_i32_917
  let c1_i32_918 : BitVec 32 := 1#32
  let v1794 : BitVec 32 := Scalar.subi v1793 c1_i32_918
  let c64_i32_919 : BitVec 32 := 64#32
  let c0_i32_920 : BitVec 32 := 0#32
  let v1795 : BitVec 1 := Scalar.cmpi .eq c64_i32_919 c0_i32_920
  let c1_i32_921 : BitVec 32 := 1#32
  let v1796 : BitVec 32 := Scalar.select v1795 c1_i32_921 c64_i32_919
  let v1797 : BitVec 32 := Scalar.remsi v1794 v1796
  let c0_i32_923 : BitVec 32 := 0#32
  let v1799 : BitVec 1 := Scalar.cmpi .slt v1797 c0_i32_923
  let c0_i32_924 : BitVec 32 := 0#32
  let v1800 : BitVec 1 := Scalar.cmpi .slt v1796 c0_i32_924
  let v1801 : BitVec 1 := Scalar.xori v1799 v1800
  let c0_i32_922 : BitVec 32 := 0#32
  let v1798 : BitVec 1 := Scalar.cmpi .ne v1797 c0_i32_922
  let v1802 : BitVec 1 := Scalar.andi v1801 v1798
  let v1803 : BitVec 32 := Scalar.addi v1797 v1796
  let v1804 : BitVec 32 := Scalar.select v1802 v1803 v1797
  let v1805 : Index := Scalar.indexCast v1804
  let c0_927 : Index := 0#32
  let c0_928 : Index := 0#32
  ![1, 0, v1805.toNat, 0, 0]
def k0_off21 (k0_t3 : Fin k0_t3_loop.trips) : Fin 5 → Nat :=
  let c1_940 : Index := 1#32
  let c0_941 : Index := 0#32
  let c0_i32_720 : BitVec 32 := 0#32
  let c1_i32_722 : BitVec 32 := 1#32
  let arg20 : BitVec 32 := Scf.iv c0_i32_720 c1_i32_722 k0_t3
  let c16_i32_724 : BitVec 32 := 16#32
  let v1372 : BitVec 32 := Scalar.muli arg20 c16_i32_724
  let v1373 : BitVec 32 := v1372
  let c16_i32_933 : BitVec 32 := 16#32
  let v1816 : BitVec 32 := Scalar.addi v1373 c16_i32_933
  let c64_i32_934 : BitVec 32 := 64#32
  let c0_i32_935 : BitVec 32 := 0#32
  let v1817 : BitVec 1 := Scalar.cmpi .eq c64_i32_934 c0_i32_935
  let c1_i32_936 : BitVec 32 := 1#32
  let v1818 : BitVec 32 := Scalar.select v1817 c1_i32_936 c64_i32_934
  let v1819 : BitVec 32 := Scalar.remsi v1816 v1818
  let c0_i32_938 : BitVec 32 := 0#32
  let v1821 : BitVec 1 := Scalar.cmpi .slt v1819 c0_i32_938
  let c0_i32_939 : BitVec 32 := 0#32
  let v1822 : BitVec 1 := Scalar.cmpi .slt v1818 c0_i32_939
  let v1823 : BitVec 1 := Scalar.xori v1821 v1822
  let c0_i32_937 : BitVec 32 := 0#32
  let v1820 : BitVec 1 := Scalar.cmpi .ne v1819 c0_i32_937
  let v1824 : BitVec 1 := Scalar.andi v1823 v1820
  let v1825 : BitVec 32 := Scalar.addi v1819 v1818
  let v1826 : BitVec 32 := Scalar.select v1824 v1825 v1819
  let v1827 : Index := Scalar.indexCast v1826
  let c0_942 : Index := 0#32
  let c0_943 : Index := 0#32
  ![1, 0, v1827.toNat, 0, 0]
def k0_off22 (k0_t3 : Fin k0_t3_loop.trips) (c0_i32_949 : BitVec 32) : Fin 3 → Nat :=
  let c0_i32_720 : BitVec 32 := 0#32
  let c1_i32_722 : BitVec 32 := 1#32
  let arg20 : BitVec 32 := Scf.iv c0_i32_720 c1_i32_722 k0_t3
  let c16_i32_724 : BitVec 32 := 16#32
  let v1372 : BitVec 32 := Scalar.muli arg20 c16_i32_724
  let v1373 : BitVec 32 := v1372
  let v2047 : BitVec 32 := Scalar.addi v1373 c0_i32_949
  let v2048 : Index := Scalar.indexCast v2047
  let c0_950 : Index := 0#32
  let c0_951 : Index := 0#32
  ![v2048.toNat, 0, 0]
def k0_cond4 (i : grid0.Coords) : BitVec 1 :=
  let arg2 : BitVec 32 := BitVec.ofNat 32 (i 2).val
  let c7_i32_714 : BitVec 32 := 7#32
  let v1364 : BitVec 1 := Scalar.cmpi .eq arg2 c7_i32_714
  let v1365 : BitVec 32 := Scalar.extui v1364
  let c0_i32_715 : BitVec 32 := 0#32
  let v1366 : BitVec 1 := Scalar.cmpi .ne v1365 c0_i32_715
  v1366

@[reducible] def k0_t4_loop : Scf.Loop 32 :=
  let c0_i32_720 : BitVec 32 := 0#32
  let c4_i32_721 : BitVec 32 := 4#32
  let v1371 : BitVec 32 := Scalar.addi c0_i32_720 c4_i32_721
  let c1_i32_722 : BitVec 32 := 1#32
  ⟨c0_i32_720, v1371, c1_i32_722⟩
def k0_mult4 (k0_t4 : Fin k0_t4_loop.trips) : BitVec 32 :=
  let c0_i32_720 : BitVec 32 := 0#32
  let c1_i32_722 : BitVec 32 := 1#32
  let arg20 : BitVec 32 := Scf.iv c0_i32_720 c1_i32_722 k0_t4
  let c16_i32_724 : BitVec 32 := 16#32
  let v1372 : BitVec 32 := Scalar.muli arg20 c16_i32_724
  v1372
def k0_off23 (k0_t4 : Fin k0_t4_loop.trips) : Fin 3 → Nat :=
  let c0_725 : Index := 0#32
  let c0_i32_720 : BitVec 32 := 0#32
  let c1_i32_722 : BitVec 32 := 1#32
  let arg20 : BitVec 32 := Scf.iv c0_i32_720 c1_i32_722 k0_t4
  let c16_i32_724 : BitVec 32 := 16#32
  let v1372 : BitVec 32 := Scalar.muli arg20 c16_i32_724
  let v1373 : BitVec 32 := v1372
  let v1374 : Index := Scalar.indexCast v1373
  let c0_726 : Index := 0#32
  ![0, v1374.toNat, 0]
def k0_off24 (k0_t4 : Fin k0_t4_loop.trips) (c0_i32_727 : BitVec 32) : Fin 5 → Nat :=
  let c0_728 : Index := 0#32
  let c0_729 : Index := 0#32
  let c0_i32_720 : BitVec 32 := 0#32
  let c1_i32_722 : BitVec 32 := 1#32
  let arg20 : BitVec 32 := Scf.iv c0_i32_720 c1_i32_722 k0_t4
  let c16_i32_724 : BitVec 32 := 16#32
  let v1372 : BitVec 32 := Scalar.muli arg20 c16_i32_724
  let v1373 : BitVec 32 := v1372
  let v1377 : BitVec 32 := Scalar.addi v1373 c0_i32_727
  let v1378 : Index := Scalar.indexCast v1377
  let c0_730 : Index := 0#32
  let c0_731 : Index := 0#32
  ![0, 0, v1378.toNat, 0, 0]
def k0_off25 (k0_t4 : Fin k0_t4_loop.trips) : Fin 5 → Nat :=
  let c0_814 : Index := 0#32
  let c0_815 : Index := 0#32
  let c0_i32_720 : BitVec 32 := 0#32
  let c1_i32_722 : BitVec 32 := 1#32
  let arg20 : BitVec 32 := Scf.iv c0_i32_720 c1_i32_722 k0_t4
  let c16_i32_724 : BitVec 32 := 16#32
  let v1372 : BitVec 32 := Scalar.muli arg20 c16_i32_724
  let v1373 : BitVec 32 := v1372
  let c64_i32 : BitVec 32 := 64#32
  let v1458 : BitVec 32 := Scalar.addi v1373 c64_i32
  let c1_i32_807 : BitVec 32 := 1#32
  let v1459 : BitVec 32 := Scalar.subi v1458 c1_i32_807
  let c64_i32_808 : BitVec 32 := 64#32
  let c0_i32_809 : BitVec 32 := 0#32
  let v1460 : BitVec 1 := Scalar.cmpi .eq c64_i32_808 c0_i32_809
  let c1_i32_810 : BitVec 32 := 1#32
  let v1461 : BitVec 32 := Scalar.select v1460 c1_i32_810 c64_i32_808
  let v1462 : BitVec 32 := Scalar.remsi v1459 v1461
  let c0_i32_812 : BitVec 32 := 0#32
  let v1464 : BitVec 1 := Scalar.cmpi .slt v1462 c0_i32_812
  let c0_i32_813 : BitVec 32 := 0#32
  let v1465 : BitVec 1 := Scalar.cmpi .slt v1461 c0_i32_813
  let v1466 : BitVec 1 := Scalar.xori v1464 v1465
  let c0_i32_811 : BitVec 32 := 0#32
  let v1463 : BitVec 1 := Scalar.cmpi .ne v1462 c0_i32_811
  let v1467 : BitVec 1 := Scalar.andi v1466 v1463
  let v1468 : BitVec 32 := Scalar.addi v1462 v1461
  let v1469 : BitVec 32 := Scalar.select v1467 v1468 v1462
  let v1470 : Index := Scalar.indexCast v1469
  let c0_816 : Index := 0#32
  let c0_817 : Index := 0#32
  ![0, 0, v1470.toNat, 0, 0]
def k0_off26 (k0_t4 : Fin k0_t4_loop.trips) : Fin 5 → Nat :=
  let c0_829 : Index := 0#32
  let c0_830 : Index := 0#32
  let c0_i32_720 : BitVec 32 := 0#32
  let c1_i32_722 : BitVec 32 := 1#32
  let arg20 : BitVec 32 := Scf.iv c0_i32_720 c1_i32_722 k0_t4
  let c16_i32_724 : BitVec 32 := 16#32
  let v1372 : BitVec 32 := Scalar.muli arg20 c16_i32_724
  let v1373 : BitVec 32 := v1372
  let c16_i32_822 : BitVec 32 := 16#32
  let v1481 : BitVec 32 := Scalar.addi v1373 c16_i32_822
  let c64_i32_823 : BitVec 32 := 64#32
  let c0_i32_824 : BitVec 32 := 0#32
  let v1482 : BitVec 1 := Scalar.cmpi .eq c64_i32_823 c0_i32_824
  let c1_i32_825 : BitVec 32 := 1#32
  let v1483 : BitVec 32 := Scalar.select v1482 c1_i32_825 c64_i32_823
  let v1484 : BitVec 32 := Scalar.remsi v1481 v1483
  let c0_i32_827 : BitVec 32 := 0#32
  let v1486 : BitVec 1 := Scalar.cmpi .slt v1484 c0_i32_827
  let c0_i32_828 : BitVec 32 := 0#32
  let v1487 : BitVec 1 := Scalar.cmpi .slt v1483 c0_i32_828
  let v1488 : BitVec 1 := Scalar.xori v1486 v1487
  let c0_i32_826 : BitVec 32 := 0#32
  let v1485 : BitVec 1 := Scalar.cmpi .ne v1484 c0_i32_826
  let v1489 : BitVec 1 := Scalar.andi v1488 v1485
  let v1490 : BitVec 32 := Scalar.addi v1484 v1483
  let v1491 : BitVec 32 := Scalar.select v1489 v1490 v1484
  let v1492 : Index := Scalar.indexCast v1491
  let c0_831 : Index := 0#32
  let c0_832 : Index := 0#32
  ![0, 0, v1492.toNat, 0, 0]
def k0_off27 (k0_t4 : Fin k0_t4_loop.trips) (c0_i32_837 : BitVec 32) : Fin 5 → Nat :=
  let c1_838 : Index := 1#32
  let c0_839 : Index := 0#32
  let c0_i32_720 : BitVec 32 := 0#32
  let c1_i32_722 : BitVec 32 := 1#32
  let arg20 : BitVec 32 := Scf.iv c0_i32_720 c1_i32_722 k0_t4
  let c16_i32_724 : BitVec 32 := 16#32
  let v1372 : BitVec 32 := Scalar.muli arg20 c16_i32_724
  let v1373 : BitVec 32 := v1372
  let v1712 : BitVec 32 := Scalar.addi v1373 c0_i32_837
  let v1713 : Index := Scalar.indexCast v1712
  let c0_840 : Index := 0#32
  let c0_841 : Index := 0#32
  ![1, 0, v1713.toNat, 0, 0]
def k0_off28 (k0_t4 : Fin k0_t4_loop.trips) : Fin 5 → Nat :=
  let c1_925 : Index := 1#32
  let c0_926 : Index := 0#32
  let c0_i32_720 : BitVec 32 := 0#32
  let c1_i32_722 : BitVec 32 := 1#32
  let arg20 : BitVec 32 := Scf.iv c0_i32_720 c1_i32_722 k0_t4
  let c16_i32_724 : BitVec 32 := 16#32
  let v1372 : BitVec 32 := Scalar.muli arg20 c16_i32_724
  let v1373 : BitVec 32 := v1372
  let c64_i32_917 : BitVec 32 := 64#32
  let v1793 : BitVec 32 := Scalar.addi v1373 c64_i32_917
  let c1_i32_918 : BitVec 32 := 1#32
  let v1794 : BitVec 32 := Scalar.subi v1793 c1_i32_918
  let c64_i32_919 : BitVec 32 := 64#32
  let c0_i32_920 : BitVec 32 := 0#32
  let v1795 : BitVec 1 := Scalar.cmpi .eq c64_i32_919 c0_i32_920
  let c1_i32_921 : BitVec 32 := 1#32
  let v1796 : BitVec 32 := Scalar.select v1795 c1_i32_921 c64_i32_919
  let v1797 : BitVec 32 := Scalar.remsi v1794 v1796
  let c0_i32_923 : BitVec 32 := 0#32
  let v1799 : BitVec 1 := Scalar.cmpi .slt v1797 c0_i32_923
  let c0_i32_924 : BitVec 32 := 0#32
  let v1800 : BitVec 1 := Scalar.cmpi .slt v1796 c0_i32_924
  let v1801 : BitVec 1 := Scalar.xori v1799 v1800
  let c0_i32_922 : BitVec 32 := 0#32
  let v1798 : BitVec 1 := Scalar.cmpi .ne v1797 c0_i32_922
  let v1802 : BitVec 1 := Scalar.andi v1801 v1798
  let v1803 : BitVec 32 := Scalar.addi v1797 v1796
  let v1804 : BitVec 32 := Scalar.select v1802 v1803 v1797
  let v1805 : Index := Scalar.indexCast v1804
  let c0_927 : Index := 0#32
  let c0_928 : Index := 0#32
  ![1, 0, v1805.toNat, 0, 0]
def k0_off29 (k0_t4 : Fin k0_t4_loop.trips) : Fin 5 → Nat :=
  let c1_940 : Index := 1#32
  let c0_941 : Index := 0#32
  let c0_i32_720 : BitVec 32 := 0#32
  let c1_i32_722 : BitVec 32 := 1#32
  let arg20 : BitVec 32 := Scf.iv c0_i32_720 c1_i32_722 k0_t4
  let c16_i32_724 : BitVec 32 := 16#32
  let v1372 : BitVec 32 := Scalar.muli arg20 c16_i32_724
  let v1373 : BitVec 32 := v1372
  let c16_i32_933 : BitVec 32 := 16#32
  let v1816 : BitVec 32 := Scalar.addi v1373 c16_i32_933
  let c64_i32_934 : BitVec 32 := 64#32
  let c0_i32_935 : BitVec 32 := 0#32
  let v1817 : BitVec 1 := Scalar.cmpi .eq c64_i32_934 c0_i32_935
  let c1_i32_936 : BitVec 32 := 1#32
  let v1818 : BitVec 32 := Scalar.select v1817 c1_i32_936 c64_i32_934
  let v1819 : BitVec 32 := Scalar.remsi v1816 v1818
  let c0_i32_938 : BitVec 32 := 0#32
  let v1821 : BitVec 1 := Scalar.cmpi .slt v1819 c0_i32_938
  let c0_i32_939 : BitVec 32 := 0#32
  let v1822 : BitVec 1 := Scalar.cmpi .slt v1818 c0_i32_939
  let v1823 : BitVec 1 := Scalar.xori v1821 v1822
  let c0_i32_937 : BitVec 32 := 0#32
  let v1820 : BitVec 1 := Scalar.cmpi .ne v1819 c0_i32_937
  let v1824 : BitVec 1 := Scalar.andi v1823 v1820
  let v1825 : BitVec 32 := Scalar.addi v1819 v1818
  let v1826 : BitVec 32 := Scalar.select v1824 v1825 v1819
  let v1827 : Index := Scalar.indexCast v1826
  let c0_942 : Index := 0#32
  let c0_943 : Index := 0#32
  ![1, 0, v1827.toNat, 0, 0]
def k0_off30 (k0_t4 : Fin k0_t4_loop.trips) (c0_i32_949 : BitVec 32) : Fin 3 → Nat :=
  let c0_i32_720 : BitVec 32 := 0#32
  let c1_i32_722 : BitVec 32 := 1#32
  let arg20 : BitVec 32 := Scf.iv c0_i32_720 c1_i32_722 k0_t4
  let c16_i32_724 : BitVec 32 := 16#32
  let v1372 : BitVec 32 := Scalar.muli arg20 c16_i32_724
  let v1373 : BitVec 32 := v1372
  let v2047 : BitVec 32 := Scalar.addi v1373 c0_i32_949
  let v2048 : Index := Scalar.indexCast v2047
  let c0_950 : Index := 0#32
  let c0_951 : Index := 0#32
  ![v2048.toNat, 0, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  let c0_i32_3 : BitVec 32 := 0#32
  ![c0_i32_0.toNat, arg0.toNat, c0_i32_1.toNat, c0_i32_2.toNat, v0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat, v0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat, arg1.toNat]

abbrev stage0_0 : Fin 2 → Memref sig .tc .vmem S2x1x64x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2x1x64x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2x1x64x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x32x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 1 → Memref sig .tc .vmem S64x256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S64x128x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 1 → Memref sig .tc .vmem S2x1x64x64x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true, false]
-- ==== Kernel8.lean ====
abbrev S1x2x32x64 : Shape := ⟨4, ![1, 2, 32, 64]⟩
abbrev S1x2x32 : Shape := ⟨3, ![1, 2, 32]⟩
abbrev S1x2x32x64x16 : Shape := ⟨5, ![1, 2, 32, 64, 16]⟩
abbrev S1x2x32x16x64 : Shape := ⟨5, ![1, 2, 32, 16, 64]⟩
abbrev S1x512 : Shape := ⟨2, ![1, 512]⟩
abbrev S32x1 : Shape := ⟨2, ![32, 1]⟩
abbrev S32x16 : Shape := ⟨2, ![32, 16]⟩
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S512 : Shape := ⟨1, ![512]⟩
abbrev S2x32x1 : Shape := ⟨3, ![2, 32, 1]⟩
abbrev S32x1x1 : Shape := ⟨3, ![32, 1, 1]⟩
abbrev S1x32x64 : Shape := ⟨3, ![1, 32, 64]⟩
abbrev S32x64 : Shape := ⟨2, ![32, 64]⟩
abbrev S32x1x64 : Shape := ⟨3, ![32, 1, 64]⟩
abbrev S_ : Shape := ⟨0, ![]⟩
abbrev S2x32x64x1 : Shape := ⟨4, ![2, 32, 64, 1]⟩
abbrev S32x16x1 : Shape := ⟨3, ![32, 16, 1]⟩
abbrev S32x16x64 : Shape := ⟨3, ![32, 16, 64]⟩
abbrev S1x32x16x64 : Shape := ⟨4, ![1, 32, 16, 64]⟩
abbrev S32x1x16x64 : Shape := ⟨4, ![32, 1, 16, 64]⟩
abbrev S32x16x1x64 : Shape := ⟨4, ![32, 16, 1, 64]⟩
abbrev S32x16x16x64 : Shape := ⟨4, ![32, 16, 16, 64]⟩
abbrev S1x32x64x16 : Shape := ⟨4, ![1, 32, 64, 16]⟩
abbrev S32x64x16 : Shape := ⟨3, ![32, 64, 16]⟩
abbrev S32x16x16x16 : Shape := ⟨4, ![32, 16, 16, 16]⟩
abbrev S32x32x16x16 : Shape := ⟨4, ![32, 32, 16, 16]⟩
abbrev S32x512x16 : Shape := ⟨3, ![32, 512, 16]⟩
abbrev S32x512x128 : Shape := ⟨3, ![32, 512, 128]⟩
abbrev S32x1x16 : Shape := ⟨3, ![32, 1, 16]⟩
abbrev S1x32x1x1x1x16 : Shape := ⟨6, ![1, 32, 1, 1, 1, 16]⟩
abbrev S1x32x1x1x32x16 : Shape := ⟨6, ![1, 32, 1, 1, 32, 16]⟩
abbrev S32x1x512 : Shape := ⟨3, ![32, 1, 512]⟩
abbrev S32x256x256 : Shape := ⟨3, ![32, 256, 256]⟩
abbrev S8x512x128 : Shape := ⟨3, ![8, 512, 128]⟩
abbrev S8x1x512 : Shape := ⟨3, ![8, 1, 512]⟩
abbrev S8x256x256 : Shape := ⟨3, ![8, 256, 256]⟩
abbrev S16x512 : Shape := ⟨2, ![16, 512]⟩
abbrev S1x512x128 : Shape := ⟨3, ![1, 512, 128]⟩
abbrev S512x128 : Shape := ⟨2, ![512, 128]⟩
abbrev S512x512 : Shape := ⟨2, ![512, 512]⟩
abbrev S1x1x512 : Shape := ⟨3, ![1, 1, 512]⟩
abbrev S16x256 : Shape := ⟨2, ![16, 256]⟩
abbrev S256x256 : Shape := ⟨2, ![256, 256]⟩
abbrev S1x256x256 : Shape := ⟨3, ![1, 256, 256]⟩
abbrev S256x128 : Shape := ⟨2, ![256, 128]⟩

abbrev nBuf : Space → Nat
  | .hbm => 238
  | .vmem => 6
  | .smem => 0
  | _ => 0

abbrev hbmTy0_0 (i : Nat) : BufTy := match i % 128 with
  | 0 => ⟨S1x2x32x64, .f32⟩
  | 1 => ⟨S1x2x32x64, .f32⟩
  | 2 => ⟨S1x2x32, .f32⟩
  | 3 => ⟨S1x2x32x64x16, .f32⟩
  | 4 => ⟨S1x2x32x64x16, .f32⟩
  | 5 => ⟨S1x2x32x16x64, .f32⟩
  | 6 => ⟨S1x2x32x16x64, .f32⟩
  | 7 => ⟨S1x512, .f32⟩
  | 8 => ⟨S32x1, .f32⟩
  | 9 => ⟨S32x1, .f32⟩
  | 10 => ⟨S32x16, .f32⟩
  | 11 => ⟨S32x16, .f32⟩
  | 12 => ⟨S2x32x64, .f32⟩
  | 13 => ⟨S2x32x64, .f32⟩
  | 14 => ⟨S2x32, .f32⟩
  | 15 => ⟨S2x32x64x16, .f32⟩
  | 16 => ⟨S2x32x64x16, .f32⟩
  | 17 => ⟨S2x32x16x64, .f32⟩
  | 18 => ⟨S2x32x16x64, .f32⟩
  | 19 => ⟨S512, .f32⟩
  | 20 => ⟨S2x32, .f32⟩
  | 21 => ⟨S2x32x1, .f32⟩
  | 22 => ⟨S2x32x64, .f32⟩
  | 23 => ⟨S2x32x64, .f32⟩
  | 24 => ⟨S2x32x64, .f32⟩
  | 25 => ⟨S2x32x64, .f32⟩
  | 26 => ⟨S32x1x1, .f32⟩
  | 27 => ⟨S1x32x64, .f32⟩
  | 28 => ⟨S32x64, .f32⟩
  | 29 => ⟨S32x1x64, .f32⟩
  | 30 => ⟨S32x1x64, .f32⟩
  | 31 => ⟨S32x1x64, .f32⟩
  | 32 => ⟨S32x1x64, .f32⟩
  | 33 => ⟨S1x32x64, .f32⟩
  | 34 => ⟨S32x64, .f32⟩
  | 35 => ⟨S32x1x64, .f32⟩
  | 36 => ⟨S32x1x64, .f32⟩
  | 37 => ⟨S32x1x64, .f32⟩
  | 38 => ⟨S32x1x64, .f32⟩
  | 39 => ⟨S32x1x64, .f32⟩
  | 40 => ⟨S1x32x64, .f32⟩
  | 41 => ⟨S32x64, .f32⟩
  | 42 => ⟨S32x1x64, .f32⟩
  | 43 => ⟨S32x1x64, .f32⟩
  | 44 => ⟨S32x1x64, .f32⟩
  | 45 => ⟨S32x1x64, .f32⟩
  | 46 => ⟨S32x1x64, .f32⟩
  | 47 => ⟨S32x1x1, .f32⟩
  | 48 => ⟨S1x32x64, .f32⟩
  | 49 => ⟨S32x64, .f32⟩
  | 50 => ⟨S32x1x64, .f32⟩
  | 51 => ⟨S32x1x64, .f32⟩
  | 52 => ⟨S32x1x64, .f32⟩
  | 53 => ⟨S32x1x64, .f32⟩
  | 54 => ⟨S1x32x64, .f32⟩
  | 55 => ⟨S32x64, .f32⟩
  | 56 => ⟨S32x1x64, .f32⟩
  | 57 => ⟨S32x1x64, .f32⟩
  | 58 => ⟨S32x1x64, .f32⟩
  | 59 => ⟨S32x1x64, .f32⟩
  | 60 => ⟨S32x1x64, .f32⟩
  | 61 => ⟨S1x32x64, .f32⟩
  | 62 => ⟨S32x64, .f32⟩
  | 63 => ⟨S32x1x64, .f32⟩
  | 64 => ⟨S32x1x64, .f32⟩
  | 65 => ⟨S32x1x64, .f32⟩
  | 66 => ⟨S32x1x64, .f32⟩
  | 67 => ⟨S32x1x64, .f32⟩
  | 68 => ⟨S32x64, .f32⟩
  | 69 => ⟨S32x64, .f32⟩
  | 70 => ⟨S1x32x64, .f32⟩
  | 71 => ⟨S1x32x64, .f32⟩
  | 72 => ⟨S2x32x64, .f32⟩
  | 73 => ⟨S_, .f32⟩
  | 74 => ⟨S2x32x64, .f32⟩
  | 75 => ⟨S2x32x64, .f32⟩
  | 76 => ⟨S32x64, .f32⟩
  | 77 => ⟨S32x64, .f32⟩
  | 78 => ⟨S1x32x64, .f32⟩
  | 79 => ⟨S1x32x64, .f32⟩
  | 80 => ⟨S2x32x64, .f32⟩
  | 81 => ⟨S2x32x64, .f32⟩
  | 82 => ⟨S2x32x64, .f32⟩
  | 83 => ⟨S2x32x64, .f32⟩
  | 84 => ⟨S2x32x64, .f32⟩
  | 85 => ⟨S2x32x64, .f32⟩
  | 86 => ⟨S2x32x64, .f32⟩
  | 87 => ⟨S2x32x64, .f32⟩
  | 88 => ⟨S2x32x64, .f32⟩
  | 89 => ⟨S2x32x64, .f32⟩
  | 90 => ⟨S2x32x64, .f32⟩
  | 91 => ⟨S2x32x64, .f32⟩
  | 92 => ⟨S2x32x64x1, .f32⟩
  | 93 => ⟨S2x32x64x16, .f32⟩
  | 94 => ⟨S2x32x64x16, .f32⟩
  | 95 => ⟨S2x32x64x1, .f32⟩
  | 96 => ⟨S2x32x64x16, .f32⟩
  | 97 => ⟨S2x32x64x16, .f32⟩
  | 98 => ⟨S2x32x64x16, .f32⟩
  | 99 => ⟨S2x32x64x1, .f32⟩
  | 100 => ⟨S2x32x64x16, .f32⟩
  | 101 => ⟨S2x32x64x16, .f32⟩
  | 102 => ⟨S2x32x64x1, .f32⟩
  | 103 => ⟨S2x32x64x16, .f32⟩
  | 104 => ⟨S2x32x64x16, .f32⟩
  | 105 => ⟨S2x32x64x16, .f32⟩
  | 106 => ⟨S32x16x1, .f32⟩
  | 107 => ⟨S1x32x64, .f32⟩
  | 108 => ⟨S32x64, .f32⟩
  | 109 => ⟨S32x1x64, .f32⟩
  | 110 => ⟨S32x16x64, .f32⟩
  | 111 => ⟨S32x16x64, .f32⟩
  | 112 => ⟨S32x16x64, .f32⟩
  | 113 => ⟨S32x16x64, .f32⟩
  | 114 => ⟨S1x32x64, .f32⟩
  | 115 => ⟨S32x64, .f32⟩
  | 116 => ⟨S32x1x64, .f32⟩
  | 117 => ⟨S32x16x64, .f32⟩
  | 118 => ⟨S32x16x64, .f32⟩
  | 119 => ⟨S32x16x64, .f32⟩
  | 120 => ⟨S32x16x64, .f32⟩
  | 121 => ⟨S32x16x64, .f32⟩
  | 122 => ⟨S1x32x64, .f32⟩
  | 123 => ⟨S32x64, .f32⟩
  | 124 => ⟨S32x1x64, .f32⟩
  | 125 => ⟨S32x16x64, .f32⟩
  | 126 => ⟨S32x16x64, .f32⟩
  | 127 => ⟨S32x16x64, .f32⟩
  | _ => ⟨S1x2x32x64, .f32⟩

abbrev hbmTy0_1 (i : Nat) : BufTy := match i % 128 with
  | 0 => ⟨S32x16x64, .f32⟩
  | 1 => ⟨S32x16x64, .f32⟩
  | 2 => ⟨S1x32x16x64, .f32⟩
  | 3 => ⟨S32x16x64, .f32⟩
  | 4 => ⟨S32x1x16x64, .f32⟩
  | 5 => ⟨S32x16x1x64, .f32⟩
  | 6 => ⟨S32x16x16x64, .f32⟩
  | 7 => ⟨S32x16x16x64, .f32⟩
  | 8 => ⟨S32x16x16x64, .f32⟩
  | 9 => ⟨S1x32x16x64, .f32⟩
  | 10 => ⟨S32x16x64, .f32⟩
  | 11 => ⟨S32x1x16x64, .f32⟩
  | 12 => ⟨S32x16x1x64, .f32⟩
  | 13 => ⟨S32x16x16x64, .f32⟩
  | 14 => ⟨S32x16x16x64, .f32⟩
  | 15 => ⟨S32x16x16x64, .f32⟩
  | 16 => ⟨S32x16x16x64, .f32⟩
  | 17 => ⟨S1x32x16x64, .f32⟩
  | 18 => ⟨S32x16x64, .f32⟩
  | 19 => ⟨S32x1x16x64, .f32⟩
  | 20 => ⟨S32x16x1x64, .f32⟩
  | 21 => ⟨S32x16x16x64, .f32⟩
  | 22 => ⟨S32x16x16x64, .f32⟩
  | 23 => ⟨S32x16x16x64, .f32⟩
  | 24 => ⟨S1x32x16x64, .f32⟩
  | 25 => ⟨S32x16x64, .f32⟩
  | 26 => ⟨S32x1x16x64, .f32⟩
  | 27 => ⟨S32x16x1x64, .f32⟩
  | 28 => ⟨S32x16x16x64, .f32⟩
  | 29 => ⟨S32x16x16x64, .f32⟩
  | 30 => ⟨S32x16x16x64, .f32⟩
  | 31 => ⟨S32x16x16x64, .f32⟩
  | 32 => ⟨S1x32x64x16, .f32⟩
  | 33 => ⟨S32x64x16, .f32⟩
  | 34 => ⟨S32x16x16x16, .f32⟩
  | 35 => ⟨S1x32x64x16, .f32⟩
  | 36 => ⟨S32x64x16, .f32⟩
  | 37 => ⟨S32x16x16x16, .f32⟩
  | 38 => ⟨S32x16x16x16, .f32⟩
  | 39 => ⟨S32x16x1, .f32⟩
  | 40 => ⟨S1x32x64, .f32⟩
  | 41 => ⟨S32x64, .f32⟩
  | 42 => ⟨S32x1x64, .f32⟩
  | 43 => ⟨S32x16x64, .f32⟩
  | 44 => ⟨S32x16x64, .f32⟩
  | 45 => ⟨S32x16x64, .f32⟩
  | 46 => ⟨S32x16x64, .f32⟩
  | 47 => ⟨S1x32x64, .f32⟩
  | 48 => ⟨S32x64, .f32⟩
  | 49 => ⟨S32x1x64, .f32⟩
  | 50 => ⟨S32x16x64, .f32⟩
  | 51 => ⟨S32x16x64, .f32⟩
  | 52 => ⟨S32x16x64, .f32⟩
  | 53 => ⟨S32x16x64, .f32⟩
  | 54 => ⟨S32x16x64, .f32⟩
  | 55 => ⟨S1x32x64, .f32⟩
  | 56 => ⟨S32x64, .f32⟩
  | 57 => ⟨S32x1x64, .f32⟩
  | 58 => ⟨S32x16x64, .f32⟩
  | 59 => ⟨S32x16x64, .f32⟩
  | 60 => ⟨S32x16x64, .f32⟩
  | 61 => ⟨S32x16x64, .f32⟩
  | 62 => ⟨S32x16x64, .f32⟩
  | 63 => ⟨S1x32x16x64, .f32⟩
  | 64 => ⟨S32x16x64, .f32⟩
  | 65 => ⟨S32x1x16x64, .f32⟩
  | 66 => ⟨S32x16x1x64, .f32⟩
  | 67 => ⟨S32x16x16x64, .f32⟩
  | 68 => ⟨S32x16x16x64, .f32⟩
  | 69 => ⟨S32x16x16x64, .f32⟩
  | 70 => ⟨S1x32x16x64, .f32⟩
  | 71 => ⟨S32x16x64, .f32⟩
  | 72 => ⟨S32x1x16x64, .f32⟩
  | 73 => ⟨S32x16x1x64, .f32⟩
  | 74 => ⟨S32x16x16x64, .f32⟩
  | 75 => ⟨S32x16x16x64, .f32⟩
  | 76 => ⟨S32x16x16x64, .f32⟩
  | 77 => ⟨S32x16x16x64, .f32⟩
  | 78 => ⟨S1x32x16x64, .f32⟩
  | 79 => ⟨S32x16x64, .f32⟩
  | 80 => ⟨S32x1x16x64, .f32⟩
  | 81 => ⟨S32x16x1x64, .f32⟩
  | 82 => ⟨S32x16x16x64, .f32⟩
  | 83 => ⟨S32x16x16x64, .f32⟩
  | 84 => ⟨S32x16x16x64, .f32⟩
  | 85 => ⟨S1x32x16x64, .f32⟩
  | 86 => ⟨S32x16x64, .f32⟩
  | 87 => ⟨S32x1x16x64, .f32⟩
  | 88 => ⟨S32x16x1x64, .f32⟩
  | 89 => ⟨S32x16x16x64, .f32⟩
  | 90 => ⟨S32x16x16x64, .f32⟩
  | 91 => ⟨S32x16x16x64, .f32⟩
  | 92 => ⟨S32x16x16x64, .f32⟩
  | 93 => ⟨S1x32x64x16, .f32⟩
  | 94 => ⟨S32x64x16, .f32⟩
  | 95 => ⟨S32x16x16x16, .f32⟩
  | 96 => ⟨S1x32x64x16, .f32⟩
  | 97 => ⟨S32x64x16, .f32⟩
  | 98 => ⟨S32x16x16x16, .f32⟩
  | 99 => ⟨S32x16x16x16, .f32⟩
  | 100 => ⟨S32x32x16x16, .f32⟩
  | 101 => ⟨S32x512x16, .f32⟩
  | 102 => ⟨S_, .i32⟩
  | 103 => ⟨S_, .f32⟩
  | 104 => ⟨S32x512x128, .f32⟩
  | 105 => ⟨S32x1x16, .f32⟩
  | 106 => ⟨S1x32x1x1x1x16, .f32⟩
  | 107 => ⟨S1x32x1x1x32x16, .f32⟩
  | 108 => ⟨S32x1x512, .f32⟩
  | 109 => ⟨S32x256x256, .bf16⟩
  | _ => ⟨S1x2x32x64, .f32⟩

abbrev hbmTy (i : Nat) : BufTy := match i / 128 with
  | 0 => hbmTy0_0 i
  | 1 => hbmTy0_1 i
  | _ => ⟨S1x2x32x64, .f32⟩

abbrev bufTy : (tb : Table) → Fin (tcTables nBuf tb) → BufTy
  | .hbm, ⟨i, _⟩ => hbmTy i
  | .local _ .vmem, ⟨0, _⟩ => ⟨S8x512x128, .f32⟩
  | .local _ .vmem, ⟨1, _⟩ => ⟨S8x512x128, .f32⟩
  | .local _ .vmem, ⟨2, _⟩ => ⟨S8x1x512, .f32⟩
  | .local _ .vmem, ⟨3, _⟩ => ⟨S8x1x512, .f32⟩
  | .local _ .vmem, ⟨4, _⟩ => ⟨S8x256x256, .bf16⟩
  | .local _ .vmem, ⟨5, _⟩ => ⟨S8x256x256, .bf16⟩
  | _, _ => ⟨S1x2x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_cst_2 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_3 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_c : Ref sig .tc := ⟨.hbm, 230, rfl⟩
abbrev main_call0_v0 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S1x2x32x64 : Shape := ⟨4, ![1, 2, 32, 64]⟩
abbrev S1x2x32 : Shape := ⟨3, ![1, 2, 32]⟩
abbrev S1x2x32x64x16 : Shape := ⟨5, ![1, 2, 32, 64, 16]⟩
abbrev S1x2x32x16x64 : Shape := ⟨5, ![1, 2, 32, 16, 64]⟩
abbrev S1x512 : Shape := ⟨2, ![1, 512]⟩
abbrev S1x1x32x64 : Shape := ⟨4, ![1, 1, 32, 64]⟩
abbrev S32x64 : Shape := ⟨2, ![32, 64]⟩
abbrev S1x1x32 : Shape := ⟨3, ![1, 1, 32]⟩
abbrev S32 : Shape := ⟨1, ![32]⟩
abbrev S1x1x32x64x16 : Shape := ⟨5, ![1, 1, 32, 64, 16]⟩
abbrev S32x64x16 : Shape := ⟨3, ![32, 64, 16]⟩
abbrev S1x1x32x16x64 : Shape := ⟨5, ![1, 1, 32, 16, 64]⟩
abbrev S32x16x64 : Shape := ⟨3, ![32, 16, 64]⟩
abbrev S16 : Shape := ⟨1, ![16]⟩
abbrev S1x16x1 : Shape := ⟨3, ![1, 16, 1]⟩
abbrev S32x1 : Shape := ⟨2, ![32, 1]⟩
abbrev S_ : Shape := ⟨0, ![]⟩
abbrev S32x64x1 : Shape := ⟨3, ![32, 64, 1]⟩
abbrev S32x1x64 : Shape := ⟨3, ![32, 1, 64]⟩
abbrev S32x16x1x64 : Shape := ⟨4, ![32, 16, 1, 64]⟩
abbrev S32x1x16x64 : Shape := ⟨4, ![32, 1, 16, 64]⟩
abbrev S32x16x16x64 : Shape := ⟨4, ![32, 16, 16, 64]⟩
abbrev S32x16x16x16 : Shape := ⟨4, ![32, 16, 16, 16]⟩
abbrev S1x16 : Shape := ⟨2, ![1, 16]⟩
abbrev S32x16 : Shape := ⟨2, ![32, 16]⟩
abbrev S32x16x1x1 : Shape := ⟨4, ![32, 16, 1, 1]⟩
abbrev S32x1x16x1 : Shape := ⟨4, ![32, 1, 16, 1]⟩
abbrev S1x1x1x16 : Shape := ⟨4, ![1, 1, 1, 16]⟩
abbrev S32x16x1x16 : Shape := ⟨4, ![32, 16, 1, 16]⟩
abbrev S32x16x16x16x1x1 : Shape := ⟨6, ![32, 16, 16, 16, 1, 1]⟩
abbrev S32x1x1x16x16x16 : Shape := ⟨6, ![32, 1, 1, 16, 16, 16]⟩
abbrev S32x16x16x16x16x16 : Shape := ⟨6, ![32, 16, 16, 16, 16, 16]⟩
abbrev S32x16x16x16x16 : Shape := ⟨5, ![32, 16, 16, 16, 16]⟩
abbrev S32x1x16x16 : Shape := ⟨4, ![32, 1, 16, 16]⟩
abbrev S16x1 : Shape := ⟨2, ![16, 1]⟩
abbrev S16x16 : Shape := ⟨2, ![16, 16]⟩
abbrev S1x1x1x16x16 : Shape := ⟨5, ![1, 1, 1, 16, 16]⟩
abbrev S1x16x16x1x1 : Shape := ⟨5, ![1, 16, 16, 1, 1]⟩
abbrev S1x16x16x16x16 : Shape := ⟨5, ![1, 16, 16, 16, 16]⟩
abbrev S512 : Shape := ⟨1, ![512]⟩
abbrev S32x1x1x16x1 : Shape := ⟨5, ![32, 1, 1, 16, 1]⟩
abbrev S32x256x256 : Shape := ⟨3, ![32, 256, 256]⟩

abbrev nBuf : Space → Nat
  | .hbm => 282
  | .vmem => 0
  | .smem => 0
  | _ => 0

abbrev hbmTy0_0 (i : Nat) : BufTy := match i % 128 with
  | 0 => ⟨S1x2x32x64, .f32⟩
  | 1 => ⟨S1x2x32x64, .f32⟩
  | 2 => ⟨S1x2x32, .f32⟩
  | 3 => ⟨S1x2x32x64x16, .f32⟩
  | 4 => ⟨S1x2x32x64x16, .f32⟩
  | 5 => ⟨S1x2x32x16x64, .f32⟩
  | 6 => ⟨S1x2x32x16x64, .f32⟩
  | 7 => ⟨S1x512, .f32⟩
  | 8 => ⟨S1x1x32x64, .f32⟩
  | 9 => ⟨S32x64, .f32⟩
  | 10 => ⟨S1x1x32x64, .f32⟩
  | 11 => ⟨S32x64, .f32⟩
  | 12 => ⟨S1x1x32, .f32⟩
  | 13 => ⟨S32, .f32⟩
  | 14 => ⟨S1x1x32x64x16, .f32⟩
  | 15 => ⟨S32x64x16, .f32⟩
  | 16 => ⟨S1x1x32x64x16, .f32⟩
  | 17 => ⟨S32x64x16, .f32⟩
  | 18 => ⟨S1x1x32x16x64, .f32⟩
  | 19 => ⟨S32x16x64, .f32⟩
  | 20 => ⟨S1x1x32x16x64, .f32⟩
  | 21 => ⟨S32x16x64, .f32⟩
  | 22 => ⟨S16, .i32⟩
  | 23 => ⟨S16, .f32⟩
  | 24 => ⟨S1x16x1, .f32⟩
  | 25 => ⟨S32, .f32⟩
  | 26 => ⟨S32x1, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S_, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S32x64x1, .f32⟩
  | 48 => ⟨S32x64, .f32⟩
  | 49 => ⟨S32x64, .f32⟩
  | 50 => ⟨S32x64, .f32⟩
  | 51 => ⟨S32x64, .f32⟩
  | 52 => ⟨S32x64x1, .f32⟩
  | 53 => ⟨S32x64x16, .f32⟩
  | 54 => ⟨S32x64x16, .f32⟩
  | 55 => ⟨S32x64x16, .f32⟩
  | 56 => ⟨S32x64x16, .f32⟩
  | 57 => ⟨S32x64x16, .f32⟩
  | 58 => ⟨S32x64x16, .f32⟩
  | 59 => ⟨S32x64x16, .f32⟩
  | 60 => ⟨S32x64x16, .f32⟩
  | 61 => ⟨S32x64x16, .f32⟩
  | 62 => ⟨S32x64x16, .f32⟩
  | 63 => ⟨S32x1x64, .f32⟩
  | 64 => ⟨S32x16x64, .f32⟩
  | 65 => ⟨S32x16x64, .f32⟩
  | 66 => ⟨S32x16x64, .f32⟩
  | 67 => ⟨S32x16x64, .f32⟩
  | 68 => ⟨S32x1x64, .f32⟩
  | 69 => ⟨S32x16x64, .f32⟩
  | 70 => ⟨S32x16x64, .f32⟩
  | 71 => ⟨S32x16x64, .f32⟩
  | 72 => ⟨S32x16x64, .f32⟩
  | 73 => ⟨S32x16x64, .f32⟩
  | 74 => ⟨S32x16x1x64, .f32⟩
  | 75 => ⟨S32x1x64, .f32⟩
  | 76 => ⟨S32x16x64, .f32⟩
  | 77 => ⟨S32x16x64, .f32⟩
  | 78 => ⟨S32x16x64, .f32⟩
  | 79 => ⟨S32x16x64, .f32⟩
  | 80 => ⟨S32x16x64, .f32⟩
  | 81 => ⟨S32x16x1x64, .f32⟩
  | 82 => ⟨S32x1x16x64, .f32⟩
  | 83 => ⟨S32x16x16x64, .f32⟩
  | 84 => ⟨S32x16x16x64, .f32⟩
  | 85 => ⟨S32x16x16x64, .f32⟩
  | 86 => ⟨S32x1x16x64, .f32⟩
  | 87 => ⟨S32x16x16x64, .f32⟩
  | 88 => ⟨S32x16x16x64, .f32⟩
  | 89 => ⟨S32x16x16x64, .f32⟩
  | 90 => ⟨S32x16x16x64, .f32⟩
  | 91 => ⟨S32x1x16x64, .f32⟩
  | 92 => ⟨S32x16x16x64, .f32⟩
  | 93 => ⟨S32x16x16x64, .f32⟩
  | 94 => ⟨S32x16x16x64, .f32⟩
  | 95 => ⟨S32x1x16x64, .f32⟩
  | 96 => ⟨S32x16x16x64, .f32⟩
  | 97 => ⟨S32x16x16x64, .f32⟩
  | 98 => ⟨S32x16x16x64, .f32⟩
  | 99 => ⟨S32x16x16x64, .f32⟩
  | 100 => ⟨S32x16x16x16, .f32⟩
  | 101 => ⟨S32x16x16x16, .f32⟩
  | 102 => ⟨S32x16x16x16, .f32⟩
  | 103 => ⟨S1x1x32x64, .f32⟩
  | 104 => ⟨S32x64, .f32⟩
  | 105 => ⟨S1x1x32x64, .f32⟩
  | 106 => ⟨S32x64, .f32⟩
  | 107 => ⟨S1x1x32, .f32⟩
  | 108 => ⟨S32, .f32⟩
  | 109 => ⟨S1x1x32x64x16, .f32⟩
  | 110 => ⟨S32x64x16, .f32⟩
  | 111 => ⟨S1x1x32x64x16, .f32⟩
  | 112 => ⟨S32x64x16, .f32⟩
  | 113 => ⟨S1x1x32x16x64, .f32⟩
  | 114 => ⟨S32x16x64, .f32⟩
  | 115 => ⟨S1x1x32x16x64, .f32⟩
  | 116 => ⟨S32x16x64, .f32⟩
  | 117 => ⟨S16, .i32⟩
  | 118 => ⟨S16, .f32⟩
  | 119 => ⟨S1x16x1, .f32⟩
  | 120 => ⟨S32, .f32⟩
  | 121 => ⟨S32x1, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S1x2x32x64, .f32⟩

abbrev hbmTy0_1 (i : Nat) : BufTy := match i % 128 with
  | 0 => ⟨S32x64, .f32⟩
  | 1 => ⟨S_, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64x1, .f32⟩
  | 15 => ⟨S32x64, .f32⟩
  | 16 => ⟨S32x64, .f32⟩
  | 17 => ⟨S32x64, .f32⟩
  | 18 => ⟨S32x64, .f32⟩
  | 19 => ⟨S32x64x1, .f32⟩
  | 20 => ⟨S32x64x16, .f32⟩
  | 21 => ⟨S32x64x16, .f32⟩
  | 22 => ⟨S32x64x16, .f32⟩
  | 23 => ⟨S32x64x16, .f32⟩
  | 24 => ⟨S32x64x16, .f32⟩
  | 25 => ⟨S32x64x16, .f32⟩
  | 26 => ⟨S32x64x16, .f32⟩
  | 27 => ⟨S32x64x16, .f32⟩
  | 28 => ⟨S32x64x16, .f32⟩
  | 29 => ⟨S32x64x16, .f32⟩
  | 30 => ⟨S32x1x64, .f32⟩
  | 31 => ⟨S32x16x64, .f32⟩
  | 32 => ⟨S32x16x64, .f32⟩
  | 33 => ⟨S32x16x64, .f32⟩
  | 34 => ⟨S32x16x64, .f32⟩
  | 35 => ⟨S32x1x64, .f32⟩
  | 36 => ⟨S32x16x64, .f32⟩
  | 37 => ⟨S32x16x64, .f32⟩
  | 38 => ⟨S32x16x64, .f32⟩
  | 39 => ⟨S32x16x64, .f32⟩
  | 40 => ⟨S32x16x64, .f32⟩
  | 41 => ⟨S32x16x1x64, .f32⟩
  | 42 => ⟨S32x1x64, .f32⟩
  | 43 => ⟨S32x16x64, .f32⟩
  | 44 => ⟨S32x16x64, .f32⟩
  | 45 => ⟨S32x16x64, .f32⟩
  | 46 => ⟨S32x16x64, .f32⟩
  | 47 => ⟨S32x16x64, .f32⟩
  | 48 => ⟨S32x16x1x64, .f32⟩
  | 49 => ⟨S32x1x16x64, .f32⟩
  | 50 => ⟨S32x16x16x64, .f32⟩
  | 51 => ⟨S32x16x16x64, .f32⟩
  | 52 => ⟨S32x16x16x64, .f32⟩
  | 53 => ⟨S32x1x16x64, .f32⟩
  | 54 => ⟨S32x16x16x64, .f32⟩
  | 55 => ⟨S32x16x16x64, .f32⟩
  | 56 => ⟨S32x16x16x64, .f32⟩
  | 57 => ⟨S32x16x16x64, .f32⟩
  | 58 => ⟨S32x1x16x64, .f32⟩
  | 59 => ⟨S32x16x16x64, .f32⟩
  | 60 => ⟨S32x16x16x64, .f32⟩
  | 61 => ⟨S32x16x16x64, .f32⟩
  | 62 => ⟨S32x1x16x64, .f32⟩
  | 63 => ⟨S32x16x16x64, .f32⟩
  | 64 => ⟨S32x16x16x64, .f32⟩
  | 65 => ⟨S32x16x16x64, .f32⟩
  | 66 => ⟨S32x16x16x64, .f32⟩
  | 67 => ⟨S32x16x16x16, .f32⟩
  | 68 => ⟨S32x16x16x16, .f32⟩
  | 69 => ⟨S32x16x16x16, .f32⟩
  | 70 => ⟨S32, .i32⟩
  | 71 => ⟨S32x1, .i32⟩
  | 72 => ⟨S16, .i32⟩
  | 73 => ⟨S1x16, .i32⟩
  | 74 => ⟨S_, .i32⟩
  | 75 => ⟨S1x16, .i32⟩
  | 76 => ⟨S1x16, .i32⟩
  | 77 => ⟨S32x16, .i32⟩
  | 78 => ⟨S32x16, .i32⟩
  | 79 => ⟨S32x16, .i32⟩
  | 80 => ⟨S_, .i32⟩
  | 81 => ⟨S32x16, .i32⟩
  | 82 => ⟨S32x16, .i32⟩
  | 83 => ⟨S32x16, .i32⟩
  | 84 => ⟨S32x16, .i32⟩
  | 85 => ⟨S32x16x1x1, .i32⟩
  | 86 => ⟨S32x1x16x1, .i32⟩
  | 87 => ⟨S16, .i32⟩
  | 88 => ⟨S1x1x1x16, .i32⟩
  | 89 => ⟨S32x16x1x16, .i32⟩
  | 90 => ⟨S32x16x1x16, .i32⟩
  | 91 => ⟨S32x16x1x16, .i32⟩
  | 92 => ⟨S32x16x16x16, .i32⟩
  | 93 => ⟨S32x16x16x16, .i32⟩
  | 94 => ⟨S32x16x16x16, .i1⟩
  | 95 => ⟨S32x16x16x16x1x1, .i1⟩
  | 96 => ⟨S32x1x1x16x16x16, .f32⟩
  | 97 => ⟨S_, .f32⟩
  | 98 => ⟨S_, .f32⟩
  | 99 => ⟨S32x16x16x16x16x16, .i1⟩
  | 100 => ⟨S32x16x16x16x16x16, .f32⟩
  | 101 => ⟨S32x16x16x16x16x16, .f32⟩
  | 102 => ⟨S32x16x16x16x16x16, .f32⟩
  | 103 => ⟨S_, .f32⟩
  | 104 => ⟨S32x16x16x16x16, .f32⟩
  | 105 => ⟨S1x1x1x16, .i32⟩
  | 106 => ⟨S32x1x16x16, .i32⟩
  | 107 => ⟨S32x1x16x16, .i32⟩
  | 108 => ⟨S32x1x16x16, .i32⟩
  | 109 => ⟨S32x16x16x16, .i32⟩
  | 110 => ⟨S32x16x16x16, .i32⟩
  | 111 => ⟨S32x16x16x16, .i1⟩
  | 112 => ⟨S32x16x16x16x1x1, .i1⟩
  | 113 => ⟨S32x1x1x16x16x16, .f32⟩
  | 114 => ⟨S_, .f32⟩
  | 115 => ⟨S_, .f32⟩
  | 116 => ⟨S32x16x16x16x16x16, .i1⟩
  | 117 => ⟨S32x16x16x16x16x16, .f32⟩
  | 118 => ⟨S32x16x16x16x16x16, .f32⟩
  | 119 => ⟨S32x16x16x16x16x16, .f32⟩
  | 120 => ⟨S_, .f32⟩
  | 121 => ⟨S32x16x16x16x16, .f32⟩
  | 122 => ⟨S32x16x16x16x16, .f32⟩
  | 123 => ⟨S16, .i32⟩
  | 124 => ⟨S16x1, .i32⟩
  | 125 => ⟨S16, .i32⟩
  | 126 => ⟨S1x16, .i32⟩
  | 127 => ⟨S16x16, .i32⟩
  | _ => ⟨S1x2x32x64, .f32⟩

abbrev hbmTy0_2 (i : Nat) : BufTy := match i % 128 with
  | 0 => ⟨S16x16, .i32⟩
  | 1 => ⟨S16x16, .i1⟩
  | 2 => ⟨S1x1x1x16x16, .i1⟩
  | 3 => ⟨S16, .i32⟩
  | 4 => ⟨S16x1, .i32⟩
  | 5 => ⟨S16, .i32⟩
  | 6 => ⟨S1x16, .i32⟩
  | 7 => ⟨S16x16, .i32⟩
  | 8 => ⟨S16x16, .i32⟩
  | 9 => ⟨S16x16, .i1⟩
  | 10 => ⟨S1x16x16x1x1, .i1⟩
  | 11 => ⟨S1x16x16x16x16, .i1⟩
  | 12 => ⟨S1x16x16x16x16, .i1⟩
  | 13 => ⟨S1x16x16x16x16, .i1⟩
  | 14 => ⟨S512, .f32⟩
  | 15 => ⟨S32x1x1x16x1, .f32⟩
  | 16 => ⟨S_, .f32⟩
  | 17 => ⟨S_, .f32⟩
  | 18 => ⟨S32x16x16x16x16, .i1⟩
  | 19 => ⟨S32x16x16x16x16, .f32⟩
  | 20 => ⟨S32x16x16x16x16, .f32⟩
  | 21 => ⟨S32x16x16x16x16, .f32⟩
  | 22 => ⟨S32x16x16x16x16, .f32⟩
  | 23 => ⟨S32x16x16x16x16, .f32⟩
  | 24 => ⟨S32x256x256, .f32⟩
  | 25 => ⟨S32x256x256, .bf16⟩
  | _ => ⟨S1x2x32x64, .f32⟩

abbrev hbmTy (i : Nat) : BufTy := match i / 128 with
  | 0 => hbmTy0_0 i
  | 1 => hbmTy0_1 i
  | 2 => hbmTy0_2 i
  | _ => ⟨S1x2x32x64, .f32⟩

abbrev bufTy : (tb : Table) → Fin (tcTables nBuf tb) → BufTy
  | .hbm, ⟨i, _⟩ => hbmTy i
  | _, _ => ⟨S1x2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_cst_0 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_c : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_c_1 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_cst_2 : Ref sig .tc := ⟨.hbm, 225, rfl⟩
abbrev main_call0_v0 : Ref sig .tc := ⟨.hbm, 226, rfl⟩
abbrev main_call0_v1 : Ref sig .tc := ⟨.hbm, 227, rfl⟩
abbrev main_call0_v2 : Ref sig .tc := ⟨.hbm, 228, rfl⟩
abbrev main_call0_v3 : Ref sig .tc := ⟨.hbm, 229, rfl⟩
abbrev main_v213 : Ref sig .tc := ⟨.hbm, 230, rfl⟩
abbrev main_cst_3 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_cst_4 : Ref sig .tc := ⟨.hbm, 242, rfl⟩
abbrev main_call1_v0 : Ref sig .tc := ⟨.hbm, 243, rfl⟩
abbrev main_call1_v1 : Ref sig .tc := ⟨.hbm, 244, rfl⟩
abbrev main_call1_v2 : Ref sig .tc := ⟨.hbm, 245, rfl⟩
abbrev main_call1_v3 : Ref sig .tc := ⟨.hbm, 246, rfl⟩
abbrev main_v224 : Ref sig .tc := ⟨.hbm, 247, rfl⟩
abbrev main_cst_5 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_cst_6 : Ref sig .tc := ⟨.hbm, 272, rfl⟩
abbrev main_call2_v0 : Ref sig .tc := ⟨.hbm, 273, rfl⟩
abbrev main_call2_v1 : Ref sig .tc := ⟨.hbm, 274, rfl⟩
abbrev main_call2_v2 : Ref sig .tc := ⟨.hbm, 275, rfl⟩
abbrev main_call2_v3 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩

abbrev nD : Nat := 1
abbrev τ : Topo := Topo.v7x

variable {F : FTy → Type} [FloatOps F]
-- ==== Proof.Rows.lean ====
/- The layer's last stage, row by row, over the extended reals: what both programs compute at one token. -/
module

public import Idealize.ShloMosaic.Lib.Pointwise

@[expose] public section

noncomputable section

namespace Cert.Rows

open Idealize.ShloMosaic

/-- The small number under the root. -/
abbrev eps : EReal := Ideal.ofBits .f32 0x358637BD#32

/-- Root-mean-square normalisation of a row of length `n`, its length given as the number `N`, scaled by `g`. -/
def rms {n : Nat} (N : EReal) (x g : Fin n → EReal) (j : Fin n) : EReal :=
  x j * Ideal.rsqrt (Ideal.div (∑ k, x k * x k) N + eps) * g j

/-- The affine map before the gated linear unit. -/
def ab (ys : Fin 512 → EReal) (gw : Fin 512 → Fin 1024 → EReal) (gb : Fin 1024 → EReal) (j : Fin 1024) : EReal :=
  (∑ k, ys k * gw k j) + gb j

/-- The gated linear unit: the first half times the logistic function of the second half. -/
def glu (ys : Fin 512 → EReal) (gw : Fin 512 → Fin 1024 → EReal) (gb : Fin 1024 → EReal) (c : Fin 512) : EReal :=
  ab ys gw gb ⟨c.val, by omega⟩ * Ideal.logistic (ab ys gw gb ⟨512 + c.val, by omega⟩)

/-- The two normalised groups side by side. -/
def mix (ys yh : Fin 512 → EReal) (gw : Fin 512 → Fin 1024 → EReal) (gb : Fin 1024 → EReal) (g5 gh : Fin 512 → EReal)
    (j : Fin 1024) : EReal :=
  if h : j.val < 512 then rms (Ideal.ofBits .f32 0x44000000#32) (glu ys gw gb) g5 ⟨j.val, h⟩
  else rms (Ideal.ofBits .f32 0x44000000#32) yh gh ⟨j.val - 512, by omega⟩

/-- The residual stream after the mixer's projection: `h` the stream before it, `ga` the gate, `mx` the mixed row. -/
def res {n : Nat} (h ga : Fin 1024 → EReal) (mx : Fin n → EReal) (w : Fin n → Fin 1024 → EReal) (j : Fin 1024) : EReal :=
  h j + ga j * ∑ k, mx k * w k j

/-- The modulated normalisation before the perceptron. -/
def ada (h g2 sh sc : Fin 1024 → EReal) (j : Fin 1024) : EReal :=
  rms (Ideal.ofBits .f32 0x44800000#32) h g2 j * (1 + sc j) + sh j

/-- The perceptron's hidden row: the square of the positive part. -/
def hid (u : Fin 1024 → EReal) (w1 : Fin 1024 → Fin 4096 → EReal) (l : Fin 4096) : EReal :=
  max (∑ k, u k * w1 k l) 0 * max (∑ k, u k * w1 k l) 0

/-- A row of the result. -/
def out (x pos : Fin 1024 → EReal) (md : Fin 6144 → EReal) (ys yh : Fin 512 → EReal) (gw : Fin 512 → Fin 1024 → EReal)
    (gb : Fin 1024 → EReal) (g5 gh : Fin 512 → EReal) (wo : Fin 1024 → Fin 1024 → EReal) (g2 : Fin 1024 → EReal)
    (w1 : Fin 1024 → Fin 4096 → EReal) (w2 : Fin 4096 → Fin 1024 → EReal) (gf : Fin 1024 → EReal) (j : Fin 1024) : EReal :=
  let h := res (fun j => x j + pos j) (fun j => md ⟨2048 + j.val, by omega⟩) (mix ys yh gw gb g5 gh) wo
  rms (Ideal.ofBits .f32 0x44800000#32)
    (res h (fun j => md ⟨5120 + j.val, by omega⟩)
      (hid (ada h g2 (fun j => md ⟨3072 + j.val, by omega⟩) (fun j => md ⟨4096 + j.val, by omega⟩)) w1) w2) gf j

theorem out_congr {x x' : Fin 1024 → EReal} {pos pos' : Fin 1024 → EReal} {md md' : Fin 6144 → EReal} {ys ys' : Fin 512 → EReal} {yh yh' : Fin 512 → EReal} {gw gw' : Fin 512 → Fin 1024 → EReal} {gb gb' : Fin 1024 → EReal} {g5 g5' : Fin 512 → EReal} {gh gh' : Fin 512 → EReal} {wo wo' : Fin 1024 → Fin 1024 → EReal} {g2 g2' : Fin 1024 → EReal} {w1 w1' : Fin 1024 → Fin 4096 → EReal} {w2 w2' : Fin 4096 → Fin 1024 → EReal} {gf gf' : Fin 1024 → EReal} (h0 : ∀ k, x k = x' k) (h1 : ∀ k, pos k = pos' k) (h2 : ∀ k, md k = md' k) (h3 : ∀ k, ys k = ys' k) (h4 : ∀ k, yh k = yh' k) (h5 : ∀ k j, gw k j = gw' k j) (h6 : ∀ k, gb k = gb' k) (h7 : ∀ k, g5 k = g5' k) (h8 : ∀ k, gh k = gh' k) (h9 : ∀ k j, wo k j = wo' k j) (h10 : ∀ k, g2 k = g2' k) (h11 : ∀ k j, w1 k j = w1' k j) (h12 : ∀ k j, w2 k j = w2' k j) (h13 : ∀ k, gf k = gf' k) (j : Fin 1024) :
    out x pos md ys yh gw gb g5 gh wo g2 w1 w2 gf j = out x' pos' md' ys' yh' gw' gb' g5' gh' wo' g2' w1' w2' gf' j := by
  obtain rfl : x = x' := funext h0
  obtain rfl : pos = pos' := funext h1
  obtain rfl : md = md' := funext h2
  obtain rfl : ys = ys' := funext h3
  obtain rfl : yh = yh' := funext h4
  obtain rfl : gw = gw' := funext fun k => funext fun j => h5 k j
  obtain rfl : gb = gb' := funext h6
  obtain rfl : g5 = g5' := funext h7
  obtain rfl : gh = gh' := funext h8
  obtain rfl : wo = wo' := funext fun k => funext fun j => h9 k j
  obtain rfl : g2 = g2' := funext h10
  obtain rfl : w1 = w1' := funext fun k => funext fun j => h11 k j
  obtain rfl : w2 = w2' := funext fun k => funext fun j => h12 k j
  obtain rfl : gf = gf' := funext h13
  rfl

end Cert.Rows

end
-- ==== Proof.KRow.lean ====
/- The kernel's stored block, read at an index, is the row function of the rows it loaded. -/
module

public import proofs.«01_k».proof.Proof.Gen.KernelIdeal.Skeleton
public import proofs.«01_k».proof.Proof.Rows

@[expose] public section

noncomputable section

namespace Cert.KRow

open Cert.KernelIdeal Cert.KernelIdeal.Gen Idealize.ShloMosaic Cert.Rows

/-- Row `64 b + t` of the flattened block. -/
abbrev fl (b : Fin 8) (t : Fin 64) : Fin 512 := ⟨b.val * 64 + t.val, by omega⟩

theorem fl_div (b : Fin 8) (t : Fin 64) (h : (b.val * 64 + t.val) / 64 < 8) : (⟨(b.val * 64 + t.val) / 64, h⟩ : Fin 8) = b :=
  Fin.ext (show (b.val * 64 + t.val) / 64 = b.val by omega)

theorem fl_mod (b : Fin 8) (t : Fin 64) (h : (b.val * 64 + t.val) % 64 < 64) : (⟨(b.val * 64 + t.val) % 64, h⟩ : Fin 64) = t :=
  Fin.ext (show (b.val * 64 + t.val) % 64 = t.val by omega)

theorem pay1_apply (v4 : FVec Ideal S8x1x1024 .f32) (v161 : FVec Ideal S8x64x1024 .f32) (v191 : FVec Ideal S512x4096 .bf16) (v193 : FVec Ideal S4096x1024 .bf16) (v199 : Vec Ideal S1x1024 .f32) (b : Fin 8) (t : Fin 64) (j : Fin 1024) :
    k0_pay1 v4 v161 v191 v193 (constant S512x1024 .f32 0x00000000#32) v199 (ix3 b t j)
      = rms (Ideal.ofBits .f32 0x44800000#32) (res (fun j => v161 (ix3 b t j)) (fun j => v4 (ix3 b 0 j)) (fun k => v191 (ix2 (fl b t) k)) (fun k j => v193 (ix2 k j))) (fun j => v199 (ix2 0 j)) j := by
  pointwise [k0_pay1, rms, res, dot_S512x4096_S4096x1024_S512x1024_1_0_0_1_n_n]

theorem pay62_apply (v1 : FVec Ideal S8x1x1024 .f32) (v10 : FVec Ideal S8x64x1024 .f32) (v124 : FVec Ideal S512x512 .f32) (v138 : FVec Ideal S512x512 .f32) (v140 : FVec Ideal S1x512 .f32) (v149 : FVec Ideal S512x512 .f32) (v155 : Vec Ideal S1024x1024 .bf16)  (b : Fin 8) (t : Fin 64) (j : Fin 1024) :
    k0_pay62 v1 v10 v124 v138 v140 v149 v155 (ix3 b t j)
      = res (fun j => v10 (ix3 b t j)) (fun j => v1 (ix3 b 0 j))
          (fun k : Fin 1024 => if h : k.val < 512 then v138 (ix2 (fl b t) ⟨k.val, h⟩)
            else v124 (ix2 (fl b t) ⟨k.val - 512, by omega⟩) * v149 (ix2 (fl b t) ⟨k.val - 512, by omega⟩) * v140 (ix2 0 ⟨k.val - 512, by omega⟩))
          (fun k j => v155 (ix2 k j)) j := by
  pointwise [k0_pay62, res, fl_div, fl_mod, dot_S512x1024_S1024x1024_S512x1024_1_0_0_1_n_n]

theorem pay63_apply (v1 : FVec Ideal S8x1x1024 .f32) (v2 : FVec Ideal S8x1x1024 .f32) (v3 : FVec Ideal S8x1x1024 .f32) (v10 : FVec Ideal S8x64x1024 .f32) (v124 : FVec Ideal S512x512 .f32) (v138 : FVec Ideal S512x512 .f32) (v140 : FVec Ideal S1x512 .f32) (v149 : FVec Ideal S512x512 .f32) (v155 : Vec Ideal S1024x1024 .bf16) (v162 : Vec Ideal S1x1024 .f32) (v185 : Vec Ideal S1024x4096 .bf16)  (b : Fin 8) (t : Fin 64) (l : Fin 4096) :
    k0_pay63 v1 v2 v3 v10 v124 v138 v140 v149 v155 v162 v185 (ix2 (fl b t) l)
      = hid (ada (fun j => k0_pay62 v1 v10 v124 v138 v140 v149 v155 (ix3 b t j)) (fun j => v162 (ix2 0 j)) (fun j => v2 (ix3 b 0 j)) (fun j => v3 (ix3 b 0 j)))
          (fun k j => v185 (ix2 k j)) l := by
  pointwise [k0_pay63, fl_div, fl_mod, hid, ada, rms, dot_S512x1024_S1024x4096_S512x4096_1_0_0_1_n_n]

theorem pay61_apply (v122 : Vec Ideal S8x64x512 .bf16) (b : Fin 8) (t : Fin 64) (j : Fin 512) :
    k0_pay61 v122 (ix2 (fl b t) j)
      = Ideal.rsqrt (Ideal.div (∑ k : Fin 512, v122 (ix3 b t k) * v122 (ix3 b t k)) (Ideal.ofBits .f32 0x44000000#32) + eps) := by
  pointwise [k0_pay61, fl_div, fl_mod, k0_pay58]

theorem pay58_apply (v122 : Vec Ideal S8x64x512 .bf16) (b : Fin 8) (t : Fin 64) (j : Fin 512) :
    k0_pay58 v122 (ix2 (fl b t) j) = v122 (ix3 b t j) := by
  pointwise [k0_pay58, fl_div, fl_mod]

theorem pay60_apply (v : Vec Ideal S1x512 .f32) (j : Fin 512) : k0_pay60 v (ix2 0 j) = v (ix2 0 j) := by
  pointwise [k0_pay60]

theorem pay64_apply (v : Vec Ideal S4096x1024 .bf16) (k : Fin 4096) (j : Fin 1024) : k0_pay64 v (ix2 k j) = v (ix2 k j) := by
  pointwise [k0_pay64]

theorem pay6_apply (v5 : Vec Ideal S8x64x1024 .f32) (v6 : Vec Ideal S64x1024 .f32) (b : Fin 8) (t : Fin 64) (j : Fin 1024) :
    k0_pay6 v5 v6 (ix3 b t j) = v5 (ix3 b t j) + v6 (ix2 t j) := by
  pointwise [k0_pay6]

theorem pay2_apply (v : Vec Ideal S8x1x6144 .f32) (b : Fin 8) (j : Fin 1024) : k0_pay2 v (ix3 b 0 j) = v (ix3 b 0 ⟨2048 + j.val, by omega⟩) := by
  pointwise [k0_pay2]
theorem pay3_apply (v : Vec Ideal S8x1x6144 .f32) (b : Fin 8) (j : Fin 1024) : k0_pay3 v (ix3 b 0 j) = v (ix3 b 0 ⟨3072 + j.val, by omega⟩) := by
  pointwise [k0_pay3]
theorem pay4_apply (v : Vec Ideal S8x1x6144 .f32) (b : Fin 8) (j : Fin 1024) : k0_pay4 v (ix3 b 0 j) = v (ix3 b 0 ⟨4096 + j.val, by omega⟩) := by
  pointwise [k0_pay4]
theorem pay5_apply (v : Vec Ideal S8x1x6144 .f32) (b : Fin 8) (j : Fin 1024) : k0_pay5 v (ix3 b 0 j) = v (ix3 b 0 ⟨5120 + j.val, by omega⟩) := by
  pointwise [k0_pay5]

end Cert.KRow

end
-- ==== Proof.KCat.lean ====
/- The kernel's regrouping of the slot-major activations into token order, and the mixer's first branch. -/
module

public import proofs.«01_k».proof.Proof.KRow

@[expose] public section

noncomputable section

namespace Cert.KRow

open Cert.KernelIdeal Cert.KernelIdeal.Gen Idealize.ShloMosaic Cert.Rows

/-- The thirty-two pieces joined again. -/
def cat (v : Vec Ideal S16x32x512 .bf16) : FVec Ideal S32x16x512 .bf16 :=
  concatenate S32x16x512 0 [⟨S1x16x512, (k0_pay27 (k0_pay8 (v)))⟩, ⟨S1x16x512, (k0_pay28 (k0_pay9 (v)))⟩, ⟨S1x16x512, (k0_pay29 (k0_pay10 (v)))⟩, ⟨S1x16x512, (k0_pay30 (k0_pay11 (v)))⟩, ⟨S1x16x512, (k0_pay31 (k0_pay12 (v)))⟩, ⟨S1x16x512, (k0_pay32 (k0_pay13 (v)))⟩, ⟨S1x16x512, (k0_pay33 (k0_pay14 (v)))⟩, ⟨S1x16x512, (k0_pay34 (k0_pay15 (v)))⟩, ⟨S1x16x512, (k0_pay35 (k0_pay16 (v)))⟩, ⟨S1x16x512, (k0_pay36 (k0_pay17 (v)))⟩, ⟨S1x16x512, (k0_pay37 (k0_pay18 (v)))⟩, ⟨S1x16x512, (k0_pay38 (k0_pay19 (v)))⟩, ⟨S1x16x512, (k0_pay39 (k0_pay20 (v)))⟩, ⟨S1x16x512, (k0_pay40 (k0_pay21 (v)))⟩, ⟨S1x16x512, (k0_pay41 (k0_pay22 (v)))⟩, ⟨S1x16x512, (k0_pay42 (k0_pay23 (v)))⟩, ⟨S1x16x512, (k0_pay43 (k0_pay24 (v)))⟩, ⟨S1x16x512, (k0_pay44 (k0_pay25 (v)))⟩, ⟨S1x16x512, (k0_pay45 (k0_pay7 v))⟩, ⟨S1x16x512, (k0_pay46 (k0_pay7 v))⟩, ⟨S1x16x512, (k0_pay47 (k0_pay7 v))⟩, ⟨S1x16x512, (k0_pay48 (k0_pay7 v))⟩, ⟨S1x16x512, (k0_pay49 (k0_pay7 v))⟩, ⟨S1x16x512, (k0_pay50 (k0_pay7 v))⟩, ⟨S1x16x512, (k0_pay51 (k0_pay7 v))⟩, ⟨S1x16x512, (k0_pay52 (k0_pay7 v))⟩, ⟨S1x16x512, (k0_pay53 (k0_pay7 v))⟩, ⟨S1x16x512, (k0_pay54 (k0_pay7 v))⟩, ⟨S1x16x512, (k0_pay55 (k0_pay7 v))⟩, ⟨S1x16x512, (k0_pay56 (k0_pay7 v))⟩, ⟨S1x16x512, (k0_pay57 (k0_pay7 v))⟩, ⟨S1x16x512, shapeCast S1x16x512 (k0_pay26 (k0_pay7 v)) shapeCasts_S16x512_S1x16x512⟩] concatenates_S1x16x512_S1x16x512_S1x16x512_S1x16x512_S1x16x512_S1x16x512_S1x16x512_S1x16x512_S1x16x512_S1x16x512_S1x16x512_S1x16x512_S1x16x512_S1x16x512_S1x16x512_S1x16x512_S1x16x512_S1x16x512_S1x16x512_S1x16x512_S1x16x512_S1x16x512_S1x16x512_S1x16x512_S1x16x512_S1x16x512_S1x16x512_S1x16x512_S1x16x512_S1x16x512_S1x16x512_S1x16x512_S32x16x512_d0

set_option maxHeartbeats 4000000 in
theorem cat_apply (v : Vec Ideal S16x32x512 .bf16) (a : Fin 32) (s : Fin 16) (c : Fin 512) :
    cat v (ix3 a s c) = v (ix3 s ⟨8 * (a.val % 4) + a.val / 4, by omega⟩ c) := by
  unfold cat
  fin_cases a
  all_goals pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57]

/-- The mixer's first branch over the loaded blocks. -/
def br (v : Vec Ideal S16x32x512 .bf16) (w : Vec Ideal S512x1024 .bf16) (gb : Vec Ideal S1x1024 .f32) (g : Vec Ideal S1x512 .f32) : FVec Ideal S512x512 .f32 :=
  k0_pay59 (k0_pay26 (k0_pay7 v)) (k0_pay27 (k0_pay8 (v))) (k0_pay28 (k0_pay9 (v))) (k0_pay29 (k0_pay10 (v))) (k0_pay30 (k0_pay11 (v))) (k0_pay31 (k0_pay12 (v))) (k0_pay32 (k0_pay13 (v))) (k0_pay33 (k0_pay14 (v))) (k0_pay34 (k0_pay15 (v))) (k0_pay35 (k0_pay16 (v))) (k0_pay36 (k0_pay17 (v))) (k0_pay37 (k0_pay18 (v))) (k0_pay38 (k0_pay19 (v))) (k0_pay39 (k0_pay20 (v))) (k0_pay40 (k0_pay21 (v))) (k0_pay41 (k0_pay22 (v))) (k0_pay42 (k0_pay23 (v))) (k0_pay43 (k0_pay24 (v))) (k0_pay44 (k0_pay25 (v))) (k0_pay45 (k0_pay7 v)) (k0_pay46 (k0_pay7 v)) (k0_pay47 (k0_pay7 v)) (k0_pay48 (k0_pay7 v)) (k0_pay49 (k0_pay7 v)) (k0_pay50 (k0_pay7 v)) (k0_pay51 (k0_pay7 v)) (k0_pay52 (k0_pay7 v)) (k0_pay53 (k0_pay7 v)) (k0_pay54 (k0_pay7 v)) (k0_pay55 (k0_pay7 v)) (k0_pay56 (k0_pay7 v)) (k0_pay57 (k0_pay7 v)) w gb g

/-- The same with the joined pieces named. -/
def br' (ct : FVec Ideal S32x16x512 .bf16) (v111 : Vec Ideal S512x1024 .bf16) (v114 : Vec Ideal S1x1024 .f32) (v125 : Vec Ideal S1x512 .f32) : FVec Ideal S512x512 .f32 :=
  have v110 : FVec Ideal S512x512 .bf16 := shapeCast S512x512 ct shapeCasts_S32x16x512_S512x512
  have v112 : FVec Ideal S512x1024 .bf16 := shapeCast S512x1024 v111 shapeCasts_S512x1024_S512x1024
  have cst : FVec Ideal S512x1024 .f32 := constant S512x1024 .f32 0x00000000#32
  have v113 : FVec Ideal S512x1024 .f32 := matmul dot_S512x512_S512x1024_S512x1024_1_0_0_1_n_n none v110 v112 cst
  have v115 : FVec Ideal S1x1024 .f32 := shapeCast S1x1024 v114 shapeCasts_S1x1024_S1x1024
  have v116 : FVec Ideal S512x1024 .f32 := broadcastTo S512x1024 v115 broadcasts_S1x1024_S512x1024
  have v117 : FVec Ideal S512x1024 .f32 := addf v113 v116
  have v118 : FVec Ideal S512x512 .f32 := extractStridedSlice S512x512 ![0, 0] v117 slices_S512x1024_o0_0_S512x512
  have v119 : FVec Ideal S512x512 .f32 := extractStridedSlice S512x512 ![0, 512] v117 slices_S512x1024_o0_512_S512x512
  have v120 : FVec Ideal S512x512 .f32 := logistic v119
  have v121 : FVec Ideal S512x512 .f32 := mulf v118 v120
  have v126 : FVec Ideal S1x512 .f32 := shapeCast S1x512 v125 shapeCasts_S1x512_S1x512
  have v127 : FVec Ideal S512x512 .f32 := mulf v121 v121
  have v128 : FVec Ideal S512 .f32 := multiReduction .add [1] S512 v127 0x00000000#32 reduces_S512x512_S512 (.inl rfl) rfl
  have v129 : FVec Ideal S512x1 .f32 := shapeCast S512x1 v128 shapeCasts_S512_S512x1
  have cst_20 : Ideal .f32 := Scalar.ofBits .f32 0x44000000#32
  have v130 : FVec Ideal S512x1 .f32 := broadcast S512x1 cst_20
  have v131 : FVec Ideal S512x1 .f32 := divf v129 v130
  have cst_21 : Ideal .f32 := Scalar.ofBits .f32 0x358637BD#32
  have v132 : FVec Ideal S512x1 .f32 := broadcast S512x1 cst_21
  have v133 : FVec Ideal S512x1 .f32 := addf v131 v132
  have v134 : FVec Ideal S512x1 .f32 := rsqrt v133
  have v135 : FVec Ideal S512x512 .f32 := broadcastTo S512x512 v134 broadcasts_S512x1_S512x512
  have v136 : FVec Ideal S512x512 .f32 := mulf v121 v135
  have v137 : FVec Ideal S512x512 .f32 := broadcastTo S512x512 v126 broadcasts_S1x512_S512x512
  have v138 : FVec Ideal S512x512 .f32 := mulf v136 v137
  v138

theorem br_eq (v : Vec Ideal S16x32x512 .bf16) (w : Vec Ideal S512x1024 .bf16) (gb : Vec Ideal S1x1024 .f32) (g : Vec Ideal S1x512 .f32) : br v w gb g = br' (cat v) w gb g := rfl

theorem br'_apply (ct : FVec Ideal S32x16x512 .bf16) (w : Vec Ideal S512x1024 .bf16) (gb : Vec Ideal S1x1024 .f32) (g : Vec Ideal S1x512 .f32) (r : Fin 512) (c : Fin 512) :
    br' ct w gb g (ix2 r c) = rms (Ideal.ofBits .f32 0x44000000#32)
      (glu (fun k => ct (ix3 ⟨r.val / 16, by omega⟩ ⟨r.val % 16, by omega⟩ k)) (fun k j => w (ix2 k j)) (fun j => gb (ix2 0 j))) (fun j => g (ix2 0 j)) c := by
  pointwise [br', rms, glu, ab, dot_S512x512_S512x1024_S512x1024_1_0_0_1_n_n]
  trace_state

theorem br_apply (v : Vec Ideal S16x32x512 .bf16) (w : Vec Ideal S512x1024 .bf16) (gb : Vec Ideal S1x1024 .f32) (g : Vec Ideal S1x512 .f32) (b : Fin 8) (t : Fin 64) (c : Fin 512) :
    br v w gb g (ix2 (fl b t) c) = rms (Ideal.ofBits .f32 0x44000000#32)
      (glu (fun k => v (ix3 ⟨t.val % 16, by omega⟩ ⟨8 * (t.val / 16) + b.val, by omega⟩ k)) (fun k j => w (ix2 k j)) (fun j => gb (ix2 0 j))) (fun j => g (ix2 0 j)) c := by
  rw [br_eq, br'_apply]
  congr 2
  funext k
  rw [cat_apply]
  congr 2
  · exact Fin.ext (show (b.val * 64 + t.val) % 16 = t.val % 16 by omega)
  · exact Fin.ext (show 8 * ((b.val * 64 + t.val) / 16 % 4) + (b.val * 64 + t.val) / 16 / 4 = 8 * (t.val / 16) + b.val by omega)

end Cert.KRow

end
-- ==== Proof.RRow.lean ====
/- The reference's result, read at an index, is the row function of the argument rows. -/
module

public import proofs.«01_k».proof.Proof.Gen.ReferenceIdeal.Read
public import proofs.«01_k».proof.Proof.Rows

@[expose] public section

noncomputable section

namespace Cert.RRow

open Cert.ReferenceIdeal Cert.ReferenceIdeal.Read Idealize.ShloMosaic Cert.Rows

theorem ys_apply (x2 : (⟨S16x2048x512, .bf16⟩ : BufTy).Contents (Elt Ideal)) (b : Fin 8) (t : Fin 4096) (c : Fin 512) :
    val_main_v44 (F := Ideal) x2 (ix3 b t c)
      = x2 (ix3 ⟨t.val % 16, by omega⟩ ⟨8 * (t.val / 16) + b.val, by omega⟩ c) := by
  pointwise [val_main_v41, val_main_v42, val_main_v43, val_main_v44]
  congr 2
  exact Fin.ext (Nat.add_right_cancel_iff.mpr (Nat.mul_comm _ _))

theorem ab_apply (x2 : (⟨S16x2048x512, .bf16⟩ : BufTy).Contents (Elt Ideal)) (x4 : (⟨S1x512x1024, .f32⟩ : BufTy).Contents (Elt Ideal)) (x5 : (⟨S1x1024, .f32⟩ : BufTy).Contents (Elt Ideal)) (b : Fin 8) (t : Fin 4096) (j : Fin 1024) :
    val_main_v50 (F := Ideal) x2 x4 x5 (ix3 b t j)
      = ab (fun k => val_main_v44 (F := Ideal) x2 (ix3 b t k)) (fun k j => x4 (ix3 0 k j)) (fun j => x5 (ix2 0 j)) j := by
  pointwise [ab, val_main_v45, val_main_v46, val_main_v47, val_main_v48, val_main_v49, val_main_v50, dot_S8x4096x512_S512x1024_S8x4096x1024_2_0_01_1_n_n]

theorem glu_apply (x2 : (⟨S16x2048x512, .bf16⟩ : BufTy).Contents (Elt Ideal)) (x4 : (⟨S1x512x1024, .f32⟩ : BufTy).Contents (Elt Ideal)) (x5 : (⟨S1x1024, .f32⟩ : BufTy).Contents (Elt Ideal)) (b : Fin 8) (t : Fin 4096) (c : Fin 512) :
    val_main_v59 (F := Ideal) x2 x4 x5 (ix3 b t c)
      = val_main_v50 (F := Ideal) x2 x4 x5 (ix3 b t ⟨c.val, by omega⟩) * Ideal.logistic (val_main_v50 (F := Ideal) x2 x4 x5 (ix3 b t ⟨512 + c.val, by omega⟩)) := by
  pointwise [val_main_v51, val_main_v52, val_main_v53, val_main_v54, val_main_v55, val_main_v56, val_main_v57, val_main_v58, val_main_v59, val_main_cst_2, val_main_cst_3, Ideal.logistic]

theorem s5_apply (x2 : (⟨S16x2048x512, .bf16⟩ : BufTy).Contents (Elt Ideal)) (x4 : (⟨S1x512x1024, .f32⟩ : BufTy).Contents (Elt Ideal)) (x5 : (⟨S1x1024, .f32⟩ : BufTy).Contents (Elt Ideal)) (x6 : (⟨S1x512, .f32⟩ : BufTy).Contents (Elt Ideal)) (b : Fin 8) (t : Fin 4096) (c : Fin 512) :
    val_main_v73 (F := Ideal) x2 x4 x5 x6 (ix3 b t c)
      = rms (Ideal.ofBits .f32 0x44000000#32) (fun k => val_main_v59 (F := Ideal) x2 x4 x5 (ix3 b t k)) (fun j => x6 (ix2 0 j)) c := by
  pointwise [val_main_v60, val_main_v61, val_main_v62, val_main_v63, val_main_v64, val_main_v65, val_main_v66, val_main_v67, val_main_v68, val_main_v69, val_main_v70, val_main_v71, val_main_v72, val_main_v73, rms, val_main_cst_4, val_main_cst_5, val_main_cst_6]

theorem hy_apply (x3 : (⟨S8x4096x512, .bf16⟩ : BufTy).Contents (Elt Ideal)) (x7 : (⟨S1x512, .f32⟩ : BufTy).Contents (Elt Ideal)) (b : Fin 8) (t : Fin 4096) (c : Fin 512) :
    val_main_v88 (F := Ideal) x3 x7 (ix3 b t c)
      = rms (Ideal.ofBits .f32 0x44000000#32) (fun k => x3 (ix3 b t k)) (fun j => x7 (ix2 0 j)) c := by
  pointwise [val_main_v74, val_main_v75, val_main_v76, val_main_v77, val_main_v78, val_main_v79, val_main_v80, val_main_v81, val_main_v82, val_main_v83, val_main_v84, val_main_v85, val_main_v86, val_main_v87, val_main_v88, rms, val_main_cst_7, val_main_cst_8, val_main_cst_9]

theorem h_apply (x0 : (⟨S8x4096x1024, .f32⟩ : BufTy).Contents (Elt Ideal)) (x1 : (⟨S16x1x6144, .f32⟩ : BufTy).Contents (Elt Ideal)) (x2 : (⟨S16x2048x512, .bf16⟩ : BufTy).Contents (Elt Ideal)) (x3 : (⟨S8x4096x512, .bf16⟩ : BufTy).Contents (Elt Ideal)) (x4 : (⟨S1x512x1024, .f32⟩ : BufTy).Contents (Elt Ideal)) (x5 : (⟨S1x1024, .f32⟩ : BufTy).Contents (Elt Ideal)) (x6 x7 : (⟨S1x512, .f32⟩ : BufTy).Contents (Elt Ideal)) (x8 : (⟨S1x1024x1024, .f32⟩ : BufTy).Contents (Elt Ideal)) (b : Fin 8) (t : Fin 4096) (j : Fin 1024) :
    val_main_v94 (F := Ideal) x0 x1 x2 x3 x4 x5 x6 x7 x8 (ix3 b t j)
      = res (fun j => x0 (ix3 b t j) + val_main_v30 (F := Ideal) (ix2 t j)) (fun j => x1 (ix3 ⟨b.val, by omega⟩ 0 ⟨2048 + j.val, by omega⟩))
          (fun k : Fin 1024 => if h : k.val < 512 then val_main_v73 (F := Ideal) x2 x4 x5 x6 (ix3 b t ⟨k.val, h⟩)
            else val_main_v88 (F := Ideal) x3 x7 (ix3 b t ⟨k.val - 512, by omega⟩)) (fun k j => x8 (ix3 0 k j)) j := by
  pointwise [val_main_v31, val_main_v32, val_main_v33, val_main_v34, val_main_v37, val_main_v89, val_main_v90, val_main_v91, val_main_v92, val_main_v93, val_main_v94, res, dot_S8x4096x1024_S1024x1024_S8x4096x1024_2_0_01_1_n_n]

theorem ada_apply (x0 : (⟨S8x4096x1024, .f32⟩ : BufTy).Contents (Elt Ideal)) (x1 : (⟨S16x1x6144, .f32⟩ : BufTy).Contents (Elt Ideal)) (x2 : (⟨S16x2048x512, .bf16⟩ : BufTy).Contents (Elt Ideal)) (x3 : (⟨S8x4096x512, .bf16⟩ : BufTy).Contents (Elt Ideal)) (x4 : (⟨S1x512x1024, .f32⟩ : BufTy).Contents (Elt Ideal)) (x5 : (⟨S1x1024, .f32⟩ : BufTy).Contents (Elt Ideal)) (x6 x7 : (⟨S1x512, .f32⟩ : BufTy).Contents (Elt Ideal)) (x8 : (⟨S1x1024x1024, .f32⟩ : BufTy).Contents (Elt Ideal)) (x9 : (⟨S1x1024, .f32⟩ : BufTy).Contents (Elt Ideal)) (b : Fin 8) (t : Fin 4096) (j : Fin 1024) :
    val_main_v114 (F := Ideal) x0 x1 x2 x3 x4 x5 x6 x7 x8 x9 (ix3 b t j)
      = ada (fun j => val_main_v94 (F := Ideal) x0 x1 x2 x3 x4 x5 x6 x7 x8 (ix3 b t j)) (fun j => x9 (ix2 0 j)) (fun j => x1 (ix3 ⟨b.val, by omega⟩ 0 ⟨3072 + j.val, by omega⟩)) (fun j => x1 (ix3 ⟨b.val, by omega⟩ 0 ⟨4096 + j.val, by omega⟩)) j := by
  pointwise [val_main_v34, val_main_v38, val_main_v39, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, ada, rms, val_main_cst_10, val_main_cst_11, val_main_cst_12, val_main_cst_13]

theorem hid_apply (x0 : (⟨S8x4096x1024, .f32⟩ : BufTy).Contents (Elt Ideal)) (x1 : (⟨S16x1x6144, .f32⟩ : BufTy).Contents (Elt Ideal)) (x2 : (⟨S16x2048x512, .bf16⟩ : BufTy).Contents (Elt Ideal)) (x3 : (⟨S8x4096x512, .bf16⟩ : BufTy).Contents (Elt Ideal)) (x4 : (⟨S1x512x1024, .f32⟩ : BufTy).Contents (Elt Ideal)) (x5 : (⟨S1x1024, .f32⟩ : BufTy).Contents (Elt Ideal)) (x6 x7 : (⟨S1x512, .f32⟩ : BufTy).Contents (Elt Ideal)) (x8 : (⟨S1x1024x1024, .f32⟩ : BufTy).Contents (Elt Ideal)) (x9 : (⟨S1x1024, .f32⟩ : BufTy).Contents (Elt Ideal)) (x10 : (⟨S1x1024x4096, .f32⟩ : BufTy).Contents (Elt Ideal)) (b : Fin 8) (t : Fin 4096) (l : Fin 4096) :
    val_main_v118 (F := Ideal) x0 x1 x2 x3 x4 x5 x6 x7 x8 x9 x10 (ix3 b t l)
      = hid (fun j => val_main_v114 (F := Ideal) x0 x1 x2 x3 x4 x5 x6 x7 x8 x9 (ix3 b t j)) (fun k j => x10 (ix3 0 k j)) l := by
  pointwise [val_main_v115, val_main_v116, val_main_v117, val_main_v118, hid, val_main_call0_cst, val_main_call0_v0, dot_S8x4096x1024_S1024x4096_S8x4096x4096_2_0_01_1_n_n]

theorem h2_apply (x0 : (⟨S8x4096x1024, .f32⟩ : BufTy).Contents (Elt Ideal)) (x1 : (⟨S16x1x6144, .f32⟩ : BufTy).Contents (Elt Ideal)) (x2 : (⟨S16x2048x512, .bf16⟩ : BufTy).Contents (Elt Ideal)) (x3 : (⟨S8x4096x512, .bf16⟩ : BufTy).Contents (Elt Ideal)) (x4 : (⟨S1x512x1024, .f32⟩ : BufTy).Contents (Elt Ideal)) (x5 : (⟨S1x1024, .f32⟩ : BufTy).Contents (Elt Ideal)) (x6 x7 : (⟨S1x512, .f32⟩ : BufTy).Contents (Elt Ideal)) (x8 : (⟨S1x1024x1024, .f32⟩ : BufTy).Contents (Elt Ideal)) (x9 : (⟨S1x1024, .f32⟩ : BufTy).Contents (Elt Ideal)) (x10 : (⟨S1x1024x4096, .f32⟩ : BufTy).Contents (Elt Ideal)) (x11 : (⟨S1x4096x1024, .f32⟩ : BufTy).Contents (Elt Ideal)) (b : Fin 8) (t : Fin 4096) (j : Fin 1024) :
    val_main_v123 (F := Ideal) x0 x1 x2 x3 x4 x5 x6 x7 x8 x9 x10 x11 (ix3 b t j)
      = res (fun j => val_main_v94 (F := Ideal) x0 x1 x2 x3 x4 x5 x6 x7 x8 (ix3 b t j)) (fun j => x1 (ix3 ⟨b.val, by omega⟩ 0 ⟨5120 + j.val, by omega⟩)) (fun l => val_main_v118 (F := Ideal) x0 x1 x2 x3 x4 x5 x6 x7 x8 x9 x10 (ix3 b t l)) (fun k j => x11 (ix3 0 k j)) j := by
  pointwise [val_main_v34, val_main_v40, val_main_v119, val_main_v120, val_main_v121, val_main_v122, val_main_v123, res, dot_S8x4096x4096_S4096x1024_S8x4096x1024_2_0_01_1_n_n]

theorem fin_apply (x0 : (⟨S8x4096x1024, .f32⟩ : BufTy).Contents (Elt Ideal)) (x1 : (⟨S16x1x6144, .f32⟩ : BufTy).Contents (Elt Ideal)) (x2 : (⟨S16x2048x512, .bf16⟩ : BufTy).Contents (Elt Ideal)) (x3 : (⟨S8x4096x512, .bf16⟩ : BufTy).Contents (Elt Ideal)) (x4 : (⟨S1x512x1024, .f32⟩ : BufTy).Contents (Elt Ideal)) (x5 : (⟨S1x1024, .f32⟩ : BufTy).Contents (Elt Ideal)) (x6 x7 : (⟨S1x512, .f32⟩ : BufTy).Contents (Elt Ideal)) (x8 : (⟨S1x1024x1024, .f32⟩ : BufTy).Contents (Elt Ideal)) (x9 : (⟨S1x1024, .f32⟩ : BufTy).Contents (Elt Ideal)) (x10 : (⟨S1x1024x4096, .f32⟩ : BufTy).Contents (Elt Ideal)) (x11 : (⟨S1x4096x1024, .f32⟩ : BufTy).Contents (Elt Ideal)) (x12 : (⟨S1024, .f32⟩ : BufTy).Contents (Elt Ideal)) (b : Fin 8) (t : Fin 4096) (j : Fin 1024) :
    val_main_v136 (F := Ideal) x0 x1 x2 x3 x4 x5 x6 x7 x8 x9 x10 x11 x12 (ix3 b t j)
      = rms (Ideal.ofBits .f32 0x44800000#32) (fun j => val_main_v123 (F := Ideal) x0 x1 x2 x3 x4 x5 x6 x7 x8 x9 x10 x11 (ix3 b t j)) (fun j => x12 (ix1 j)) j := by
  pointwise [val_main_v124, val_main_v125, val_main_v126, val_main_v127, val_main_v128, val_main_v129, val_main_v130, val_main_v131, val_main_v132, val_main_v133, val_main_v134, val_main_v135, val_main_v136, rms, val_main_cst_14, val_main_cst_15, val_main_cst_16]

/-- The reference's result at an index is the row function of the argument rows. -/
theorem ref_apply (x0 : (⟨S8x4096x1024, .f32⟩ : BufTy).Contents (Elt Ideal)) (x1 : (⟨S16x1x6144, .f32⟩ : BufTy).Contents (Elt Ideal)) (x2 : (⟨S16x2048x512, .bf16⟩ : BufTy).Contents (Elt Ideal)) (x3 : (⟨S8x4096x512, .bf16⟩ : BufTy).Contents (Elt Ideal)) (x4 : (⟨S1x512x1024, .f32⟩ : BufTy).Contents (Elt Ideal)) (x5 : (⟨S1x1024, .f32⟩ : BufTy).Contents (Elt Ideal)) (x6 x7 : (⟨S1x512, .f32⟩ : BufTy).Contents (Elt Ideal)) (x8 : (⟨S1x1024x1024, .f32⟩ : BufTy).Contents (Elt Ideal)) (x9 : (⟨S1x1024, .f32⟩ : BufTy).Contents (Elt Ideal)) (x10 : (⟨S1x1024x4096, .f32⟩ : BufTy).Contents (Elt Ideal)) (x11 : (⟨S1x4096x1024, .f32⟩ : BufTy).Contents (Elt Ideal)) (x12 : (⟨S1024, .f32⟩ : BufTy).Contents (Elt Ideal)) (b : Fin 8) (t : Fin 4096) (j : Fin 1024) :
    val_main_v136 (F := Ideal) x0 x1 x2 x3 x4 x5 x6 x7 x8 x9 x10 x11 x12 (ix3 b t j)
      = Rows.out (fun j => x0 (ix3 b t j)) (fun j => val_main_v30 (F := Ideal) (ix2 t j)) (fun j => x1 (ix3 ⟨b.val, by omega⟩ 0 j))
          (fun k => x2 (ix3 ⟨t.val % 16, by omega⟩ ⟨8 * (t.val / 16) + b.val, by omega⟩ k)) (fun k => x3 (ix3 b t k)) (fun k j => x4 (ix3 0 k j)) (fun j => x5 (ix2 0 j)) (fun j => x6 (ix2 0 j)) (fun j => x7 (ix2 0 j)) (fun k j => x8 (ix3 0 k j))
          (fun j => x9 (ix2 0 j)) (fun k j => x10 (ix3 0 k j)) (fun k j => x11 (ix3 0 k j)) (fun j => x12 (ix1 j)) j := by
  have e : (fun k : Fin 1024 => if h : k.val < 512 then val_main_v73 (F := Ideal) x2 x4 x5 x6 (ix3 b t ⟨k.val, h⟩)
      else val_main_v88 (F := Ideal) x3 x7 (ix3 b t ⟨k.val - 512, by omega⟩))
      = mix (fun k => x2 (ix3 ⟨t.val % 16, by omega⟩ ⟨8 * (t.val / 16) + b.val, by omega⟩ k)) (fun k => x3 (ix3 b t k)) (fun k j => x4 (ix3 0 k j)) (fun j => x5 (ix2 0 j)) (fun j => x6 (ix2 0 j)) (fun j => x7 (ix2 0 j)) := by
    funext k
    unfold mix
    split
    · rw [s5_apply]
      congr 1
      funext c
      rw [glu_apply, ab_apply, ab_apply]
      simp only [ys_apply, glu]
    · rw [hy_apply]
  rw [fin_apply]
  simp only [h2_apply, hid_apply, ada_apply, h_apply, e, Rows.out]

end Cert.RRow

end
-- ==== Proof.KVal.lean ====
/- What a grid point of the kernel writes back is its block of the reference's result of the argument arrays. -/
module

public import proofs.«01_k».proof.Proof.Gen.KernelIdeal.Value
public import proofs.«01_k».proof.Proof.KCat
public import proofs.«01_k».proof.Proof.RRow
public import Idealize.ShloMosaic.Lib.StableHlo.RunRead

@[expose] public section

noncomputable section

namespace Cert.KVal

open Cert.KernelIdeal Cert.KernelIdeal.Gen Cert.KernelIdeal.Value Idealize.ShloMosaic Idealize.ShloMosaic.TcCoe Idealize.SL.Sem Cert.Rows Cert.KRow
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

theorem ld0 (x : Vec Ideal S8x1x6144 .f32) : View.ld x r0_0 = x := View.ld_unit_zero hz3 _ x
theorem ld1 (x : Vec Ideal S8x64x1024 .f32) : View.ld x r0_1 = x := View.ld_unit_zero hz3 _ x
theorem ld2 (x : Vec Ideal S64x1024 .f32) : View.ld x r0_2 = x := View.ld_unit_zero hz2 _ x
theorem ld5 (x : Vec Ideal S1x1024 .f32) : View.ld x r0_5 = x := View.ld_unit_zero hz2 _ x
theorem ld6 (x : Vec Ideal S8x64x512 .bf16) : View.ld x r0_6 = x := View.ld_unit_zero hz3 _ x
theorem ld7 (x : Vec Ideal S1x512 .f32) : View.ld x r0_7 = x := View.ld_unit_zero hz2 _ x
theorem ld8 (x : Vec Ideal S1024x1024 .bf16) : View.ld x r0_8 = x := View.ld_unit_zero hz2 _ x
theorem ld9 (x : Vec Ideal S1024x4096 .bf16) : View.ld x r0_9 = x := View.ld_unit_zero hz2 _ x
theorem ld10 (x : Vec Ideal S4096x1024 .bf16) : View.ld x r0_10 = x := View.ld_unit_zero hz2 _ x

/-- The stored block at an index, as the row function of the loaded blocks' rows. -/
theorem out_apply (x0 : Vec Ideal S8x64x1024 .f32) (x1 : Vec Ideal S64x1024 .f32) (x2 : Vec Ideal S8x1x6144 .f32) (x3 : Vec Ideal S16x32x512 .bf16) (x4 : Vec Ideal S8x64x512 .bf16) (x5 : Vec Ideal S512x1024 .bf16) (x6 : Vec Ideal S1x1024 .f32) (x7 : Vec Ideal S1x512 .f32) (x8 : Vec Ideal S1x512 .f32) (x9 : Vec Ideal S1024x1024 .bf16) (x10 : Vec Ideal S1x1024 .f32) (x11 : Vec Ideal S1024x4096 .bf16) (x12 : Vec Ideal S4096x1024 .bf16) (x13 : Vec Ideal S1x1024 .f32) (b : Fin 8) (t : Fin 64) (j : Fin 1024) :
    out0_14 x0 x1 x2 x3 x4 x5 x6 x7 x8 x9 x10 x11 x12 x13 (ix3 b t j)
      = Rows.out (fun j => x0 (ix3 b t j)) (fun j => x1 (ix2 t j)) (fun j => x2 (ix3 b 0 j))
          (fun k => x3 (ix3 ⟨t.val % 16, by omega⟩ ⟨8 * (t.val / 16) + b.val, by omega⟩ k)) (fun k => x4 (ix3 b t k))
          (fun k j => x5 (ix2 k j)) (fun j => x6 (ix2 0 j)) (fun j => x7 (ix2 0 j)) (fun j => x8 (ix2 0 j)) (fun k j => x9 (ix2 k j))
          (fun j => x10 (ix2 0 j)) (fun k j => x11 (ix2 k j)) (fun k j => x12 (ix2 k j)) (fun j => x13 (ix2 0 j)) j := by
  have hbr : k0_pay69 x0 x1 x2 x3 x4 x5 x6 x7 x8 x9 x10 x11 x12 x13 = br x3 x5 x6 x7 := by
    unfold k0_pay69 k0_pay67 br
    rw [View.ld_unit_zero hz3, View.ld_unit_zero hz2, View.ld_unit_zero hz2, View.ld_unit_zero hz2]
  unfold out0_14
  rw [View.canon_unit_zero hz3, hbr]
  unfold k0_pay71 k0_pay70 k0_pay68 k0_pay66 k0_pay65
  simp only [ld0, ld1, ld2, ld5, ld6, ld7, ld8, ld9, ld10]
  rw [pay1_apply]
  simp only [pay63_apply, pay62_apply, pay61_apply, pay60_apply, pay58_apply, pay64_apply, pay6_apply, pay2_apply, pay3_apply, pay4_apply, pay5_apply, br_apply]
  rfl

variable (m : (ℓ : Loc nD τ sig) → Buf (Elt Ideal) ℓ) (ρ : Dev nD → PrngReg)

theorem N_eq : cfg0.N = 64 := rfl

theorem idx0 : ∀ t : Fin cfg0.N, win0_0.index t (0 : Fin 3) = 0 ∧ win0_0.index t (1 : Fin 3) = t.val ∧ win0_0.index t (2 : Fin 3) = 0 := (by decide +kernel : ∀ t : Fin grid0.N, _)
theorem emb0 (t : Fin cfg0.N) (a : Fin 8) (b : Fin 64) (d : Fin 1024) : ((cfg0.win 0).blk t).view.emb (ix3 a b d) = (ix3 a ⟨64 * t.val + b.val, by have := t.isLt; have h : cfg0.N = 64 := N_eq; omega⟩ d) := by
  obtain ⟨e0, e1, e2⟩ := idx0 t
  funext q; apply Fin.ext
  match q with
  | ⟨0, _⟩ => show win0_0.index t (0 : Fin 3) * 8 + 1 * a.val = a.val; omega
  | ⟨1, _⟩ => show win0_0.index t (1 : Fin 3) * 64 + 1 * b.val = 64 * t.val + b.val; omega
  | ⟨2, _⟩ => show win0_0.index t (2 : Fin 3) * 1024 + 1 * d.val = d.val; omega

theorem iblk0 (c : Dev nD) (t : Fin cfg0.N) (a : Fin 8) (b : Fin 64) (d : Fin 1024) : iblk m c 0 t (ix3 a b d) = V m c main_arg0 (ix3 a ⟨64 * t.val + b.val, by have := t.isLt; have h : cfg0.N = 64 := N_eq; omega⟩ d) := by
  show V m c main_arg0 (((cfg0.win 0).blk t).view.emb (ix3 a b d)) = _; rw [emb0]

theorem idx1 : ∀ t : Fin cfg0.N, win0_1.index t (0 : Fin 2) = t.val ∧ win0_1.index t (1 : Fin 2) = 0 := (by decide +kernel : ∀ t : Fin grid0.N, _)
theorem emb1 (t : Fin cfg0.N) (a : Fin 64) (b : Fin 1024) : ((cfg0.win 1).blk t).view.emb (ix2 a b) = (ix2 ⟨64 * t.val + a.val, by have := t.isLt; have h : cfg0.N = 64 := N_eq; omega⟩ b) := by
  obtain ⟨e0, e1⟩ := idx1 t
  funext q; apply Fin.ext
  match q with
  | ⟨0, _⟩ => show win0_1.index t (0 : Fin 2) * 64 + 1 * a.val = 64 * t.val + a.val; omega
  | ⟨1, _⟩ => show win0_1.index t (1 : Fin 2) * 1024 + 1 * b.val = b.val; omega

theorem iblk1 (c : Dev nD) (t : Fin cfg0.N) (a : Fin 64) (b : Fin 1024) : iblk m c 1 t (ix2 a b) = V m c main_v30 (ix2 ⟨64 * t.val + a.val, by have := t.isLt; have h : cfg0.N = 64 := N_eq; omega⟩ b) := by
  show V m c main_v30 (((cfg0.win 1).blk t).view.emb (ix2 a b)) = _; rw [emb1]

theorem idx2 : ∀ t : Fin cfg0.N, win0_2.index t (0 : Fin 3) = 0 ∧ win0_2.index t (1 : Fin 3) = 0 ∧ win0_2.index t (2 : Fin 3) = 0 := (by decide +kernel : ∀ t : Fin grid0.N, _)
theorem emb2 (t : Fin cfg0.N) (a : Fin 8) (b : Fin 1) (d : Fin 6144) : ((cfg0.win 2).blk t).view.emb (ix3 a b d) = (ix3 ⟨a.val, by omega⟩ b d) := by
  obtain ⟨e0, e1, e2⟩ := idx2 t
  funext q; apply Fin.ext
  match q with
  | ⟨0, _⟩ => show win0_2.index t (0 : Fin 3) * 8 + 1 * a.val = a.val; omega
  | ⟨1, _⟩ => show win0_2.index t (1 : Fin 3) * 1 + 1 * b.val = b.val; omega
  | ⟨2, _⟩ => show win0_2.index t (2 : Fin 3) * 6144 + 1 * d.val = d.val; omega

theorem iblk2 (c : Dev nD) (t : Fin cfg0.N) (a : Fin 8) (b : Fin 1) (d : Fin 6144) : iblk m c 2 t (ix3 a b d) = V m c main_arg1 (ix3 ⟨a.val, by omega⟩ b d) := by
  show V m c main_arg1 (((cfg0.win 2).blk t).view.emb (ix3 a b d)) = _; rw [emb2]

theorem idx3 : ∀ t : Fin cfg0.N, win0_3.index t (0 : Fin 3) = 0 ∧ win0_3.index t (1 : Fin 3) = t.val ∧ win0_3.index t (2 : Fin 3) = 0 := (by decide +kernel : ∀ t : Fin grid0.N, _)
theorem emb3 (t : Fin cfg0.N) (a : Fin 16) (b : Fin 32) (d : Fin 512) : ((cfg0.win 3).blk t).view.emb (ix3 a b d) = (ix3 a ⟨32 * t.val + b.val, by have := t.isLt; have h : cfg0.N = 64 := N_eq; omega⟩ d) := by
  obtain ⟨e0, e1, e2⟩ := idx3 t
  funext q; apply Fin.ext
  match q with
  | ⟨0, _⟩ => show win0_3.index t (0 : Fin 3) * 16 + 1 * a.val = a.val; omega
  | ⟨1, _⟩ => show win0_3.index t (1 : Fin 3) * 32 + 1 * b.val = 32 * t.val + b.val; omega
  | ⟨2, _⟩ => show win0_3.index t (2 : Fin 3) * 512 + 1 * d.val = d.val; omega

theorem iblk3 (c : Dev nD) (t : Fin cfg0.N) (a : Fin 16) (b : Fin 32) (d : Fin 512) : iblk m c 3 t (ix3 a b d) = V m c main_arg2 (ix3 a ⟨32 * t.val + b.val, by have := t.isLt; have h : cfg0.N = 64 := N_eq; omega⟩ d) := by
  show V m c main_arg2 (((cfg0.win 3).blk t).view.emb (ix3 a b d)) = _; rw [emb3]

theorem idx4 : ∀ t : Fin cfg0.N, win0_4.index t (0 : Fin 3) = 0 ∧ win0_4.index t (1 : Fin 3) = t.val ∧ win0_4.index t (2 : Fin 3) = 0 := (by decide +kernel : ∀ t : Fin grid0.N, _)
theorem emb4 (t : Fin cfg0.N) (a : Fin 8) (b : Fin 64) (d : Fin 512) : ((cfg0.win 4).blk t).view.emb (ix3 a b d) = (ix3 a ⟨64 * t.val + b.val, by have := t.isLt; have h : cfg0.N = 64 := N_eq; omega⟩ d) := by
  obtain ⟨e0, e1, e2⟩ := idx4 t
  funext q; apply Fin.ext
  match q with
  | ⟨0, _⟩ => show win0_4.index t (0 : Fin 3) * 8 + 1 * a.val = a.val; omega
  | ⟨1, _⟩ => show win0_4.index t (1 : Fin 3) * 64 + 1 * b.val = 64 * t.val + b.val; omega
  | ⟨2, _⟩ => show win0_4.index t (2 : Fin 3) * 512 + 1 * d.val = d.val; omega

theorem iblk4 (c : Dev nD) (t : Fin cfg0.N) (a : Fin 8) (b : Fin 64) (d : Fin 512) : iblk m c 4 t (ix3 a b d) = V m c main_arg3 (ix3 a ⟨64 * t.val + b.val, by have := t.isLt; have h : cfg0.N = 64 := N_eq; omega⟩ d) := by
  show V m c main_arg3 (((cfg0.win 4).blk t).view.emb (ix3 a b d)) = _; rw [emb4]

theorem idx5 : ∀ t : Fin cfg0.N, win0_5.index t (0 : Fin 2) = 0 ∧ win0_5.index t (1 : Fin 2) = 0 := (by decide +kernel : ∀ t : Fin grid0.N, _)
theorem emb5 (t : Fin cfg0.N) (a : Fin 512) (b : Fin 1024) : ((cfg0.win 5).blk t).view.emb (ix2 a b) = (ix2 a b) := by
  obtain ⟨e0, e1⟩ := idx5 t
  funext q; apply Fin.ext
  match q with
  | ⟨0, _⟩ => show win0_5.index t (0 : Fin 2) * 512 + 1 * a.val = a.val; omega
  | ⟨1, _⟩ => show win0_5.index t (1 : Fin 2) * 1024 + 1 * b.val = b.val; omega

theorem iblk5 (c : Dev nD) (t : Fin cfg0.N) (a : Fin 512) (b : Fin 1024) : iblk m c 5 t (ix2 a b) = V m c main_v32 (ix2 a b) := by
  show V m c main_v32 (((cfg0.win 5).blk t).view.emb (ix2 a b)) = _; rw [emb5]

theorem idx6 : ∀ t : Fin cfg0.N, win0_6.index t (0 : Fin 2) = 0 ∧ win0_6.index t (1 : Fin 2) = 0 := (by decide +kernel : ∀ t : Fin grid0.N, _)
theorem emb6 (t : Fin cfg0.N) (a : Fin 1) (b : Fin 1024) : ((cfg0.win 6).blk t).view.emb (ix2 a b) = (ix2 a b) := by
  obtain ⟨e0, e1⟩ := idx6 t
  funext q; apply Fin.ext
  match q with
  | ⟨0, _⟩ => show win0_6.index t (0 : Fin 2) * 1 + 1 * a.val = a.val; omega
  | ⟨1, _⟩ => show win0_6.index t (1 : Fin 2) * 1024 + 1 * b.val = b.val; omega

theorem iblk6 (c : Dev nD) (t : Fin cfg0.N) (a : Fin 1) (b : Fin 1024) : iblk m c 6 t (ix2 a b) = V m c main_v43 (ix2 a b) := by
  show V m c main_v43 (((cfg0.win 6).blk t).view.emb (ix2 a b)) = _; rw [emb6]

theorem idx7 : ∀ t : Fin cfg0.N, win0_7.index t (0 : Fin 2) = 0 ∧ win0_7.index t (1 : Fin 2) = 0 := (by decide +kernel : ∀ t : Fin grid0.N, _)
theorem emb7 (t : Fin cfg0.N) (a : Fin 1) (b : Fin 512) : ((cfg0.win 7).blk t).view.emb (ix2 a b) = (ix2 a b) := by
  obtain ⟨e0, e1⟩ := idx7 t
  funext q; apply Fin.ext
  match q with
  | ⟨0, _⟩ => show win0_7.index t (0 : Fin 2) * 1 + 1 * a.val = a.val; omega
  | ⟨1, _⟩ => show win0_7.index t (1 : Fin 2) * 512 + 1 * b.val = b.val; omega

theorem iblk7 (c : Dev nD) (t : Fin cfg0.N) (a : Fin 1) (b : Fin 512) : iblk m c 7 t (ix2 a b) = V m c main_v44 (ix2 a b) := by
  show V m c main_v44 (((cfg0.win 7).blk t).view.emb (ix2 a b)) = _; rw [emb7]

theorem idx8 : ∀ t : Fin cfg0.N, win0_8.index t (0 : Fin 2) = 0 ∧ win0_8.index t (1 : Fin 2) = 0 := (by decide +kernel : ∀ t : Fin grid0.N, _)
theorem emb8 (t : Fin cfg0.N) (a : Fin 1) (b : Fin 512) : ((cfg0.win 8).blk t).view.emb (ix2 a b) = (ix2 a b) := by
  obtain ⟨e0, e1⟩ := idx8 t
  funext q; apply Fin.ext
  match q with
  | ⟨0, _⟩ => show win0_8.index t (0 : Fin 2) * 1 + 1 * a.val = a.val; omega
  | ⟨1, _⟩ => show win0_8.index t (1 : Fin 2) * 512 + 1 * b.val = b.val; omega

theorem iblk8 (c : Dev nD) (t : Fin cfg0.N) (a : Fin 1) (b : Fin 512) : iblk m c 8 t (ix2 a b) = V m c main_v45 (ix2 a b) := by
  show V m c main_v45 (((cfg0.win 8).blk t).view.emb (ix2 a b)) = _; rw [emb8]

theorem idx9 : ∀ t : Fin cfg0.N, win0_9.index t (0 : Fin 2) = 0 ∧ win0_9.index t (1 : Fin 2) = 0 := (by decide +kernel : ∀ t : Fin grid0.N, _)
theorem emb9 (t : Fin cfg0.N) (a : Fin 1024) (b : Fin 1024) : ((cfg0.win 9).blk t).view.emb (ix2 a b) = (ix2 a b) := by
  obtain ⟨e0, e1⟩ := idx9 t
  funext q; apply Fin.ext
  match q with
  | ⟨0, _⟩ => show win0_9.index t (0 : Fin 2) * 1024 + 1 * a.val = a.val; omega
  | ⟨1, _⟩ => show win0_9.index t (1 : Fin 2) * 1024 + 1 * b.val = b.val; omega

theorem iblk9 (c : Dev nD) (t : Fin cfg0.N) (a : Fin 1024) (b : Fin 1024) : iblk m c 9 t (ix2 a b) = V m c main_v37 (ix2 a b) := by
  show V m c main_v37 (((cfg0.win 9).blk t).view.emb (ix2 a b)) = _; rw [emb9]

theorem idx10 : ∀ t : Fin cfg0.N, win0_10.index t (0 : Fin 2) = 0 ∧ win0_10.index t (1 : Fin 2) = 0 := (by decide +kernel : ∀ t : Fin grid0.N, _)
theorem emb10 (t : Fin cfg0.N) (a : Fin 1) (b : Fin 1024) : ((cfg0.win 10).blk t).view.emb (ix2 a b) = (ix2 a b) := by
  obtain ⟨e0, e1⟩ := idx10 t
  funext q; apply Fin.ext
  match q with
  | ⟨0, _⟩ => show win0_10.index t (0 : Fin 2) * 1 + 1 * a.val = a.val; omega
  | ⟨1, _⟩ => show win0_10.index t (1 : Fin 2) * 1024 + 1 * b.val = b.val; omega

theorem iblk10 (c : Dev nD) (t : Fin cfg0.N) (a : Fin 1) (b : Fin 1024) : iblk m c 10 t (ix2 a b) = V m c main_v46 (ix2 a b) := by
  show V m c main_v46 (((cfg0.win 10).blk t).view.emb (ix2 a b)) = _; rw [emb10]

theorem idx11 : ∀ t : Fin cfg0.N, win0_11.index t (0 : Fin 2) = 0 ∧ win0_11.index t (1 : Fin 2) = 0 := (by decide +kernel : ∀ t : Fin grid0.N, _)
theorem emb11 (t : Fin cfg0.N) (a : Fin 1024) (b : Fin 4096) : ((cfg0.win 11).blk t).view.emb (ix2 a b) = (ix2 a b) := by
  obtain ⟨e0, e1⟩ := idx11 t
  funext q; apply Fin.ext
  match q with
  | ⟨0, _⟩ => show win0_11.index t (0 : Fin 2) * 1024 + 1 * a.val = a.val; omega
  | ⟨1, _⟩ => show win0_11.index t (1 : Fin 2) * 4096 + 1 * b.val = b.val; omega

theorem iblk11 (c : Dev nD) (t : Fin cfg0.N) (a : Fin 1024) (b : Fin 4096) : iblk m c 11 t (ix2 a b) = V m c main_v40 (ix2 a b) := by
  show V m c main_v40 (((cfg0.win 11).blk t).view.emb (ix2 a b)) = _; rw [emb11]

theorem idx12 : ∀ t : Fin cfg0.N, win0_12.index t (0 : Fin 2) = 0 ∧ win0_12.index t (1 : Fin 2) = 0 := (by decide +kernel : ∀ t : Fin grid0.N, _)
theorem emb12 (t : Fin cfg0.N) (a : Fin 4096) (b : Fin 1024) : ((cfg0.win 12).blk t).view.emb (ix2 a b) = (ix2 a b) := by
  obtain ⟨e0, e1⟩ := idx12 t
  funext q; apply Fin.ext
  match q with
  | ⟨0, _⟩ => show win0_12.index t (0 : Fin 2) * 4096 + 1 * a.val = a.val; omega
  | ⟨1, _⟩ => show win0_12.index t (1 : Fin 2) * 1024 + 1 * b.val = b.val; omega

theorem iblk12 (c : Dev nD) (t : Fin cfg0.N) (a : Fin 4096) (b : Fin 1024) : iblk m c 12 t (ix2 a b) = V m c main_v42 (ix2 a b) := by
  show V m c main_v42 (((cfg0.win 12).blk t).view.emb (ix2 a b)) = _; rw [emb12]

theorem idx13 : ∀ t : Fin cfg0.N, win0_13.index t (0 : Fin 2) = 0 ∧ win0_13.index t (1 : Fin 2) = 0 := (by decide +kernel : ∀ t : Fin grid0.N, _)
theorem emb13 (t : Fin cfg0.N) (a : Fin 1) (b : Fin 1024) : ((cfg0.win 13).blk t).view.emb (ix2 a b) = (ix2 a b) := by
  obtain ⟨e0, e1⟩ := idx13 t
  funext q; apply Fin.ext
  match q with
  | ⟨0, _⟩ => show win0_13.index t (0 : Fin 2) * 1 + 1 * a.val = a.val; omega
  | ⟨1, _⟩ => show win0_13.index t (1 : Fin 2) * 1024 + 1 * b.val = b.val; omega

theorem iblk13 (c : Dev nD) (t : Fin cfg0.N) (a : Fin 1) (b : Fin 1024) : iblk m c 13 t (ix2 a b) = V m c main_v47 (ix2 a b) := by
  show V m c main_v47 (((cfg0.win 13).blk t).view.emb (ix2 a b)) = _; rw [emb13]

theorem idx14 : ∀ t : Fin cfg0.N, win0_14.index t (0 : Fin 3) = 0 ∧ win0_14.index t (1 : Fin 3) = t.val ∧ win0_14.index t (2 : Fin 3) = 0 := (by decide +kernel : ∀ t : Fin grid0.N, _)
theorem emb14 (t : Fin cfg0.N) (a : Fin 8) (b : Fin 64) (d : Fin 1024) : ((cfg0.win 14).blk t).view.emb (ix3 a b d) = (ix3 a ⟨64 * t.val + b.val, by have := t.isLt; have h : cfg0.N = 64 := N_eq; omega⟩ d) := by
  obtain ⟨e0, e1, e2⟩ := idx14 t
  funext q; apply Fin.ext
  match q with
  | ⟨0, _⟩ => show win0_14.index t (0 : Fin 3) * 8 + 1 * a.val = a.val; omega
  | ⟨1, _⟩ => show win0_14.index t (1 : Fin 3) * 64 + 1 * b.val = 64 * t.val + b.val; omega
  | ⟨2, _⟩ => show win0_14.index t (2 : Fin 3) * 1024 + 1 * d.val = d.val; omega

set_option maxHeartbeats 2000000 in
theorem V_main_v32 (c : Dev nD) : (V m c main_v32 : (⟨S512x1024, .bf16⟩ : BufTy).Contents (Elt Ideal)) = truncf .bf16 (shapeCast S512x1024 (m ((c : Thread nD τ).loc main_arg4)) shapeCasts_S1x512x1024_S512x1024 : FVec Ideal S512x1024 .f32) bitsLt_bf16_f32 := by
  unfold V hostOps0
  after_results_simp
  try rfl

set_option maxHeartbeats 2000000 in
theorem V_main_v37 (c : Dev nD) : (V m c main_v37 : (⟨S1024x1024, .bf16⟩ : BufTy).Contents (Elt Ideal)) = truncf .bf16 (shapeCast S1024x1024 (m ((c : Thread nD τ).loc main_arg8)) shapeCasts_S1x1024x1024_S1024x1024 : FVec Ideal S1024x1024 .f32) bitsLt_bf16_f32 := by
  unfold V hostOps0
  after_results_simp
  try rfl

set_option maxHeartbeats 2000000 in
theorem V_main_v40 (c : Dev nD) : (V m c main_v40 : (⟨S1024x4096, .bf16⟩ : BufTy).Contents (Elt Ideal)) = truncf .bf16 (shapeCast S1024x4096 (m ((c : Thread nD τ).loc main_arg10)) shapeCasts_S1x1024x4096_S1024x4096 : FVec Ideal S1024x4096 .f32) bitsLt_bf16_f32 := by
  unfold V hostOps0
  after_results_simp
  try rfl

set_option maxHeartbeats 2000000 in
theorem V_main_v42 (c : Dev nD) : (V m c main_v42 : (⟨S4096x1024, .bf16⟩ : BufTy).Contents (Elt Ideal)) = truncf .bf16 (shapeCast S4096x1024 (m ((c : Thread nD τ).loc main_arg11)) shapeCasts_S1x4096x1024_S4096x1024 : FVec Ideal S4096x1024 .f32) bitsLt_bf16_f32 := by
  unfold V hostOps0
  after_results_simp
  try rfl

set_option maxHeartbeats 2000000 in
theorem V_main_v43 (c : Dev nD) : (V m c main_v43 : (⟨S1x1024, .f32⟩ : BufTy).Contents (Elt Ideal)) = shapeCast S1x1024 (shapeCast S1024 (m ((c : Thread nD τ).loc main_arg5)) shapeCasts_S1x1024_S1024) shapeCasts_S1024_S1x1024 := by
  unfold V hostOps0
  after_results_simp
  try rfl

set_option maxHeartbeats 2000000 in
theorem V_main_v44 (c : Dev nD) : (V m c main_v44 : (⟨S1x512, .f32⟩ : BufTy).Contents (Elt Ideal)) = shapeCast S1x512 (shapeCast S512 (m ((c : Thread nD τ).loc main_arg6)) shapeCasts_S1x512_S512) shapeCasts_S512_S1x512 := by
  unfold V hostOps0
  after_results_simp
  try rfl

set_option maxHeartbeats 2000000 in
theorem V_main_v45 (c : Dev nD) : (V m c main_v45 : (⟨S1x512, .f32⟩ : BufTy).Contents (Elt Ideal)) = shapeCast S1x512 (shapeCast S512 (m ((c : Thread nD τ).loc main_arg7)) shapeCasts_S1x512_S512) shapeCasts_S512_S1x512 := by
  unfold V hostOps0
  after_results_simp
  try rfl

set_option maxHeartbeats 2000000 in
theorem V_main_v46 (c : Dev nD) : (V m c main_v46 : (⟨S1x1024, .f32⟩ : BufTy).Contents (Elt Ideal)) = shapeCast S1x1024 (shapeCast S1024 (m ((c : Thread nD τ).loc main_arg9)) shapeCasts_S1x1024_S1024) shapeCasts_S1024_S1x1024 := by
  unfold V hostOps0
  after_results_simp
  try rfl

set_option maxHeartbeats 2000000 in
theorem V_main_v47 (c : Dev nD) : (V m c main_v47 : (⟨S1x1024, .f32⟩ : BufTy).Contents (Elt Ideal)) = shapeCast S1x1024 (m ((c : Thread nD τ).loc main_arg12)) shapeCasts_S1024_S1x1024 := by
  unfold V hostOps0
  after_results_simp
  try rfl

set_option maxHeartbeats 2000000 in
theorem V_main_v30 (c : Dev nD) : (V m c main_v30 : (⟨S4096x1024, .f32⟩ : BufTy).Contents (Elt Ideal)) = Cert.ReferenceIdeal.Read.val_main_v30 (F := Ideal) := by
  unfold V hostOps0
  after_results_simp
  try rfl

/-- The reference's result of the argument arrays of device `c`. -/
abbrev result (c : Dev nD) : Buf (Elt Ideal) ((c : Thread nD τ).loc main_v48) :=
  Cert.ReferenceIdeal.Read.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

theorem g5 (x : FVec Ideal S1x512x1024 .f32) (k : Fin 512) (l : Fin 1024) : (truncf .bf16 (shapeCast S512x1024 x shapeCasts_S1x512x1024_S512x1024 : FVec Ideal S512x1024 .f32) bitsLt_bf16_f32 : FVec Ideal S512x1024 .bf16) (ix2 k l) = x (ix3 0 k l) := by
  pointwise

theorem g9 (x : FVec Ideal S1x1024x1024 .f32) (k : Fin 1024) (l : Fin 1024) : (truncf .bf16 (shapeCast S1024x1024 x shapeCasts_S1x1024x1024_S1024x1024 : FVec Ideal S1024x1024 .f32) bitsLt_bf16_f32 : FVec Ideal S1024x1024 .bf16) (ix2 k l) = x (ix3 0 k l) := by
  pointwise

theorem g11 (x : FVec Ideal S1x1024x4096 .f32) (k : Fin 1024) (l : Fin 4096) : (truncf .bf16 (shapeCast S1024x4096 x shapeCasts_S1x1024x4096_S1024x4096 : FVec Ideal S1024x4096 .f32) bitsLt_bf16_f32 : FVec Ideal S1024x4096 .bf16) (ix2 k l) = x (ix3 0 k l) := by
  pointwise

theorem g12 (x : FVec Ideal S1x4096x1024 .f32) (k : Fin 4096) (l : Fin 1024) : (truncf .bf16 (shapeCast S4096x1024 x shapeCasts_S1x4096x1024_S4096x1024 : FVec Ideal S4096x1024 .f32) bitsLt_bf16_f32 : FVec Ideal S4096x1024 .bf16) (ix2 k l) = x (ix3 0 k l) := by
  pointwise

theorem gv (x : FVec Ideal S1x1024 .f32) (k : Fin 1024) : (shapeCast S1x1024 (shapeCast S1024 x shapeCasts_S1x1024_S1024) shapeCasts_S1024_S1x1024 : FVec Ideal S1x1024 .f32) (ix2 0 k) = x (ix2 0 k) := by
  pointwise

theorem gh (x : FVec Ideal S1x512 .f32) (k : Fin 512) : (shapeCast S1x512 (shapeCast S512 x shapeCasts_S1x512_S512) shapeCasts_S512_S1x512 : FVec Ideal S1x512 .f32) (ix2 0 k) = x (ix2 0 k) := by
  pointwise

theorem gf (x : FVec Ideal S1024 .f32) (k : Fin 1024) : (shapeCast S1x1024 x shapeCasts_S1024_S1x1024 : FVec Ideal S1x1024 .f32) (ix2 0 k) = x (ix1 k) := by
  pointwise

theorem flushed_eq (c : Dev nD) (t : Fin cfg0.N) :
    (dats m 0 c).flushed 14 t = ((cfg0.win 14).blk t).view.read (Elt Ideal) (result m c) := by
  rw [flushed14]
  funext i
  show out0_14 _ _ _ _ _ _ _ _ _ _ _ _ _ _ i = result m c (((cfg0.win 14).blk t).view.emb i)
  obtain ⟨a, b, d, rfl⟩ : ∃ (a : Fin 8) (b : Fin 64) (d : Fin 1024), i = ix3 a b d := ⟨i 0, i 1, i 2, eq_ix3 i⟩
  rw [emb14]
  unfold result
  rw [RRow.ref_apply, out_apply]
  have ht : t.val < 64 := t.isLt
  refine out_congr (fun k => ?_) (fun k => ?_) (fun k => ?_) (fun k => ?_) (fun k => ?_) (fun k l => ?_) (fun k => ?_)
    (fun k => ?_) (fun k => ?_) (fun k l => ?_) (fun k => ?_) (fun k l => ?_) (fun k l => ?_) (fun k => ?_) d
  · rw [iblk0]; exact congrFun (V_main_arg0 m c) _
  · rw [iblk1]; exact congrFun (V_main_v30 m c) _
  · rw [iblk2]; exact congrFun (V_main_arg1 m c) _
  · rw [iblk3]; refine (congrFun (V_main_arg2 m c) _).trans (congrArg (m ((c : Thread nD τ).loc main_arg2)) ?_)
    congr 1
    · exact Fin.ext (show b.val % 16 = (64 * t.val + b.val) % 16 by omega)
    · exact Fin.ext (show 32 * t.val + (8 * (b.val / 16) + a.val) = 8 * ((64 * t.val + b.val) / 16) + a.val by omega)
  · rw [iblk4]; exact congrFun (V_main_arg3 m c) _
  · rw [iblk5]; exact (congrFun (V_main_v32 m c) _).trans (g5 _ k l)
  · rw [iblk6]; exact (congrFun (V_main_v43 m c) _).trans (gv _ k)
  · rw [iblk7]; exact (congrFun (V_main_v44 m c) _).trans (gh _ k)
  · rw [iblk8]; exact (congrFun (V_main_v45 m c) _).trans (gh _ k)
  · rw [iblk9]; exact (congrFun (V_main_v37 m c) _).trans (g9 _ k l)
  · rw [iblk10]; exact (congrFun (V_main_v46 m c) _).trans (gv _ k)
  · rw [iblk11]; exact (congrFun (V_main_v40 m c) _).trans (g11 _ k l)
  · rw [iblk12]; exact (congrFun (V_main_v42 m c) _).trans (g12 _ k l)
  · rw [iblk13]; exact (congrFun (V_main_v47 m c) _).trans (gf _ k)

theorem mem_of_eq {α : Type} {s : Finset α} {i j : α} (e : i = j) (h : j ∈ s) : i ∈ s := e.symm ▸ h

theorem cover (i : S8x4096x1024.Idx) : ∃ t : Fin cfg0.N, (cfg0.win 14).flush t = true ∧ i ∈ ((cfg0.win 14).blk t).view.set := by
  have h1 : (i 1).val < 4096 := (i 1).isLt
  refine ⟨(⟨(i 1).val / 64, by show (i 1).val / 64 < 64; omega⟩ : Fin cfg0.N), flush0_14 _, ?_⟩
  have h := ((cfg0.win 14).blk (⟨(i 1).val / 64, by show (i 1).val / 64 < 64; omega⟩ : Fin cfg0.N)).view.emb_mem_set
    (ix3 (i 0) ⟨(i 1).val % 64, by omega⟩ (i 2))
  rw [emb14 (⟨(i 1).val / 64, by show (i 1).val / 64 < 64; omega⟩ : Fin cfg0.N) (i 0) ⟨(i 1).val % 64, by omega⟩ (i 2)] at h
  have e : i = ix3 (i 0) ⟨64 * ((i 1).val / 64) + (i 1).val % 64, by omega⟩ (i 2) := by
    refine (eq_ix3 i).trans (congrArg (fun q => ix3 (i 0) q (i 2)) (Fin.ext ?_))
    show (i 1).val = 64 * ((i 1).val / 64) + (i 1).val % 64
    omega
  exact mem_of_eq e h

theorem final (c : Dev nD) : (dats m 0 c).arrAt 14 cfg0.N = result m c :=
  (dats m 0 c).arrAt_eq_of_cover 14 (result m c) (fun t _ => flushed_eq m c t) cover

open Idealize.SL.Sem in
/-- The kernel ends with the reference's result, and its arguments as they were. -/
theorem run (ρ : Dev nD → PrngReg) : θ_run defs (onTc (τ := τ) (main (F := Ideal))) ⟨m, fun _ => 0, ρ⟩ fun r => ∀ c : Dev nD,
      r.2.mem ((c : Thread nD τ).loc main_v48) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun _ h c => ⟨(h c).1.trans (final m c), (h c).2⟩) (Cert.KernelIdeal.Value.run_blocks m ρ)

end Cert.KVal

end
-- ==== Proof.Lin.lean ====
/- The modulated normalisation followed by a linear map, one row at a time. -/
module

public import proofs.«01_k».proof.Proof.Rows

@[expose] public section

noncomputable section

namespace Cert.Rows

open Idealize.ShloMosaic

/-- A projected row: the row `h` normalised, scaled and shifted by the modulation row `md`, times the weights `w`. -/
def lin {n : Nat} (h g : Fin 1024 → EReal) (md : Fin 6144 → EReal) (w : Fin 1024 → Fin n → EReal) (j : Fin n) : EReal :=
  ∑ k, ada h g (fun j => md ⟨j.val, by omega⟩) (fun j => md ⟨1024 + j.val, by omega⟩) k * w k j

theorem lin_congr {n : Nat} {h h' g g' : Fin 1024 → EReal} {md md' : Fin 6144 → EReal} {w w' : Fin 1024 → Fin n → EReal}
    (e0 : ∀ k, h k = h' k) (e1 : ∀ k, g k = g' k) (e2 : ∀ k, md k = md' k) (j : Fin n) (e3 : ∀ k, w k j = w' k j) :
    lin h g md w j = lin h' g' md' w' j := by
  obtain rfl : h = h' := funext e0
  obtain rfl : g = g' := funext e1
  obtain rfl : md = md' := funext e2
  unfold lin
  exact Finset.sum_congr rfl fun k _ => by rw [e3]

end Cert.Rows

end
-- ==== Proof.Regroup.lean ====
/- The projections' regrouping of their rows into the slot-major order. -/
module

public import Idealize.ShloMosaic.Lib.Pointwise
public import Idealize.ShloMosaic.Lib.Pipeline.Value

@[expose] public section

noncomputable section

namespace Cert.Regroup

open Idealize.ShloMosaic

abbrev SA : Shape := ⟨3, ![64, 16, 512]⟩
abbrev SB : Shape := ⟨3, ![1, 16, 512]⟩
abbrev SC : Shape := ⟨2, ![16, 512]⟩
abbrev SD : Shape := ⟨3, ![16, 64, 512]⟩

variable {α : Type}

theorem slices (n : Fin 64) : SA.Slices ![8 * (n.val % 8) + n.val / 8, 0, 0] SB := by
  revert n; decide

theorem down : SB.ShapeCasts SC := by decide
theorem up : SC.ShapeCasts SB := by decide

/-- Piece `n`: the run of sixteen rows that goes to place `n`, chunk `n / 8` of sample `n % 8`. -/
def piece (v : SA.Idx → α) (n : Fin 64) : SB.Idx → α :=
  shapeCast SB (shapeCast SC (extractStridedSlice SB ![8 * (n.val % 8) + n.val / 8, 0, 0] v (slices n)) down) up

theorem piece_apply (v : SA.Idx → α) (n : Fin 64) (s : Fin 16) (d : Fin 512) :
    piece v n (ix3 0 s d) = v (ix3 ⟨8 * (n.val % 8) + n.val / 8, by omega⟩ s d) := by
  unfold piece
  pointwise

theorem cats (v : SA.Idx → α) :
    Shape.Concatenates ((List.ofFn fun n : Fin 64 => (⟨SB, piece v n⟩ : (s : Shape) × (s.Idx → α))).map (·.1)) SA 0 := by
  rw [List.map_ofFn]
  show Shape.Concatenates (List.ofFn fun _ : Fin 64 => SB) SA 0
  decide

theorem turns : SA.Transposes [1, 0, 2] SD := by decide

/-- The pieces side by side, the token within the chunk brought to the front. -/
def regroup (v : SA.Idx → α) : SD.Idx → α :=
  transpose SD [1, 0, 2] (concatenate SA 0 (List.ofFn fun n : Fin 64 => (⟨SB, piece v n⟩ : (s : Shape) × (s.Idx → α))) (cats v)) turns

theorem regroup_apply (v : SA.Idx → α) (s : Fin 16) (r : Fin 64) (d : Fin 512) :
    regroup v (ix3 s r d) = v (ix3 ⟨8 * (r.val % 8) + r.val / 8, by omega⟩ s d) := by
  unfold regroup
  refine (transpose_apply [1, 0, 2] _ _ (ix3 s r d) (ix3 r s d) (fun b => by fin_cases b <;> rfl)).trans ?_
  refine (concatenate_ofFn_apply (t := SA) (s₁ := SB) 0 (piece v) _ rfl 1 rfl (ix3 r s d) r (by show r.val / 1 = r.val; omega)
    (ix3 0 s d) (by show 0 = r.val % 1; omega) (fun b hb => ?_)).trans (piece_apply v r s d)
  fin_cases b
  · exact absurd rfl hb
  · rfl
  · rfl

end Cert.Regroup

end
-- ==== Proof.Proj.lean ====
/- The projection of the latent tokens: what a grid point writes back is its block of the reference's results. -/
module

public import proofs.«01_k».proof.Proof.Gen.Kernel2Ideal.Frame
public import proofs.«01_k».proof.Proof.Gen.Reference2Ideal.Read
public import proofs.«01_k».proof.Proof.Lin
public import proofs.«01_k».proof.Proof.Regroup
public import Idealize.ShloMosaic.Lib.StableHlo.RunRead

@[expose] public section

noncomputable section

namespace Cert.Proj

/-! ## The reference at an index -/

section Reference

open Cert.Reference2Ideal Cert.Reference2Ideal.Read Idealize.ShloMosaic Cert.Rows

variable (x0 : (⟨S8x4096x1024, .f32⟩ : BufTy).Contents (Elt Ideal)) (x1 : (⟨S16x1x6144, .f32⟩ : BufTy).Contents (Elt Ideal))
  (x2 : (⟨S1x1024, .f32⟩ : BufTy).Contents (Elt Ideal)) (x3 : (⟨S1x1024x2048, .f32⟩ : BufTy).Contents (Elt Ideal))

theorem r_hn (b : Fin 8) (t : Fin 4096) (j : Fin 1024) : val_main_v60 (F := Ideal) x0 x1 x2 (ix3 b t j)
    = ada (fun j => val_main_v33 (F := Ideal) x0 (ix3 b t j)) (fun j => x2 (ix2 0 j))
        (fun j => x1 (ix3 ⟨b.val, by omega⟩ 0 ⟨j.val, by omega⟩)) (fun j => x1 (ix3 ⟨b.val, by omega⟩ 0 ⟨1024 + j.val, by omega⟩)) j := by
  pointwise [val_main_v34, val_main_v35, val_main_v36, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_cst_2, val_main_cst_3, val_main_cst_4, val_main_cst_5, ada, rms]

theorem r_x (b : Fin 8) (t : Fin 4096) (j : Fin 1024) : val_main_v33 (F := Ideal) x0 (ix3 b t j)
    = x0 (ix3 b t j) + val_main_v30 (F := Ideal) (ix2 t j) := by
  pointwise [val_main_v31, val_main_v32, val_main_v33]

theorem r_proj (b : Fin 8) (t : Fin 4096) (j : Fin 2048) : val_main_v62 (F := Ideal) x0 x1 x2 x3 (ix3 b t j)
    = lin (fun j => x0 (ix3 b t j) + val_main_v30 (F := Ideal) (ix2 t j)) (fun j => x2 (ix2 0 j)) (fun j => x1 (ix3 ⟨b.val, by omega⟩ 0 j))
        (fun k j => x3 (ix3 0 k j)) j := by
  have e : ∀ k : Fin 1024, ada (fun j => x0 (ix3 b t j) + val_main_v30 (F := Ideal) (ix2 t j)) (fun j => x2 (ix2 0 j))
        (fun j => x1 (ix3 ⟨b.val, by omega⟩ 0 ⟨j.val, by omega⟩)) (fun j => x1 (ix3 ⟨b.val, by omega⟩ 0 ⟨1024 + j.val, by omega⟩)) k
      = val_main_v60 (F := Ideal) x0 x1 x2 (ix3 b t k) := fun k => by
    rw [r_hn]
    simp only [r_x]
  refine Eq.trans ?_ (Finset.sum_congr rfl fun k _ => congrArg (· * x3 (ix3 0 k j)) (e k).symm)
  pointwise [val_main_v61, val_main_v62, dot_S8x4096x1024_S1024x2048_S8x4096x2048_2_0_01_1_n_n]

/-- The S5 columns at token `s` of the chunk, row `r`. -/
theorem ref_u (s : Fin 16) (r : Fin 2048) (d : Fin 512) : val_main_v68 (F := Ideal) x0 x1 x2 x3 (ix3 s r d)
    = val_main_v62 (F := Ideal) x0 x1 x2 x3 (ix3 ⟨r.val % 8, by omega⟩ ⟨16 * (r.val / 8) + s.val, by omega⟩ ⟨d.val, by omega⟩) := by
  pointwise [val_main_v63, val_main_v65, val_main_v66, val_main_v67, val_main_v68]
  try rfl
  all_goals (congr 2; try (apply Fin.ext; simp; try omega))

/-- The Hyena columns. -/
theorem ref_z (b : Fin 8) (t : Fin 4096) (d : Fin 1536) : val_main_v69 (F := Ideal) x0 x1 x2 x3 (ix3 b t d)
    = val_main_v62 (F := Ideal) x0 x1 x2 x3 (ix3 b t ⟨512 + d.val, by omega⟩) := by
  pointwise [val_main_v64, val_main_v69]

end Reference

/-! ## The kernel's blocks -/

open Cert.Kernel2Ideal Cert.Kernel2Ideal.Gen Idealize.ShloMosaic Idealize.ShloMosaic.TcCoe Idealize.SL.Sem Cert.Rows
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

theorem ld0 (x : Vec Ideal S8x128x1024 .f32) : View.ld x r0_0 = x := View.ld_unit_zero hz3 _ x
theorem ld1 (x : Vec Ideal S128x1024 .f32) : View.ld x r0_1 = x := View.ld_unit_zero hz2 _ x
theorem ld2 (x : Vec Ideal S8x1x6144 .f32) : View.ld x r0_2 = x := View.ld_unit_zero hz3 _ x
theorem ld3 (x : Vec Ideal S1x1024 .f32) : View.ld x r0_3 = x := View.ld_unit_zero hz2 _ x
theorem ld4 (x : Vec Ideal S1024x2048 .bf16) : View.ld x r0_4 = x := View.ld_unit_zero hz2 _ x

section Blocks

variable (x0 : Vec Ideal S8x128x1024 .f32) (x1 : Vec Ideal S128x1024 .f32) (x2 : Vec Ideal S8x1x6144 .f32) (x3 : Vec Ideal S1x1024 .f32) (x4 : Vec Ideal S1024x2048 .bf16)

/-- The projected row of token `t` of sample `b` of a block. -/
def proj (b : Fin 8) (t : Fin 128) (j : Fin 2048) : EReal :=
  lin (fun j => x0 (ix3 b t j) + x1 (ix2 t j)) (fun j => x3 (ix2 0 j)) (fun j => x2 (ix3 b 0 j)) (fun k j => x4 (ix2 k j)) j

/-- The projected rows of the block: row `128 b + t` is token `t` of sample `b`. -/
theorem pay4_apply (b : Fin 8) (t : Fin 128) (j : Fin 2048) : k0_pay4 x0 x1 x2 x3 x4 (ix2 ⟨b.val * 128 + t.val, by omega⟩ j)
    = proj x0 x1 x2 x3 x4 b t j := by
  pointwise [k0_pay4, proj, lin, ada, rms, dot_S1024x1024_S1024x2048_S1024x2048_1_0_0_1_n_n]

theorem pay5_apply (a : Fin 64) (s : Fin 16) (d : Fin 512) : k0_pay5 x0 x1 x2 x3 x4 (ix3 a s d)
    = k0_pay4 x0 x1 x2 x3 x4 (ix2 ⟨a.val * 16 + s.val, by omega⟩ ⟨d.val, by omega⟩) := by
  pointwise [k0_pay5]

theorem pay3_apply (v : FVec Ideal S1024x2048 .f32) (b : Fin 8) (t : Fin 128) (d : Fin 1536) : k0_pay3 v (ix3 b t d)
    = v (ix2 ⟨b.val * 128 + t.val, by omega⟩ ⟨512 + d.val, by omega⟩) := by
  pointwise [k0_pay3]

set_option maxRecDepth 65536 in
theorem out5_eq : out0_5 x0 x1 x2 x3 x4 = Regroup.regroup (k0_pay5 x0 x1 x2 x3 x4) := by
  unfold out0_5
  rw [View.canon_unit_zero hz3]
  have e : k0_pay126 x0 x1 x2 x3 x4 = k0_pay5 x0 x1 x2 x3 x4 := by
    unfold k0_pay126
    rw [ld0, ld1, ld2, ld3, ld4]
  rw [e, ld0, ld1, ld2, ld3, ld4]
  rfl

theorem out6_eq : out0_6 x0 x1 x2 x3 x4 = k0_pay3 (k0_pay4 x0 x1 x2 x3 x4) := by
  unfold out0_6
  rw [View.canon_unit_zero hz3, ld0, ld1, ld2, ld3, ld4]

theorem out5_apply (s : Fin 16) (r : Fin 64) (d : Fin 512) : out0_5 x0 x1 x2 x3 x4 (ix3 s r d)
    = proj x0 x1 x2 x3 x4 ⟨r.val % 8, by omega⟩ ⟨16 * (r.val / 8) + s.val, by omega⟩ ⟨d.val, by omega⟩ := by
  rw [out5_eq]
  refine (Regroup.regroup_apply _ s r d).trans ((pay5_apply x0 x1 x2 x3 x4 _ s d).trans ?_)
  rw [← pay4_apply]
  congr 2
  exact Fin.ext (show (8 * (r.val % 8) + r.val / 8) * 16 + s.val = r.val % 8 * 128 + (16 * (r.val / 8) + s.val) by omega)

theorem out6_apply (b : Fin 8) (t : Fin 128) (d : Fin 1536) : out0_6 x0 x1 x2 x3 x4 (ix3 b t d)
    = proj x0 x1 x2 x3 x4 b t ⟨512 + d.val, by omega⟩ := by
  rw [out6_eq, pay3_apply, pay4_apply]

end Blocks

variable (m : (ℓ : Loc nD τ sig) → Buf (Elt Ideal) ℓ) (ρ : Dev nD → PrngReg)

theorem N_eq : cfg0.N = 32 := rfl

theorem idx0 : ∀ t : Fin cfg0.N, win0_0.index t (0 : Fin 3) = 0 ∧ win0_0.index t (1 : Fin 3) = t.val ∧ win0_0.index t (2 : Fin 3) = 0 := (by decide +kernel : ∀ t : Fin grid0.N, _)

theorem emb0 (t : Fin cfg0.N) (a : Fin 8) (b : Fin 128) (d : Fin 1024) : ((cfg0.win 0).blk t).view.emb (ix3 a b d) = (ix3 a ⟨128 * t.val + b.val, by have := t.isLt; have h : cfg0.N = 32 := N_eq; omega⟩ d) := by
  obtain ⟨e0, e1, e2⟩ := idx0 t
  funext q; apply Fin.ext
  match q with
  | ⟨0, _⟩ => show win0_0.index t (0 : Fin 3) * 8 + 1 * a.val = a.val; omega
  | ⟨1, _⟩ => show win0_0.index t (1 : Fin 3) * 128 + 1 * b.val = 128 * t.val + b.val; omega
  | ⟨2, _⟩ => show win0_0.index t (2 : Fin 3) * 1024 + 1 * d.val = d.val; omega

theorem iblk0 (c : Dev nD) (t : Fin cfg0.N) (a : Fin 8) (b : Fin 128) (d : Fin 1024) : iblk m c 0 t (ix3 a b d) = V m c main_arg0 (ix3 a ⟨128 * t.val + b.val, by have := t.isLt; have h : cfg0.N = 32 := N_eq; omega⟩ d) := by
  show V m c main_arg0 (((cfg0.win 0).blk t).view.emb (ix3 a b d)) = _; rw [emb0]

theorem idx1 : ∀ t : Fin cfg0.N, win0_1.index t (0 : Fin 2) = t.val ∧ win0_1.index t (1 : Fin 2) = 0 := (by decide +kernel : ∀ t : Fin grid0.N, _)

theorem emb1 (t : Fin cfg0.N) (a : Fin 128) (b : Fin 1024) : ((cfg0.win 1).blk t).view.emb (ix2 a b) = (ix2 ⟨128 * t.val + a.val, by have := t.isLt; have h : cfg0.N = 32 := N_eq; omega⟩ b) := by
  obtain ⟨e0, e1⟩ := idx1 t
  funext q; apply Fin.ext
  match q with
  | ⟨0, _⟩ => show win0_1.index t (0 : Fin 2) * 128 + 1 * a.val = 128 * t.val + a.val; omega
  | ⟨1, _⟩ => show win0_1.index t (1 : Fin 2) * 1024 + 1 * b.val = b.val; omega

theorem iblk1 (c : Dev nD) (t : Fin cfg0.N) (a : Fin 128) (b : Fin 1024) : iblk m c 1 t (ix2 a b) = V m c main_v30 (ix2 ⟨128 * t.val + a.val, by have := t.isLt; have h : cfg0.N = 32 := N_eq; omega⟩ b) := by
  show V m c main_v30 (((cfg0.win 1).blk t).view.emb (ix2 a b)) = _; rw [emb1]

theorem idx2 : ∀ t : Fin cfg0.N, win0_2.index t (0 : Fin 3) = 0 ∧ win0_2.index t (1 : Fin 3) = 0 ∧ win0_2.index t (2 : Fin 3) = 0 := (by decide +kernel : ∀ t : Fin grid0.N, _)

theorem emb2 (t : Fin cfg0.N) (a : Fin 8) (b : Fin 1) (d : Fin 6144) : ((cfg0.win 2).blk t).view.emb (ix3 a b d) = (ix3 ⟨a.val, by omega⟩ b d) := by
  obtain ⟨e0, e1, e2⟩ := idx2 t
  funext q; apply Fin.ext
  match q with
  | ⟨0, _⟩ => show win0_2.index t (0 : Fin 3) * 8 + 1 * a.val = a.val; omega
  | ⟨1, _⟩ => show win0_2.index t (1 : Fin 3) * 1 + 1 * b.val = b.val; omega
  | ⟨2, _⟩ => show win0_2.index t (2 : Fin 3) * 6144 + 1 * d.val = d.val; omega

theorem iblk2 (c : Dev nD) (t : Fin cfg0.N) (a : Fin 8) (b : Fin 1) (d : Fin 6144) : iblk m c 2 t (ix3 a b d) = V m c main_arg1 (ix3 ⟨a.val, by omega⟩ b d) := by
  show V m c main_arg1 (((cfg0.win 2).blk t).view.emb (ix3 a b d)) = _; rw [emb2]

theorem idx3 : ∀ t : Fin cfg0.N, win0_3.index t (0 : Fin 2) = 0 ∧ win0_3.index t (1 : Fin 2) = 0 := (by decide +kernel : ∀ t : Fin grid0.N, _)

theorem emb3 (t : Fin cfg0.N) (a : Fin 1) (b : Fin 1024) : ((cfg0.win 3).blk t).view.emb (ix2 a b) = (ix2 a b) := by
  obtain ⟨e0, e1⟩ := idx3 t
  funext q; apply Fin.ext
  match q with
  | ⟨0, _⟩ => show win0_3.index t (0 : Fin 2) * 1 + 1 * a.val = a.val; omega
  | ⟨1, _⟩ => show win0_3.index t (1 : Fin 2) * 1024 + 1 * b.val = b.val; omega

theorem iblk3 (c : Dev nD) (t : Fin cfg0.N) (a : Fin 1) (b : Fin 1024) : iblk m c 3 t (ix2 a b) = V m c main_v34 (ix2 a b) := by
  show V m c main_v34 (((cfg0.win 3).blk t).view.emb (ix2 a b)) = _; rw [emb3]

theorem idx4 : ∀ t : Fin cfg0.N, win0_4.index t (0 : Fin 2) = 0 ∧ win0_4.index t (1 : Fin 2) = 0 := (by decide +kernel : ∀ t : Fin grid0.N, _)

theorem emb4 (t : Fin cfg0.N) (a : Fin 1024) (b : Fin 2048) : ((cfg0.win 4).blk t).view.emb (ix2 a b) = (ix2 a b) := by
  obtain ⟨e0, e1⟩ := idx4 t
  funext q; apply Fin.ext
  match q with
  | ⟨0, _⟩ => show win0_4.index t (0 : Fin 2) * 1024 + 1 * a.val = a.val; omega
  | ⟨1, _⟩ => show win0_4.index t (1 : Fin 2) * 2048 + 1 * b.val = b.val; omega

theorem iblk4 (c : Dev nD) (t : Fin cfg0.N) (a : Fin 1024) (b : Fin 2048) : iblk m c 4 t (ix2 a b) = V m c main_v33 (ix2 a b) := by
  show V m c main_v33 (((cfg0.win 4).blk t).view.emb (ix2 a b)) = _; rw [emb4]

theorem idx5 : ∀ t : Fin cfg0.N, win0_5.index t (0 : Fin 3) = 0 ∧ win0_5.index t (1 : Fin 3) = t.val ∧ win0_5.index t (2 : Fin 3) = 0 := (by decide +kernel : ∀ t : Fin grid0.N, _)

theorem emb5 (t : Fin cfg0.N) (a : Fin 16) (b : Fin 64) (d : Fin 512) : ((cfg0.win 5).blk t).view.emb (ix3 a b d) = (ix3 a ⟨64 * t.val + b.val, by have := t.isLt; have h : cfg0.N = 32 := N_eq; omega⟩ d) := by
  obtain ⟨e0, e1, e2⟩ := idx5 t
  funext q; apply Fin.ext
  match q with
  | ⟨0, _⟩ => show win0_5.index t (0 : Fin 3) * 16 + 1 * a.val = a.val; omega
  | ⟨1, _⟩ => show win0_5.index t (1 : Fin 3) * 64 + 1 * b.val = 64 * t.val + b.val; omega
  | ⟨2, _⟩ => show win0_5.index t (2 : Fin 3) * 512 + 1 * d.val = d.val; omega

theorem idx6 : ∀ t : Fin cfg0.N, win0_6.index t (0 : Fin 3) = 0 ∧ win0_6.index t (1 : Fin 3) = t.val ∧ win0_6.index t (2 : Fin 3) = 0 := (by decide +kernel : ∀ t : Fin grid0.N, _)

theorem emb6 (t : Fin cfg0.N) (a : Fin 8) (b : Fin 128) (d : Fin 1536) : ((cfg0.win 6).blk t).view.emb (ix3 a b d) = (ix3 a ⟨128 * t.val + b.val, by have := t.isLt; have h : cfg0.N = 32 := N_eq; omega⟩ d) := by
  obtain ⟨e0, e1, e2⟩ := idx6 t
  funext q; apply Fin.ext
  match q with
  | ⟨0, _⟩ => show win0_6.index t (0 : Fin 3) * 8 + 1 * a.val = a.val; omega
  | ⟨1, _⟩ => show win0_6.index t (1 : Fin 3) * 128 + 1 * b.val = 128 * t.val + b.val; omega
  | ⟨2, _⟩ => show win0_6.index t (2 : Fin 3) * 1536 + 1 * d.val = d.val; omega

set_option maxHeartbeats 2000000 in
theorem V_main_v30 (c : Dev nD) : (V m c main_v30 : (⟨S4096x1024, .f32⟩ : BufTy).Contents (Elt Ideal)) = Cert.Reference2Ideal.Read.val_main_v30 (F := Ideal) := by
  unfold V hostOps0
  after_results_simp
  try rfl

theorem V_main_v34 (c : Dev nD) : (V m c main_v34 : (⟨S1x1024, .f32⟩ : BufTy).Contents (Elt Ideal)) = shapeCast S1x1024 (shapeCast S1024 (m ((c : Thread nD τ).loc main_arg2)) shapeCasts_S1x1024_S1024) shapeCasts_S1024_S1x1024 := by
  unfold V hostOps0
  after_results_simp
  try rfl

theorem V_main_v33 (c : Dev nD) : (V m c main_v33 : (⟨S1024x2048, .bf16⟩ : BufTy).Contents (Elt Ideal)) = truncf .bf16 (shapeCast S1024x2048 (m ((c : Thread nD τ).loc main_arg3)) shapeCasts_S1x1024x2048_S1024x2048 : FVec Ideal S1024x2048 .f32) bitsLt_bf16_f32 := by
  unfold V hostOps0
  after_results_simp
  try rfl

theorem gw (x : FVec Ideal S1x1024x2048 .f32) (k : Fin 1024) (l : Fin 2048) : (truncf .bf16 (shapeCast S1024x2048 x shapeCasts_S1x1024x2048_S1024x2048 : FVec Ideal S1024x2048 .f32) bitsLt_bf16_f32 : FVec Ideal S1024x2048 .bf16) (ix2 k l) = x (ix3 0 k l) := by
  pointwise

theorem gv (x : FVec Ideal S1x1024 .f32) (k : Fin 1024) : (shapeCast S1x1024 (shapeCast S1024 x shapeCasts_S1x1024_S1024) shapeCasts_S1024_S1x1024 : FVec Ideal S1x1024 .f32) (ix2 0 k) = x (ix2 0 k) := by
  pointwise

/-- The reference's two results of the argument arrays of device `c`. -/
abbrev result5 (c : Dev nD) : Buf (Elt Ideal) ((c : Thread nD τ).loc main_v35_0) :=
  Cert.Reference2Ideal.Read.val_main_v68 (F := Ideal) (m ((c : Thread nD τ).loc main_arg0)) (m ((c : Thread nD τ).loc main_arg1)) (m ((c : Thread nD τ).loc main_arg2)) (m ((c : Thread nD τ).loc main_arg3))
abbrev result6 (c : Dev nD) : Buf (Elt Ideal) ((c : Thread nD τ).loc main_v35_1) :=
  Cert.Reference2Ideal.Read.val_main_v69 (F := Ideal) (m ((c : Thread nD τ).loc main_arg0)) (m ((c : Thread nD τ).loc main_arg1)) (m ((c : Thread nD τ).loc main_arg2)) (m ((c : Thread nD τ).loc main_arg3))

/-- The rows of the blocks at point `t` are rows of the arguments. -/
theorem rows (c : Dev nD) (t : Fin cfg0.N) (b : Fin 8) (s : Fin 128) (T : Fin 4096) (hT : T.val = 128 * t.val + s.val) (j : Fin 2048) :
    proj (iblk m c 0 t) (iblk m c 1 t) (iblk m c 2 t) (iblk m c 3 t) (iblk m c 4 t) b s j
      = Cert.Reference2Ideal.Read.val_main_v62 (F := Ideal) (m ((c : Thread nD τ).loc main_arg0)) (m ((c : Thread nD τ).loc main_arg1)) (m ((c : Thread nD τ).loc main_arg2)) (m ((c : Thread nD τ).loc main_arg3)) (ix3 b T j) := by
  rw [r_proj]
  have ht : t.val < 32 := t.isLt
  have hT' : T = ⟨128 * t.val + s.val, by omega⟩ := Fin.ext hT
  rw [hT']
  unfold proj
  refine lin_congr (fun k => ?_) (fun k => ?_) (fun k => ?_) j (fun k => ?_)
  · rw [iblk0, iblk1]; exact congrArg₂ (· + ·) (congrFun (V_main_arg0 m c) _) (congrFun (V_main_v30 m c) _)
  · rw [iblk3]; exact (congrFun (V_main_v34 m c) _).trans (gv _ k)
  · rw [iblk2]; exact congrFun (V_main_arg1 m c) _
  · rw [iblk4]; exact (congrFun (V_main_v33 m c) _).trans (gw _ k j)

set_option maxHeartbeats 1000000 in
theorem flushed5 (c : Dev nD) (t : Fin cfg0.N) :
    (dats m 0 c).flushed 5 t = ((cfg0.win 5).blk t).view.read (Elt Ideal) (result5 m c) := by
  show (cfg0.win 5).cut (grid0.coords t) ((dats m 0 c).after 5 t) = _
  rw [after0_5]
  funext i
  show out0_5 (iblk m c 0 t) (iblk m c 1 t) (iblk m c 2 t) (iblk m c 3 t) (iblk m c 4 t) i = result5 m c (((cfg0.win 5).blk t).view.emb i)
  obtain ⟨a, b, d, rfl⟩ : ∃ (a : Fin 16) (b : Fin 64) (d : Fin 512), i = ix3 a b d := ⟨i 0, i 1, i 2, eq_ix3 i⟩
  rw [emb5]
  have ht : t.val < 32 := t.isLt
  refine (out5_apply _ _ _ _ _ a b d).trans (Eq.trans ?_ (ref_u _ _ _ _ a _ d).symm)
  refine (rows m c t _ _ ⟨16 * ((64 * t.val + b.val) / 8) + a.val, by omega⟩ ?_ _).trans ?_
  · show 16 * ((64 * t.val + b.val) / 8) + a.val = 128 * t.val + (16 * (b.val / 8) + a.val); omega
  · congr 2
    exact Fin.ext (show b.val % 8 = (64 * t.val + b.val) % 8 by omega)

set_option maxHeartbeats 1000000 in
theorem flushed6 (c : Dev nD) (t : Fin cfg0.N) :
    (dats m 0 c).flushed 6 t = ((cfg0.win 6).blk t).view.read (Elt Ideal) (result6 m c) := by
  show (cfg0.win 6).cut (grid0.coords t) ((dats m 0 c).after 6 t) = _
  rw [after0_6]
  funext i
  show out0_6 (iblk m c 0 t) (iblk m c 1 t) (iblk m c 2 t) (iblk m c 3 t) (iblk m c 4 t) i = result6 m c (((cfg0.win 6).blk t).view.emb i)
  obtain ⟨a, b, d, rfl⟩ : ∃ (a : Fin 8) (b : Fin 128) (d : Fin 1536), i = ix3 a b d := ⟨i 0, i 1, i 2, eq_ix3 i⟩
  rw [emb6]
  exact (out6_apply _ _ _ _ _ a b d).trans ((rows m c t a b _ rfl _).trans (ref_z _ _ _ _ a _ d).symm)

theorem mem_of_eq {α : Type} {s : Finset α} {i j : α} (e : i = j) (h : j ∈ s) : i ∈ s := e.symm ▸ h

theorem cover5 (i : S16x2048x512.Idx) : ∃ t : Fin cfg0.N, (cfg0.win 5).flush t = true ∧ i ∈ ((cfg0.win 5).blk t).view.set := by
  have h1 : (i 1).val < 2048 := (i 1).isLt
  refine ⟨(⟨(i 1).val / 64, by show (i 1).val / 64 < 32; omega⟩ : Fin cfg0.N), flush0_5 _, ?_⟩
  have h := ((cfg0.win 5).blk (⟨(i 1).val / 64, by show (i 1).val / 64 < 32; omega⟩ : Fin cfg0.N)).view.emb_mem_set
    (ix3 (i 0) ⟨(i 1).val % 64, by omega⟩ (i 2))
  rw [emb5 (⟨(i 1).val / 64, by show (i 1).val / 64 < 32; omega⟩ : Fin cfg0.N) (i 0) ⟨(i 1).val % 64, by omega⟩ (i 2)] at h
  have e : i = ix3 (i 0) ⟨64 * ((i 1).val / 64) + (i 1).val % 64, by omega⟩ (i 2) := by
    refine (eq_ix3 i).trans (congrArg (fun q => ix3 (i 0) q (i 2)) (Fin.ext ?_))
    show (i 1).val = 64 * ((i 1).val / 64) + (i 1).val % 64
    omega
  exact mem_of_eq e h

theorem cover6 (i : S8x4096x1536.Idx) : ∃ t : Fin cfg0.N, (cfg0.win 6).flush t = true ∧ i ∈ ((cfg0.win 6).blk t).view.set := by
  have h1 : (i 1).val < 4096 := (i 1).isLt
  refine ⟨(⟨(i 1).val / 128, by show (i 1).val / 128 < 32; omega⟩ : Fin cfg0.N), flush0_6 _, ?_⟩
  have h := ((cfg0.win 6).blk (⟨(i 1).val / 128, by show (i 1).val / 128 < 32; omega⟩ : Fin cfg0.N)).view.emb_mem_set
    (ix3 (i 0) ⟨(i 1).val % 128, by omega⟩ (i 2))
  rw [emb6 (⟨(i 1).val / 128, by show (i 1).val / 128 < 32; omega⟩ : Fin cfg0.N) (i 0) ⟨(i 1).val % 128, by omega⟩ (i 2)] at h
  have e : i = ix3 (i 0) ⟨128 * ((i 1).val / 128) + (i 1).val % 128, by omega⟩ (i 2) := by
    refine (eq_ix3 i).trans (congrArg (fun q => ix3 (i 0) q (i 2)) (Fin.ext ?_))
    show (i 1).val = 128 * ((i 1).val / 128) + (i 1).val % 128
    omega
  exact mem_of_eq e h

theorem final5 (c : Dev nD) : (dats m 0 c).arrAt 5 cfg0.N = result5 m c :=
  (dats m 0 c).arrAt_eq_of_cover 5 (result5 m c) (fun t _ => flushed5 m c t) cover5

theorem final6 (c : Dev nD) : (dats m 0 c).arrAt 6 cfg0.N = result6 m c :=
  (dats m 0 c).arrAt_eq_of_cover 6 (result6 m c) (fun t _ => flushed6 m c t) cover6

/-- The kernel ends with the reference's results, and its arguments as they were. -/
theorem run (ρ : Dev nD → PrngReg) : θ_run defs (onTc (τ := τ) (main (F := Ideal))) ⟨m, fun _ => 0, ρ⟩ fun r => ∀ c : Dev nD,
      r.2.mem ((c : Thread nD τ).loc main_v35_0) = result5 m c
      ∧ r.2.mem ((c : Thread nD τ).loc main_v35_1) = result6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 5).trans (final5 m c), ((h c).1 6).trans (final6 m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Proj

end
-- ==== Proof.Ctx.lean ====
/- The projection of the context tokens: what a grid point writes back is its block of the reference's result. -/
module

public import proofs.«01_k».proof.Proof.Gen.Kernel3Ideal.Frame
public import proofs.«01_k».proof.Proof.Gen.Reference3Ideal.Read
public import proofs.«01_k».proof.Proof.Proj
public import Idealize.ShloMosaic.Lib.StableHlo.RunRead

@[expose] public section

noncomputable section

namespace Cert.Ctx

/-! ## The reference at an index -/

section Reference

open Cert.Reference3Ideal Cert.Reference3Ideal.Read Idealize.ShloMosaic Cert.Rows

variable (x0 : (⟨S8x256x1024, .f32⟩ : BufTy).Contents (Elt Ideal)) (x1 : (⟨S16x1x6144, .f32⟩ : BufTy).Contents (Elt Ideal))
  (x2 : (⟨S1x1024, .f32⟩ : BufTy).Contents (Elt Ideal)) (x3 : (⟨S1x1024x2048, .f32⟩ : BufTy).Contents (Elt Ideal))

theorem r_cn (b : Fin 8) (t : Fin 256) (j : Fin 1024) : val_main_v25 (F := Ideal) x0 x1 x2 (ix3 b t j)
    = ada (fun j => x0 (ix3 b t j)) (fun j => x2 (ix2 0 j))
        (fun j => x1 (ix3 8 0 ⟨j.val, by omega⟩)) (fun j => x1 (ix3 8 0 ⟨1024 + j.val, by omega⟩)) j := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1, val_main_cst_2, ada, rms]

theorem r_proj (b : Fin 8) (t : Fin 256) (j : Fin 512) : val_main_v28 (F := Ideal) x0 x1 x2 x3 (ix3 b t j)
    = lin (fun j => x0 (ix3 b t j)) (fun j => x2 (ix2 0 j)) (fun j => x1 (ix3 8 0 j)) (fun k (j : Fin 512) => x3 (ix3 0 k ⟨j.val, by omega⟩)) j := by
  refine Eq.trans ?_ (Finset.sum_congr rfl fun k _ => congrArg (· * x3 (ix3 0 k ⟨j.val, by omega⟩)) (r_cn x0 x1 x2 b t k))
  pointwise [val_main_v26, val_main_v27, val_main_v28, dot_S8x256x1024_S1024x512_S8x256x512_2_0_01_1_n_n]

theorem ref_u (s : Fin 16) (r : Fin 128) (d : Fin 512) : val_main_v32 (F := Ideal) x0 x1 x2 x3 (ix3 s r d)
    = val_main_v28 (F := Ideal) x0 x1 x2 x3 (ix3 ⟨r.val % 8, by omega⟩ ⟨16 * (r.val / 8) + s.val, by omega⟩ d) := by
  pointwise [val_main_v29, val_main_v30, val_main_v31, val_main_v32]
  all_goals (congr 2; try (apply Fin.ext; simp; try omega))

end Reference

/-! ## The kernel's blocks -/

open Cert.Kernel3Ideal Cert.Kernel3Ideal.Gen Idealize.ShloMosaic Idealize.ShloMosaic.TcCoe Idealize.SL.Sem Cert.Rows
open Idealize.ShloMosaic.Pipeline (Dat)

theorem ld0 (x : Vec Ideal S8x128x1024 .f32) : View.ld x r0_0 = x := View.ld_unit_zero Proj.hz3 _ x
theorem ld1 (x : Vec Ideal S1x1x6144 .f32) : View.ld x r0_1 = x := View.ld_unit_zero Proj.hz3 _ x
theorem ld2 (x : Vec Ideal S1x1024 .f32) : View.ld x r0_2 = x := View.ld_unit_zero Proj.hz2 _ x
theorem ld3 (x : Vec Ideal S1024x512 .bf16) : View.ld x r0_3 = x := View.ld_unit_zero Proj.hz2 _ x

section Blocks

variable (x0 : Vec Ideal S8x128x1024 .f32) (x1 : Vec Ideal S1x1x6144 .f32) (x2 : Vec Ideal S1x1024 .f32) (x3 : Vec Ideal S1024x512 .bf16)

/-- The projected row of token `t` of sample `b` of a block. -/
def proj (b : Fin 8) (t : Fin 128) (j : Fin 512) : EReal :=
  lin (fun j => x0 (ix3 b t j)) (fun j => x2 (ix2 0 j)) (fun j => x1 (ix3 0 0 j)) (fun k j => x3 (ix2 k j)) j

theorem pay2_apply (b p : Fin 8) (s : Fin 16) (d : Fin 512) : k0_pay2 x0 x1 x2 x3 (ix3 ⟨8 * b.val + p.val, by omega⟩ s d)
    = proj x0 x1 x2 x3 b ⟨16 * p.val + s.val, by omega⟩ d := by
  have e : (⟨((8 * b.val + p.val) * 16 + s.val) % 128, by omega⟩ : Fin 128) = ⟨16 * p.val + s.val, by omega⟩ :=
    Fin.ext (show ((8 * b.val + p.val) * 16 + s.val) % 128 = 16 * p.val + s.val by omega)
  pointwise [k0_pay2, proj, lin, ada, rms, dot_S1024x1024_S1024x512_S1024x512_1_0_0_1_n_n]
  simp only [e]

set_option maxRecDepth 65536 in
theorem out4_eq : out0_4 x0 x1 x2 x3 = Regroup.regroup (k0_pay2 x0 x1 x2 x3) := by
  unfold out0_4
  rw [View.canon_unit_zero Proj.hz3]
  have e : k0_pay131 x0 x1 x2 x3 = k0_pay2 x0 x1 x2 x3 := by
    unfold k0_pay131
    rw [ld0, ld1, ld2, ld3]
  rw [e, ld0, ld1, ld2, ld3]
  rfl

theorem out4_apply (s : Fin 16) (r : Fin 64) (d : Fin 512) : out0_4 x0 x1 x2 x3 (ix3 s r d)
    = proj x0 x1 x2 x3 ⟨r.val % 8, by omega⟩ ⟨16 * (r.val / 8) + s.val, by omega⟩ d := by
  rw [out4_eq]
  exact (Regroup.regroup_apply _ s r d).trans (pay2_apply x0 x1 x2 x3 ⟨r.val % 8, by omega⟩ ⟨r.val / 8, by omega⟩ s d)

end Blocks

variable (m : (ℓ : Loc nD τ sig) → Buf (Elt Ideal) ℓ)

theorem N_eq : cfg0.N = 2 := rfl

theorem idx0 : ∀ t : Fin cfg0.N, win0_0.index t (0 : Fin 3) = 0 ∧ win0_0.index t (1 : Fin 3) = t.val ∧ win0_0.index t (2 : Fin 3) = 0 := (by decide +kernel : ∀ t : Fin grid0.N, _)

theorem emb0 (t : Fin cfg0.N) (a : Fin 8) (b : Fin 128) (d : Fin 1024) : ((cfg0.win 0).blk t).view.emb (ix3 a b d) = (ix3 a ⟨128 * t.val + b.val, by have := t.isLt; have h : cfg0.N = 2 := N_eq; omega⟩ d) := by
  obtain ⟨e0, e1, e2⟩ := idx0 t
  funext q; apply Fin.ext
  match q with
  | ⟨0, _⟩ => show win0_0.index t (0 : Fin 3) * 8 + 1 * a.val = a.val; omega
  | ⟨1, _⟩ => show win0_0.index t (1 : Fin 3) * 128 + 1 * b.val = 128 * t.val + b.val; omega
  | ⟨2, _⟩ => show win0_0.index t (2 : Fin 3) * 1024 + 1 * d.val = d.val; omega

theorem iblk0 (c : Dev nD) (t : Fin cfg0.N) (a : Fin 8) (b : Fin 128) (d : Fin 1024) : iblk m c 0 t (ix3 a b d) = V m c main_arg0 (ix3 a ⟨128 * t.val + b.val, by have := t.isLt; have h : cfg0.N = 2 := N_eq; omega⟩ d) := by
  show V m c main_arg0 (((cfg0.win 0).blk t).view.emb (ix3 a b d)) = _; rw [emb0]

theorem idx1 : ∀ t : Fin cfg0.N, win0_1.index t (0 : Fin 3) = 8 ∧ win0_1.index t (1 : Fin 3) = 0 ∧ win0_1.index t (2 : Fin 3) = 0 := (by decide +kernel : ∀ t : Fin grid0.N, _)

theorem emb1 (t : Fin cfg0.N) (a : Fin 1) (b : Fin 1) (d : Fin 6144) : ((cfg0.win 1).blk t).view.emb (ix3 a b d) = (ix3 ⟨8 + a.val, by omega⟩ b d) := by
  obtain ⟨e0, e1, e2⟩ := idx1 t
  funext q; apply Fin.ext
  match q with
  | ⟨0, _⟩ => show win0_1.index t (0 : Fin 3) * 1 + 1 * a.val = 8 + a.val; omega
  | ⟨1, _⟩ => show win0_1.index t (1 : Fin 3) * 1 + 1 * b.val = b.val; omega
  | ⟨2, _⟩ => show win0_1.index t (2 : Fin 3) * 6144 + 1 * d.val = d.val; omega

theorem iblk1 (c : Dev nD) (t : Fin cfg0.N) (a : Fin 1) (b : Fin 1) (d : Fin 6144) : iblk m c 1 t (ix3 a b d) = V m c main_arg1 (ix3 ⟨8 + a.val, by omega⟩ b d) := by
  show V m c main_arg1 (((cfg0.win 1).blk t).view.emb (ix3 a b d)) = _; rw [emb1]

theorem idx2 : ∀ t : Fin cfg0.N, win0_2.index t (0 : Fin 2) = 0 ∧ win0_2.index t (1 : Fin 2) = 0 := (by decide +kernel : ∀ t : Fin grid0.N, _)

theorem emb2 (t : Fin cfg0.N) (a : Fin 1) (b : Fin 1024) : ((cfg0.win 2).blk t).view.emb (ix2 a b) = (ix2 a b) := by
  obtain ⟨e0, e1⟩ := idx2 t
  funext q; apply Fin.ext
  match q with
  | ⟨0, _⟩ => show win0_2.index t (0 : Fin 2) * 1 + 1 * a.val = a.val; omega
  | ⟨1, _⟩ => show win0_2.index t (1 : Fin 2) * 1024 + 1 * b.val = b.val; omega

theorem iblk2 (c : Dev nD) (t : Fin cfg0.N) (a : Fin 1) (b : Fin 1024) : iblk m c 2 t (ix2 a b) = V m c main_v3 (ix2 a b) := by
  show V m c main_v3 (((cfg0.win 2).blk t).view.emb (ix2 a b)) = _; rw [emb2]

theorem idx3 : ∀ t : Fin cfg0.N, win0_3.index t (0 : Fin 2) = 0 ∧ win0_3.index t (1 : Fin 2) = 0 := (by decide +kernel : ∀ t : Fin grid0.N, _)

theorem emb3 (t : Fin cfg0.N) (a : Fin 1024) (b : Fin 512) : ((cfg0.win 3).blk t).view.emb (ix2 a b) = (ix2 a ⟨b.val, by omega⟩) := by
  obtain ⟨e0, e1⟩ := idx3 t
  funext q; apply Fin.ext
  match q with
  | ⟨0, _⟩ => show win0_3.index t (0 : Fin 2) * 1024 + 1 * a.val = a.val; omega
  | ⟨1, _⟩ => show win0_3.index t (1 : Fin 2) * 512 + 1 * b.val = b.val; omega

theorem iblk3 (c : Dev nD) (t : Fin cfg0.N) (a : Fin 1024) (b : Fin 512) : iblk m c 3 t (ix2 a b) = V m c main_v2 (ix2 a ⟨b.val, by omega⟩) := by
  show V m c main_v2 (((cfg0.win 3).blk t).view.emb (ix2 a b)) = _; rw [emb3]

theorem idx4 : ∀ t : Fin cfg0.N, win0_4.index t (0 : Fin 3) = 0 ∧ win0_4.index t (1 : Fin 3) = t.val ∧ win0_4.index t (2 : Fin 3) = 0 := (by decide +kernel : ∀ t : Fin grid0.N, _)

theorem emb4 (t : Fin cfg0.N) (a : Fin 16) (b : Fin 64) (d : Fin 512) : ((cfg0.win 4).blk t).view.emb (ix3 a b d) = (ix3 a ⟨64 * t.val + b.val, by have := t.isLt; have h : cfg0.N = 2 := N_eq; omega⟩ d) := by
  obtain ⟨e0, e1, e2⟩ := idx4 t
  funext q; apply Fin.ext
  match q with
  | ⟨0, _⟩ => show win0_4.index t (0 : Fin 3) * 16 + 1 * a.val = a.val; omega
  | ⟨1, _⟩ => show win0_4.index t (1 : Fin 3) * 64 + 1 * b.val = 64 * t.val + b.val; omega
  | ⟨2, _⟩ => show win0_4.index t (2 : Fin 3) * 512 + 1 * d.val = d.val; omega

theorem V_main_v3 (c : Dev nD) : (V m c main_v3 : (⟨S1x1024, .f32⟩ : BufTy).Contents (Elt Ideal)) = shapeCast S1x1024 (shapeCast S1024 (m ((c : Thread nD τ).loc main_arg2)) shapeCasts_S1x1024_S1024) shapeCasts_S1024_S1x1024 := by
  unfold V hostOps0
  after_results_simp
  try rfl

theorem V_main_v2 (c : Dev nD) : (V m c main_v2 : (⟨S1024x2048, .bf16⟩ : BufTy).Contents (Elt Ideal)) = truncf .bf16 (shapeCast S1024x2048 (m ((c : Thread nD τ).loc main_arg3)) shapeCasts_S1x1024x2048_S1024x2048 : FVec Ideal S1024x2048 .f32) bitsLt_bf16_f32 := by
  unfold V hostOps0
  after_results_simp
  try rfl

/-- The reference's result of the argument arrays of device `c`. -/
abbrev result (c : Dev nD) : Buf (Elt Ideal) ((c : Thread nD τ).loc main_v4) :=
  Cert.Reference3Ideal.Read.val_main_v32 (F := Ideal) (m ((c : Thread nD τ).loc main_arg0)) (m ((c : Thread nD τ).loc main_arg1)) (m ((c : Thread nD τ).loc main_arg2)) (m ((c : Thread nD τ).loc main_arg3))

/-- The rows of the blocks at point `t` are rows of the arguments. -/
theorem rows (c : Dev nD) (t : Fin cfg0.N) (b : Fin 8) (s : Fin 128) (T : Fin 256) (hT : T.val = 128 * t.val + s.val) (j : Fin 512) :
    proj (iblk m c 0 t) (iblk m c 1 t) (iblk m c 2 t) (iblk m c 3 t) b s j
      = Cert.Reference3Ideal.Read.val_main_v28 (F := Ideal) (m ((c : Thread nD τ).loc main_arg0)) (m ((c : Thread nD τ).loc main_arg1)) (m ((c : Thread nD τ).loc main_arg2)) (m ((c : Thread nD τ).loc main_arg3)) (ix3 b T j) := by
  rw [r_proj]
  have ht : t.val < 2 := t.isLt
  have hT' : T = ⟨128 * t.val + s.val, by omega⟩ := Fin.ext hT
  rw [hT']
  unfold proj
  refine lin_congr (fun k => ?_) (fun k => ?_) (fun k => ?_) j (fun k => ?_)
  · rw [iblk0]; exact congrFun (V_main_arg0 m c) _
  · rw [iblk2]; exact (congrFun (V_main_v3 m c) _).trans (Proj.gv _ k)
  · rw [iblk1]; exact congrFun (V_main_arg1 m c) _
  · rw [iblk3]; exact (congrFun (V_main_v2 m c) _).trans (Proj.gw _ k _)

set_option maxHeartbeats 1000000 in
theorem flushed4 (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  funext i
  show out0_4 (iblk m c 0 t) (iblk m c 1 t) (iblk m c 2 t) (iblk m c 3 t) i = result m c (((cfg0.win 4).blk t).view.emb i)
  obtain ⟨a, b, d, rfl⟩ : ∃ (a : Fin 16) (b : Fin 64) (d : Fin 512), i = ix3 a b d := ⟨i 0, i 1, i 2, eq_ix3 i⟩
  rw [emb4]
  have ht : t.val < 2 := t.isLt
  refine (out4_apply _ _ _ _ a b d).trans (Eq.trans ?_ (ref_u _ _ _ _ a _ d).symm)
  refine (rows m c t _ _ ⟨16 * ((64 * t.val + b.val) / 8) + a.val, by omega⟩ ?_ _).trans ?_
  · show 16 * ((64 * t.val + b.val) / 8) + a.val = 128 * t.val + (16 * (b.val / 8) + a.val); omega
  · congr 2
    exact Fin.ext (show b.val % 8 = (64 * t.val + b.val) % 8 by omega)

theorem cover4 (i : S16x128x512.Idx) : ∃ t : Fin cfg0.N, (cfg0.win 4).flush t = true ∧ i ∈ ((cfg0.win 4).blk t).view.set := by
  have h1 : (i 1).val < 128 := (i 1).isLt
  refine ⟨(⟨(i 1).val / 64, by show (i 1).val / 64 < 2; omega⟩ : Fin cfg0.N), flush0_4 _, ?_⟩
  have h := ((cfg0.win 4).blk (⟨(i 1).val / 64, by show (i 1).val / 64 < 2; omega⟩ : Fin cfg0.N)).view.emb_mem_set
    (ix3 (i 0) ⟨(i 1).val % 64, by omega⟩ (i 2))
  rw [emb4 (⟨(i 1).val / 64, by show (i 1).val / 64 < 2; omega⟩ : Fin cfg0.N) (i 0) ⟨(i 1).val % 64, by omega⟩ (i 2)] at h
  have e : i = ix3 (i 0) ⟨64 * ((i 1).val / 64) + (i 1).val % 64, by omega⟩ (i 2) := by
    refine (eq_ix3 i).trans (congrArg (fun q => ix3 (i 0) q (i 2)) (Fin.ext ?_))
    show (i 1).val = 64 * ((i 1).val / 64) + (i 1).val % 64
    omega
  exact Proj.mem_of_eq e h

theorem final (c : Dev nD) : (dats m 0 c).arrAt 4 cfg0.N = result m c :=
  (dats m 0 c).arrAt_eq_of_cover 4 (result m c) (fun t _ => flushed4 m c t) cover4

/-- The kernel ends with the reference's result, and its arguments as they were. -/
theorem run (ρ : Dev nD → PrngReg) : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Ctx

end
-- ==== Proof.Mod.lean ====
/- The modulation rows: what a grid point writes back is its block of the reference's result. -/
module

public import proofs.«01_k».proof.Proof.Gen.Kernel4Ideal.Frame
public import proofs.«01_k».proof.Proof.Gen.Reference4Ideal.Read
public import proofs.«01_k».proof.Proof.Proj
public import Idealize.ShloMosaic.Lib.StableHlo.RunRead

@[expose] public section

noncomputable section

namespace Cert.Mod

open Idealize.ShloMosaic

/-- Row `r` of the conditioning rows: one per sample, then the context's, then zeros. -/
def row (x0 : Fin 8 → Fin 1024 → EReal) (x1 : Fin 1024 → EReal) (r : Fin 16) (k : Fin 1024) : EReal :=
  if h : r.val < 8 then x0 ⟨r.val, h⟩ k else if r.val = 8 then x1 k else 0

/-- A modulation entry of the conditioning row `v`. -/
def lin (v w : Fin 1024 → EReal) (b : EReal) : EReal := (∑ k, v k * Ideal.logistic (v k) * w k) + b

theorem lin_zero (w : Fin 1024 → EReal) (b : EReal) : lin (fun _ => 0) w b = b := by
  unfold lin
  rw [Finset.sum_eq_zero fun k _ => by rw [zero_mul, zero_mul], zero_add]

/-! ## The reference at an index -/

section Reference

open Cert.Reference4Ideal Cert.Reference4Ideal.Read

variable (x0 : (⟨S8x1024, .f32⟩ : BufTy).Contents (Elt Ideal)) (x1 : (⟨S1024, .f32⟩ : BufTy).Contents (Elt Ideal))
  (x2 : (⟨S1x1024x6144, .f32⟩ : BufTy).Contents (Elt Ideal)) (x3 : (⟨S1x6144, .f32⟩ : BufTy).Contents (Elt Ideal))

theorem r_sample (r : Fin 8) (j : Fin 6144) : val_main_v6 (F := Ideal) x0 x2 x3 (ix2 r j)
    = lin (fun k => x0 (ix2 r k)) (fun k => x2 (ix3 0 k j)) (x3 (ix2 0 j)) := by
  pointwise [val_main_call0_v0, val_main_call0_v1, val_main_call0_v2, val_main_call0_v3, val_main_call0_v4, val_main_call0_v5, val_main_call0_cst, val_main_call0_cst_0, val_main_v0, val_main_v1, val_main_v2, val_main_v3, val_main_v4, val_main_v5, val_main_v6, lin, Ideal.logistic, dot_S8x1024_S1024x6144_S8x6144_1_0_0_1_n_n]

theorem r_ctx (j : Fin 6144) : val_main_v15 (F := Ideal) x1 x2 x3 (ix2 0 j)
    = lin (fun k => x1 (ix1 k)) (fun k => x2 (ix3 0 k j)) (x3 (ix2 0 j)) := by
  pointwise [val_main_call1_v0, val_main_call1_v1, val_main_call1_v2, val_main_call1_v3, val_main_call1_v4, val_main_call1_v5, val_main_call1_cst, val_main_call1_cst_0, val_main_v7, val_main_v8, val_main_v9, val_main_v10, val_main_v11, val_main_v15, lin, Ideal.logistic, dot_S1024_S1024x6144_S6144_0_0_n_1_n_n]

theorem r_rest (r : Fin 7) (j : Fin 6144) : val_main_v14 (F := Ideal) x3 (ix2 r j) = x3 (ix2 0 j) := by
  pointwise [val_main_v12, val_main_v13, val_main_v14]

theorem ref (r : Fin 16) (j : Fin 6144) : val_main_v16 (F := Ideal) x0 x1 x2 x3 (ix2 r j)
    = lin (row (fun r k => x0 (ix2 r k)) (fun k => x1 (ix1 k)) r) (fun k => x2 (ix3 0 k j)) (x3 (ix2 0 j)) := by
  fin_cases r
  all_goals (pointwise [val_main_v16]; first | (rw [r_sample]; rfl) | (rw [r_ctx]; rfl) | (rw [r_rest]; exact (lin_zero _ _).symm))

end Reference

/-! ## The kernel's blocks -/

open Cert.Kernel4Ideal Cert.Kernel4Ideal.Gen Idealize.ShloMosaic.TcCoe Idealize.SL.Sem
open Idealize.ShloMosaic.Pipeline (Dat)

theorem ld0 (x : Vec Ideal S16x1024 .f32) : View.ld x r0_0 = x := View.ld_unit_zero Proj.hz2 _ x
theorem ld1 (x : Vec Ideal S1024x1024 .f32) : View.ld x r0_1 = x := View.ld_unit_zero Proj.hz2 _ x
theorem ld2 (x : Vec Ideal S1x1024 .f32) : View.ld x r0_2 = x := View.ld_unit_zero Proj.hz2 _ x

theorem out3_apply (x0 : Vec Ideal S16x1024 .f32) (x1 : Vec Ideal S1024x1024 .f32) (x2 : Vec Ideal S1x1024 .f32) (r : Fin 16) (j : Fin 1024) :
    out0_3 x0 x1 x2 (ix2 r j) = lin (fun k => x0 (ix2 r k)) (fun k => x1 (ix2 k j)) (x2 (ix2 0 j)) := by
  unfold out0_3
  rw [View.canon_unit_zero Proj.hz2, ld0, ld1, ld2]
  pointwise [k0_pay1, lin, dot_S16x1024_S1024x1024_S16x1024_1_0_0_1_n_n]

variable (m : (ℓ : Loc nD τ sig) → Buf (Elt Ideal) ℓ)

theorem N_eq : cfg0.N = 6 := rfl

theorem idx0 : ∀ t : Fin cfg0.N, win0_0.index t (0 : Fin 2) = 0 ∧ win0_0.index t (1 : Fin 2) = 0 := (by decide +kernel : ∀ t : Fin grid0.N, _)

theorem emb0 (t : Fin cfg0.N) (a : Fin 16) (b : Fin 1024) : ((cfg0.win 0).blk t).view.emb (ix2 a b) = (ix2 a b) := by
  obtain ⟨e0, e1⟩ := idx0 t
  funext q; apply Fin.ext
  match q with
  | ⟨0, _⟩ => show win0_0.index t (0 : Fin 2) * 16 + 1 * a.val = a.val; omega
  | ⟨1, _⟩ => show win0_0.index t (1 : Fin 2) * 1024 + 1 * b.val = b.val; omega

theorem iblk0 (c : Dev nD) (t : Fin cfg0.N) (a : Fin 16) (b : Fin 1024) : iblk m c 0 t (ix2 a b) = V m c main_v2 (ix2 a b) := by
  show V m c main_v2 (((cfg0.win 0).blk t).view.emb (ix2 a b)) = _; rw [emb0]

theorem idx1 : ∀ t : Fin cfg0.N, win0_1.index t (0 : Fin 2) = 0 ∧ win0_1.index t (1 : Fin 2) = t.val := (by decide +kernel : ∀ t : Fin grid0.N, _)

theorem emb1 (t : Fin cfg0.N) (a : Fin 1024) (b : Fin 1024) : ((cfg0.win 1).blk t).view.emb (ix2 a b) = (ix2 a ⟨1024 * t.val + b.val, by have := t.isLt; have h : cfg0.N = 6 := N_eq; omega⟩) := by
  obtain ⟨e0, e1⟩ := idx1 t
  funext q; apply Fin.ext
  match q with
  | ⟨0, _⟩ => show win0_1.index t (0 : Fin 2) * 1024 + 1 * a.val = a.val; omega
  | ⟨1, _⟩ => show win0_1.index t (1 : Fin 2) * 1024 + 1 * b.val = 1024 * t.val + b.val; omega

theorem iblk1 (c : Dev nD) (t : Fin cfg0.N) (a : Fin 1024) (b : Fin 1024) : iblk m c 1 t (ix2 a b) = V m c main_v3 (ix2 a ⟨1024 * t.val + b.val, by have := t.isLt; have h : cfg0.N = 6 := N_eq; omega⟩) := by
  show V m c main_v3 (((cfg0.win 1).blk t).view.emb (ix2 a b)) = _; rw [emb1]

theorem idx2 : ∀ t : Fin cfg0.N, win0_2.index t (0 : Fin 2) = 0 ∧ win0_2.index t (1 : Fin 2) = t.val := (by decide +kernel : ∀ t : Fin grid0.N, _)

theorem emb2 (t : Fin cfg0.N) (a : Fin 1) (b : Fin 1024) : ((cfg0.win 2).blk t).view.emb (ix2 a b) = (ix2 a ⟨1024 * t.val + b.val, by have := t.isLt; have h : cfg0.N = 6 := N_eq; omega⟩) := by
  obtain ⟨e0, e1⟩ := idx2 t
  funext q; apply Fin.ext
  match q with
  | ⟨0, _⟩ => show win0_2.index t (0 : Fin 2) * 1 + 1 * a.val = a.val; omega
  | ⟨1, _⟩ => show win0_2.index t (1 : Fin 2) * 1024 + 1 * b.val = 1024 * t.val + b.val; omega

theorem iblk2 (c : Dev nD) (t : Fin cfg0.N) (a : Fin 1) (b : Fin 1024) : iblk m c 2 t (ix2 a b) = V m c main_v5 (ix2 a ⟨1024 * t.val + b.val, by have := t.isLt; have h : cfg0.N = 6 := N_eq; omega⟩) := by
  show V m c main_v5 (((cfg0.win 2).blk t).view.emb (ix2 a b)) = _; rw [emb2]

theorem idx3 : ∀ t : Fin cfg0.N, win0_3.index t (0 : Fin 2) = 0 ∧ win0_3.index t (1 : Fin 2) = t.val := (by decide +kernel : ∀ t : Fin grid0.N, _)

theorem emb3 (t : Fin cfg0.N) (a : Fin 16) (b : Fin 1024) : ((cfg0.win 3).blk t).view.emb (ix2 a b) = (ix2 a ⟨1024 * t.val + b.val, by have := t.isLt; have h : cfg0.N = 6 := N_eq; omega⟩) := by
  obtain ⟨e0, e1⟩ := idx3 t
  funext q; apply Fin.ext
  match q with
  | ⟨0, _⟩ => show win0_3.index t (0 : Fin 2) * 16 + 1 * a.val = a.val; omega
  | ⟨1, _⟩ => show win0_3.index t (1 : Fin 2) * 1024 + 1 * b.val = 1024 * t.val + b.val; omega

/-- The conditioning rows as the kernel's arguments give them. -/
abbrev rows (x0 : FVec Ideal S8x1024 .f32) (x1 : FVec Ideal S1024 .f32) : FVec Ideal S16x1024 .f32 :=
  concatenate S16x1024 0 [⟨S8x1024, x0⟩, ⟨S1x1024, broadcastInDim S1x1024 ![1] bcast_S1024_S1x1024_1 x1⟩,
    ⟨S7x1024, broadcastInDim S7x1024 ![] bcast_S_S7x1024 (constant S_ .f32 0x00000000#32 : FVec Ideal S_ .f32)⟩] concatenates_S8x1024_S1x1024_S7x1024_S16x1024_d0

theorem rows_apply (x0 : FVec Ideal S8x1024 .f32) (x1 : FVec Ideal S1024 .f32) (r : Fin 16) (k : Fin 1024) :
    rows x0 x1 (ix2 r k) = row (fun r k => x0 (ix2 r k)) (fun k => x1 (ix1 k)) r k := by
  fin_cases r
  all_goals (pointwise [row]; done)

theorem V_main_v2 (c : Dev nD) : (V m c main_v2 : (⟨S16x1024, .f32⟩ : BufTy).Contents (Elt Ideal)) = rows (m ((c : Thread nD τ).loc main_arg0)) (m ((c : Thread nD τ).loc main_arg1)) := by
  unfold V hostOps0
  after_results_simp
  try rfl

theorem V_main_v3 (c : Dev nD) : (V m c main_v3 : (⟨S1024x6144, .f32⟩ : BufTy).Contents (Elt Ideal)) = shapeCast S1024x6144 (m ((c : Thread nD τ).loc main_arg2)) shapeCasts_S1x1024x6144_S1024x6144 := by
  unfold V hostOps0
  after_results_simp
  try rfl

theorem V_main_v5 (c : Dev nD) : (V m c main_v5 : (⟨S1x6144, .f32⟩ : BufTy).Contents (Elt Ideal)) = shapeCast S1x6144 (shapeCast S6144 (m ((c : Thread nD τ).loc main_arg3)) shapeCasts_S1x6144_S6144) shapeCasts_S6144_S1x6144 := by
  unfold V hostOps0
  after_results_simp
  try rfl

theorem gw (x : FVec Ideal S1x1024x6144 .f32) (k : Fin 1024) (l : Fin 6144) : (shapeCast S1024x6144 x shapeCasts_S1x1024x6144_S1024x6144 : FVec Ideal S1024x6144 .f32) (ix2 k l) = x (ix3 0 k l) := by
  pointwise

theorem gb (x : FVec Ideal S1x6144 .f32) (l : Fin 6144) : (shapeCast S1x6144 (shapeCast S6144 x shapeCasts_S1x6144_S6144) shapeCasts_S6144_S1x6144 : FVec Ideal S1x6144 .f32) (ix2 0 l) = x (ix2 0 l) := by
  pointwise

/-- The reference's result of the argument arrays of device `c`. -/
abbrev result (c : Dev nD) : Buf (Elt Ideal) ((c : Thread nD τ).loc main_v6) :=
  Cert.Reference4Ideal.Read.val_main_v16 (F := Ideal) (m ((c : Thread nD τ).loc main_arg0)) (m ((c : Thread nD τ).loc main_arg1)) (m ((c : Thread nD τ).loc main_arg2)) (m ((c : Thread nD τ).loc main_arg3))

theorem lin_congr {v v' w w' : Fin 1024 → EReal} {b b' : EReal} (h0 : ∀ k, v k = v' k) (h1 : ∀ k, w k = w' k) (h2 : b = b') :
    lin v w b = lin v' w' b' := by
  obtain rfl : v = v' := funext h0
  obtain rfl : w = w' := funext h1
  rw [h2]

set_option maxHeartbeats 1000000 in
theorem flushed3 (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  funext i
  show out0_3 (iblk m c 0 t) (iblk m c 1 t) (iblk m c 2 t) i = result m c (((cfg0.win 3).blk t).view.emb i)
  obtain ⟨a, b, rfl⟩ : ∃ (a : Fin 16) (b : Fin 1024), i = ix2 a b := ⟨i 0, i 1, eq_ix2 i⟩
  rw [emb3]
  refine (out3_apply _ _ _ a b).trans (Eq.trans ?_ (ref _ _ _ _ a _).symm)
  refine lin_congr (fun k => ?_) (fun k => ?_) ?_
  · rw [iblk0]; exact (congrFun (V_main_v2 m c) _).trans (rows_apply _ _ a k)
  · rw [iblk1]; exact (congrFun (V_main_v3 m c) _).trans (gw _ k _)
  · rw [iblk2]; exact (congrFun (V_main_v5 m c) _).trans (gb _ _)

theorem cover3 (i : S16x6144.Idx) : ∃ t : Fin cfg0.N, (cfg0.win 3).flush t = true ∧ i ∈ ((cfg0.win 3).blk t).view.set := by
  have h1 : (i 1).val < 6144 := (i 1).isLt
  refine ⟨(⟨(i 1).val / 1024, by show (i 1).val / 1024 < 6; omega⟩ : Fin cfg0.N), flush0_3 _, ?_⟩
  have h := ((cfg0.win 3).blk (⟨(i 1).val / 1024, by show (i 1).val / 1024 < 6; omega⟩ : Fin cfg0.N)).view.emb_mem_set
    (ix2 (i 0) ⟨(i 1).val % 1024, by omega⟩)
  rw [emb3 (⟨(i 1).val / 1024, by show (i 1).val / 1024 < 6; omega⟩ : Fin cfg0.N) (i 0) ⟨(i 1).val % 1024, by omega⟩] at h
  have e : i = ix2 (i 0) ⟨1024 * ((i 1).val / 1024) + (i 1).val % 1024, by omega⟩ := by
    refine (eq_ix2 i).trans (congrArg (fun q => ix2 (i 0) q) (Fin.ext ?_))
    show (i 1).val = 1024 * ((i 1).val / 1024) + (i 1).val % 1024
    omega
  exact Proj.mem_of_eq e h

theorem final (c : Dev nD) : (dats m 0 c).arrAt 3 cfg0.N = result m c :=
  (dats m 0 c).arrAt_eq_of_cover 3 (result m c) (fun t _ => flushed3 m c t) cover3

/-- The kernel ends with the reference's result, and its arguments as they were. -/
theorem run (ρ : Dev nD → PrngReg) : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Mod

end
-- ==== Proof.ScanFrame.lean ====
/- The frame of the S5 scan, for any float values: its body's run over whole buffers, the output and the scratch at any
   contents throughout, so that nothing is carried from one grid point to the next. -/
module

public import proofs.«01_k».proof.Proof.Gen.Kernel5Ideal.Skeleton
public import proofs.«01_k».proof.Proof.Gen.Kernel5Ideal.Loops
public import proofs.«01_k».proof.Proof.Gen.Kernel5Ideal.Frame

@[expose] public section

set_option maxRecDepth 16384

noncomputable section

namespace Cert.ScanFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

section Body
variable (c : Dev nD) (i : grid0.Coords)
  (arg1 : Memref sig .tc .vmem S16x2048x128 .bf16) (harg1 : arg1.IsWhole)
  (arg2 : Memref sig .tc .vmem S16x128x128 .bf16) (harg2 : arg2.IsWhole)
  (arg3 : Memref sig .tc .vmem S8x256x256 .bf16) (harg3 : arg3.IsWhole)
  (arg4 : Memref sig .tc .vmem S8x256x256 .bf16) (harg4 : arg4.IsWhole)
  (arg5 : Memref sig .tc .vmem S8x256x256 .bf16) (harg5 : arg5.IsWhole)
  (arg6 : Memref sig .tc .vmem S8x256x256 .bf16) (harg6 : arg6.IsWhole)
  (arg7 : Memref sig .tc .vmem S8x2x128 .f32) (harg7 : arg7.IsWhole)
  (arg8 : Memref sig .tc .vmem S16x2048x128 .bf16) (harg8 : arg8.IsWhole)
  (arg9 : Memref sig .tc .vmem S8x2176x256 .bf16) (harg9 : arg9.IsWhole)
  (arg10 : Memref sig .tc .vmem S2x2176x256 .f32) (harg10 : arg10.IsWhole)
  (arg11 : Memref sig .tc .vmem S2x2048x256 .f32) (harg11 : arg11.IsWhole)
  (arg12 : Memref sig .tc .vmem S2x2048x256 .f32) (harg12 : arg12.IsWhole)
  (x0 : Vec F S16x2048x128 .bf16)
  (x1 : Vec F S16x128x128 .bf16)
  (x2 : Vec F S8x256x256 .bf16)
  (x3 : Vec F S8x256x256 .bf16)
  (x4 : Vec F S8x256x256 .bf16)
  (x5 : Vec F S8x256x256 .bf16)
  (x6 : Vec F S8x2x128 .f32)

/-- What the body holds before and after: the inputs at their contents, the output and the scratch at any. -/
def Held : sProp 𝕄 :=
  iprop(owns (c : Thread nD τ) arg1 fullShare x0
    ∗ owns (c : Thread nD τ) arg2 fullShare x1
    ∗ owns (c : Thread nD τ) arg3 fullShare x2
    ∗ owns (c : Thread nD τ) arg4 fullShare x3
    ∗ owns (c : Thread nD τ) arg5 fullShare x4
    ∗ owns (c : Thread nD τ) arg6 fullShare x5
    ∗ owns (c : Thread nD τ) arg7 fullShare x6
    ∗ (∃ d, owns (c : Thread nD τ) arg8 fullShare d)
    ∗ (∃ d, owns (c : Thread nD τ) arg9 fullShare d)
    ∗ (∃ d, owns (c : Thread nD τ) arg10 fullShare d)
    ∗ (∃ d, owns (c : Thread nD τ) arg11 fullShare d)
    ∗ (∃ d, owns (c : Thread nD τ) arg12 fullShare d))

set_option maxHeartbeats 20000000 in
/-- The body runs: four counted loops over the scratch, then the gelu of the result. -/
theorem body_run (E : Set ℕ) (K : PUnit → sProp 𝕄) :
    iprop(Held c arg1 arg2 arg3 arg4 arg5 arg6 arg7 arg8 arg9 arg10 arg11 arg12 x0 x1 x2 x3 x4 x5 x6 ∗ (Held c arg1 arg2 arg3 arg4 arg5 arg6 arg7 arg8 arg9 arg10 arg11 arg12 x0 x1 x2 x3 x4 x5 x6 -∗ K ⟨⟩))
      ⊢ wp frame (wpE (defs₀ (F := F)) Variants.none c none) E (cc0_s5_scan i arg1 harg1 arg2 harg2 arg3 harg3 arg4 harg4 arg5 harg5 arg6 harg6 arg7 harg7 arg8 harg8 arg9 harg9 arg10 harg10 arg11 harg11 arg12 harg12) K := by
  unfold Held
  simp only [cc0_s5_scan_eq_skeleton]; unfold cc0_s5_scan_skel
  simp only [k0_part197_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part198_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part199_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Body

variable (m : (ℓ : Loc nD τ sig) → Buf (Elt F) ℓ) (ρ : Dev nD → PrngReg)

/-- Scratch buffer 0 as the body is handed it. -/
abbrev scr0 : Memref sig .tc .vmem S8x2176x256 .bf16 := Memref.whole cc0_scratch0
/-- Scratch buffer 1 as the body is handed it. -/
abbrev scr1 : Memref sig .tc .vmem S2x2176x256 .f32 := Memref.whole cc0_scratch1
/-- Scratch buffer 2 as the body is handed it. -/
abbrev scr2 : Memref sig .tc .vmem S2x2048x256 .f32 := Memref.whole cc0_scratch2
/-- Scratch buffer 3 as the body is handed it. -/
abbrev scr3 : Memref sig .tc .vmem S2x2048x256 .f32 := Memref.whole cc0_scratch3

/-- The pipeline's invariant, the scratch as memrefs at some contents. -/
theorem inv_eq (c : Dev nD) :
    (Pipeline.ΦA spec0 c : sProp 𝕄) = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

/-- Nothing is said of the output's contents. -/
def forgets : Fin 8 → Bool := fun w => w.val == 7

/-- The proof data: the arrays as the region finds them, each input's buffer left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- What the pipeline calls the body with at a point, and what it takes back. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare d))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ (∃ d, owns (c : Thread nD τ) (win0_7.stage (cfg0.slots t 7)) fullShare d))

set_option maxHeartbeats 2000000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = Pipeline.ΦA spec0 c from rfl, inv_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  unfold Held
  isplitl [H0 H1 H2 H3 H4 H5 H6 H7 HS0 HS1 HS2 HS3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    iexact HS3
  iintro ⟨H0, H1, H2, H3, H4, H5, H6, H7, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, body_row]
  exact triple_restated (sound_body m c t) rfl .rfl fun _ => .rfl

set_option backward.isDefEq.respectTransparency.types false in
/-- The launch: every run ends with the input arrays as they were and the semaphores at zero. -/
theorem launch_run : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 4000000 in
/-- The frame: the argument arrays are unchanged and the semaphores end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩) (launch_run m ρ)

end Cert.ScanFrame

end
-- ==== Proof.ConvFrame.lean ====
/- The frame of the Hyena convolution, for any float values: its body's run over whole buffers, the output and the scratch
   at any contents throughout, so that nothing is carried from one grid point to the next. -/
module

public import proofs.«01_k».proof.Proof.Gen.Kernel7Ideal.Skeleton
public import proofs.«01_k».proof.Proof.Gen.Kernel7Ideal.Loops
public import proofs.«01_k».proof.Proof.Gen.Kernel7Ideal.Frame

@[expose] public section

set_option maxRecDepth 16384

noncomputable section

namespace Cert.ConvFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

/-- The branches taken together: at most one of the four at a grid point. -/
abbrev Branches (i : grid0.Coords) : Prop :=
  (k0_cond1 i = 1#1 ∧ ¬ k0_cond2 i = 1#1 ∧ ¬ k0_cond3 i = 1#1 ∧ ¬ k0_cond4 i = 1#1)
  ∨ (¬ k0_cond1 i = 1#1 ∧ k0_cond2 i = 1#1 ∧ ¬ k0_cond3 i = 1#1 ∧ ¬ k0_cond4 i = 1#1)
  ∨ (¬ k0_cond1 i = 1#1 ∧ ¬ k0_cond2 i = 1#1 ∧ k0_cond3 i = 1#1 ∧ ¬ k0_cond4 i = 1#1)
  ∨ (¬ k0_cond1 i = 1#1 ∧ ¬ k0_cond2 i = 1#1 ∧ ¬ k0_cond3 i = 1#1 ∧ k0_cond4 i = 1#1)
  ∨ (¬ k0_cond1 i = 1#1 ∧ ¬ k0_cond2 i = 1#1 ∧ ¬ k0_cond3 i = 1#1 ∧ ¬ k0_cond4 i = 1#1)

theorem branches_at (t : Fin cfg0.N) : Branches (grid0.coords t) :=
  (by decide +kernel : ∀ t : Fin grid0.N, Branches (grid0.coords t)) t

/-- The first of the 32 rows of the scratch that a grid point reads and writes. -/
def base (i : grid0.Coords) : ℕ := 32 * ((i 2).val % 4)

/-- A grid point with the given step. -/
def pt (j : Fin 8) : grid0.Coords := fun | 0 => (0 : Fin 4) | 1 => (0 : Fin 2) | 2 => j

theorem row_lo (i : grid0.Coords) (r : Fin 32) : k0_off13 i (BitVec.ofNat 32 r.val) = ![base i + r.val, 0, 0] :=
  (by decide +kernel : ∀ (j : Fin 8) (r : Fin 32), k0_off13 (pt j) (BitVec.ofNat 32 r.val) = ![32 * (j.val % 4) + r.val, 0, 0]) (i 2) r

theorem row_hi (i : grid0.Coords) (r : Fin 32) : k0_off14 i (BitVec.ofNat 32 r.val) = ![base i + (128 + r.val), 0, 0] :=
  (by decide +kernel : ∀ (j : Fin 8) (r : Fin 32), k0_off14 (pt j) (BitVec.ofNat 32 r.val) = ![32 * (j.val % 4) + (128 + r.val), 0, 0]) (i 2) r

instance (i : grid0.Coords) : ClosedOff (k0_off13 i 0#32) := ⟨![base i + 0, 0, 0], row_lo i 0⟩
instance (i : grid0.Coords) : ClosedOff (k0_off13 i 1#32) := ⟨![base i + 1, 0, 0], row_lo i 1⟩
instance (i : grid0.Coords) : ClosedOff (k0_off13 i 2#32) := ⟨![base i + 2, 0, 0], row_lo i 2⟩
instance (i : grid0.Coords) : ClosedOff (k0_off13 i 3#32) := ⟨![base i + 3, 0, 0], row_lo i 3⟩
instance (i : grid0.Coords) : ClosedOff (k0_off13 i 4#32) := ⟨![base i + 4, 0, 0], row_lo i 4⟩
instance (i : grid0.Coords) : ClosedOff (k0_off13 i 5#32) := ⟨![base i + 5, 0, 0], row_lo i 5⟩
instance (i : grid0.Coords) : ClosedOff (k0_off13 i 6#32) := ⟨![base i + 6, 0, 0], row_lo i 6⟩
instance (i : grid0.Coords) : ClosedOff (k0_off13 i 7#32) := ⟨![base i + 7, 0, 0], row_lo i 7⟩
instance (i : grid0.Coords) : ClosedOff (k0_off13 i 8#32) := ⟨![base i + 8, 0, 0], row_lo i 8⟩
instance (i : grid0.Coords) : ClosedOff (k0_off13 i 9#32) := ⟨![base i + 9, 0, 0], row_lo i 9⟩
instance (i : grid0.Coords) : ClosedOff (k0_off13 i 10#32) := ⟨![base i + 10, 0, 0], row_lo i 10⟩
instance (i : grid0.Coords) : ClosedOff (k0_off13 i 11#32) := ⟨![base i + 11, 0, 0], row_lo i 11⟩
instance (i : grid0.Coords) : ClosedOff (k0_off13 i 12#32) := ⟨![base i + 12, 0, 0], row_lo i 12⟩
instance (i : grid0.Coords) : ClosedOff (k0_off13 i 13#32) := ⟨![base i + 13, 0, 0], row_lo i 13⟩
instance (i : grid0.Coords) : ClosedOff (k0_off13 i 14#32) := ⟨![base i + 14, 0, 0], row_lo i 14⟩
instance (i : grid0.Coords) : ClosedOff (k0_off13 i 15#32) := ⟨![base i + 15, 0, 0], row_lo i 15⟩
instance (i : grid0.Coords) : ClosedOff (k0_off13 i 16#32) := ⟨![base i + 16, 0, 0], row_lo i 16⟩
instance (i : grid0.Coords) : ClosedOff (k0_off13 i 17#32) := ⟨![base i + 17, 0, 0], row_lo i 17⟩
instance (i : grid0.Coords) : ClosedOff (k0_off13 i 18#32) := ⟨![base i + 18, 0, 0], row_lo i 18⟩
instance (i : grid0.Coords) : ClosedOff (k0_off13 i 19#32) := ⟨![base i + 19, 0, 0], row_lo i 19⟩
instance (i : grid0.Coords) : ClosedOff (k0_off13 i 20#32) := ⟨![base i + 20, 0, 0], row_lo i 20⟩
instance (i : grid0.Coords) : ClosedOff (k0_off13 i 21#32) := ⟨![base i + 21, 0, 0], row_lo i 21⟩
instance (i : grid0.Coords) : ClosedOff (k0_off13 i 22#32) := ⟨![base i + 22, 0, 0], row_lo i 22⟩
instance (i : grid0.Coords) : ClosedOff (k0_off13 i 23#32) := ⟨![base i + 23, 0, 0], row_lo i 23⟩
instance (i : grid0.Coords) : ClosedOff (k0_off13 i 24#32) := ⟨![base i + 24, 0, 0], row_lo i 24⟩
instance (i : grid0.Coords) : ClosedOff (k0_off13 i 25#32) := ⟨![base i + 25, 0, 0], row_lo i 25⟩
instance (i : grid0.Coords) : ClosedOff (k0_off13 i 26#32) := ⟨![base i + 26, 0, 0], row_lo i 26⟩
instance (i : grid0.Coords) : ClosedOff (k0_off13 i 27#32) := ⟨![base i + 27, 0, 0], row_lo i 27⟩
instance (i : grid0.Coords) : ClosedOff (k0_off13 i 28#32) := ⟨![base i + 28, 0, 0], row_lo i 28⟩
instance (i : grid0.Coords) : ClosedOff (k0_off13 i 29#32) := ⟨![base i + 29, 0, 0], row_lo i 29⟩
instance (i : grid0.Coords) : ClosedOff (k0_off13 i 30#32) := ⟨![base i + 30, 0, 0], row_lo i 30⟩
instance (i : grid0.Coords) : ClosedOff (k0_off13 i 31#32) := ⟨![base i + 31, 0, 0], row_lo i 31⟩
instance (i : grid0.Coords) : ClosedOff (k0_off14 i 0#32) := ⟨![base i + 128, 0, 0], row_hi i 0⟩
instance (i : grid0.Coords) : ClosedOff (k0_off14 i 1#32) := ⟨![base i + 129, 0, 0], row_hi i 1⟩
instance (i : grid0.Coords) : ClosedOff (k0_off14 i 2#32) := ⟨![base i + 130, 0, 0], row_hi i 2⟩
instance (i : grid0.Coords) : ClosedOff (k0_off14 i 3#32) := ⟨![base i + 131, 0, 0], row_hi i 3⟩
instance (i : grid0.Coords) : ClosedOff (k0_off14 i 4#32) := ⟨![base i + 132, 0, 0], row_hi i 4⟩
instance (i : grid0.Coords) : ClosedOff (k0_off14 i 5#32) := ⟨![base i + 133, 0, 0], row_hi i 5⟩
instance (i : grid0.Coords) : ClosedOff (k0_off14 i 6#32) := ⟨![base i + 134, 0, 0], row_hi i 6⟩
instance (i : grid0.Coords) : ClosedOff (k0_off14 i 7#32) := ⟨![base i + 135, 0, 0], row_hi i 7⟩
instance (i : grid0.Coords) : ClosedOff (k0_off14 i 8#32) := ⟨![base i + 136, 0, 0], row_hi i 8⟩
instance (i : grid0.Coords) : ClosedOff (k0_off14 i 9#32) := ⟨![base i + 137, 0, 0], row_hi i 9⟩
instance (i : grid0.Coords) : ClosedOff (k0_off14 i 10#32) := ⟨![base i + 138, 0, 0], row_hi i 10⟩
instance (i : grid0.Coords) : ClosedOff (k0_off14 i 11#32) := ⟨![base i + 139, 0, 0], row_hi i 11⟩
instance (i : grid0.Coords) : ClosedOff (k0_off14 i 12#32) := ⟨![base i + 140, 0, 0], row_hi i 12⟩
instance (i : grid0.Coords) : ClosedOff (k0_off14 i 13#32) := ⟨![base i + 141, 0, 0], row_hi i 13⟩
instance (i : grid0.Coords) : ClosedOff (k0_off14 i 14#32) := ⟨![base i + 142, 0, 0], row_hi i 14⟩
instance (i : grid0.Coords) : ClosedOff (k0_off14 i 15#32) := ⟨![base i + 143, 0, 0], row_hi i 15⟩
instance (i : grid0.Coords) : ClosedOff (k0_off14 i 16#32) := ⟨![base i + 144, 0, 0], row_hi i 16⟩
instance (i : grid0.Coords) : ClosedOff (k0_off14 i 17#32) := ⟨![base i + 145, 0, 0], row_hi i 17⟩
instance (i : grid0.Coords) : ClosedOff (k0_off14 i 18#32) := ⟨![base i + 146, 0, 0], row_hi i 18⟩
instance (i : grid0.Coords) : ClosedOff (k0_off14 i 19#32) := ⟨![base i + 147, 0, 0], row_hi i 19⟩
instance (i : grid0.Coords) : ClosedOff (k0_off14 i 20#32) := ⟨![base i + 148, 0, 0], row_hi i 20⟩
instance (i : grid0.Coords) : ClosedOff (k0_off14 i 21#32) := ⟨![base i + 149, 0, 0], row_hi i 21⟩
instance (i : grid0.Coords) : ClosedOff (k0_off14 i 22#32) := ⟨![base i + 150, 0, 0], row_hi i 22⟩
instance (i : grid0.Coords) : ClosedOff (k0_off14 i 23#32) := ⟨![base i + 151, 0, 0], row_hi i 23⟩
instance (i : grid0.Coords) : ClosedOff (k0_off14 i 24#32) := ⟨![base i + 152, 0, 0], row_hi i 24⟩
instance (i : grid0.Coords) : ClosedOff (k0_off14 i 25#32) := ⟨![base i + 153, 0, 0], row_hi i 25⟩
instance (i : grid0.Coords) : ClosedOff (k0_off14 i 26#32) := ⟨![base i + 154, 0, 0], row_hi i 26⟩
instance (i : grid0.Coords) : ClosedOff (k0_off14 i 27#32) := ⟨![base i + 155, 0, 0], row_hi i 27⟩
instance (i : grid0.Coords) : ClosedOff (k0_off14 i 28#32) := ⟨![base i + 156, 0, 0], row_hi i 28⟩
instance (i : grid0.Coords) : ClosedOff (k0_off14 i 29#32) := ⟨![base i + 157, 0, 0], row_hi i 29⟩
instance (i : grid0.Coords) : ClosedOff (k0_off14 i 30#32) := ⟨![base i + 158, 0, 0], row_hi i 30⟩
instance (i : grid0.Coords) : ClosedOff (k0_off14 i 31#32) := ⟨![base i + 159, 0, 0], row_hi i 31⟩

section Body
variable (c : Dev nD) (i : grid0.Coords)
  (arg3 : Memref sig .tc .vmem S2x1x64x64x256 .bf16) (harg3 : arg3.IsWhole)
  (arg4 : Memref sig .tc .vmem S2x1x64x64x256 .bf16) (harg4 : arg4.IsWhole)
  (arg5 : Memref sig .tc .vmem S2x1x64x64x256 .bf16) (harg5 : arg5.IsWhole)
  (arg6 : Memref sig .tc .vmem S3x256 .f32) (harg6 : arg6.IsWhole)
  (arg7 : Memref sig .tc .vmem S1x256 .f32) (harg7 : arg7.IsWhole)
  (arg8 : Memref sig .tc .vmem S3x256 .f32) (harg8 : arg8.IsWhole)
  (arg9 : Memref sig .tc .vmem S1x256 .f32) (harg9 : arg9.IsWhole)
  (arg10 : Memref sig .tc .vmem S3x256 .f32) (harg10 : arg10.IsWhole)
  (arg11 : Memref sig .tc .vmem S1x256 .f32) (harg11 : arg11.IsWhole)
  (arg12 : Memref sig .tc .vmem S1x32x128x256 .bf16) (harg12 : arg12.IsWhole)
  (arg13 : Memref sig .tc .vmem S64x256x128 .bf16) (harg13 : arg13.IsWhole)
  (arg14 : Memref sig .tc .vmem S128x128 .bf16) (harg14 : arg14.IsWhole)
  (arg15 : Memref sig .tc .vmem S128x128 .bf16) (harg15 : arg15.IsWhole)
  (arg16 : Memref sig .tc .vmem S64x128x256 .bf16) (harg16 : arg16.IsWhole)
  (arg17 : Memref sig .tc .vmem S2x1x64x64x256 .bf16) (harg17 : arg17.IsWhole)
  (arg18 : Memref sig .tc .vmem S256x64x256 .bf16) (harg18 : arg18.IsWhole)
  (arg19 : Memref sig .tc .vmem S2x1x64x64x256 .bf16) (harg19 : arg19.IsWhole)
  (x0 : Vec F S2x1x64x64x256 .bf16)
  (x1 : Vec F S2x1x64x64x256 .bf16)
  (x2 : Vec F S2x1x64x64x256 .bf16)
  (x3 : Vec F S3x256 .f32)
  (x4 : Vec F S1x256 .f32)
  (x5 : Vec F S3x256 .f32)
  (x6 : Vec F S1x256 .f32)
  (x7 : Vec F S3x256 .f32)
  (x8 : Vec F S1x256 .f32)
  (x9 : Vec F S1x32x128x256 .bf16)
  (x10 : Vec F S64x256x128 .bf16)
  (x11 : Vec F S128x128 .bf16)
  (x12 : Vec F S128x128 .bf16)
  (x13 : Vec F S64x128x256 .bf16)

/-- What the body holds before and after: the inputs at their contents, the output and the scratch at any. -/
def Held : sProp 𝕄 :=
  iprop(owns (c : Thread nD τ) arg3 fullShare x0
    ∗ owns (c : Thread nD τ) arg4 fullShare x1
    ∗ owns (c : Thread nD τ) arg5 fullShare x2
    ∗ owns (c : Thread nD τ) arg6 fullShare x3
    ∗ owns (c : Thread nD τ) arg7 fullShare x4
    ∗ owns (c : Thread nD τ) arg8 fullShare x5
    ∗ owns (c : Thread nD τ) arg9 fullShare x6
    ∗ owns (c : Thread nD τ) arg10 fullShare x7
    ∗ owns (c : Thread nD τ) arg11 fullShare x8
    ∗ owns (c : Thread nD τ) arg12 fullShare x9
    ∗ owns (c : Thread nD τ) arg13 fullShare x10
    ∗ owns (c : Thread nD τ) arg14 fullShare x11
    ∗ owns (c : Thread nD τ) arg15 fullShare x12
    ∗ owns (c : Thread nD τ) arg16 fullShare x13
    ∗ (∃ d, owns (c : Thread nD τ) arg17 fullShare d)
    ∗ (∃ d, owns (c : Thread nD τ) arg18 fullShare d)
    ∗ (∃ d, owns (c : Thread nD τ) arg19 fullShare d))

set_option maxHeartbeats 20000000 in
/-- The body runs, whichever of its branches are taken. -/
theorem body_run (hb : Branches i) (E : Set ℕ) (K : PUnit → sProp 𝕄) :
    iprop(Held c arg3 arg4 arg5 arg6 arg7 arg8 arg9 arg10 arg11 arg12 arg13 arg14 arg15 arg16 arg17 arg18 arg19 x0 x1 x2 x3 x4 x5 x6 x7 x8 x9 x10 x11 x12 x13 ∗ (Held c arg3 arg4 arg5 arg6 arg7 arg8 arg9 arg10 arg11 arg12 arg13 arg14 arg15 arg16 arg17 arg18 arg19 x0 x1 x2 x3 x4 x5 x6 x7 x8 x9 x10 x11 x12 x13 -∗ K ⟨⟩))
      ⊢ wp frame (wpE (defs₀ (F := F)) Variants.none c none) E (cc0_hyena_conv i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  unfold Held
  simp only [cc0_hyena_conv_eq_skeleton]; unfold cc0_hyena_conv_skel
  simp only [k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  obtain rfl := harg14.eq_unread hf11
  obtain rfl := harg15.eq_unread hf12
  obtain rfl := harg16.eq_unread hf13
  rcases hb with ⟨h1, h2, h3, h4⟩ | ⟨h1, h2, h3, h4⟩ | ⟨h1, h2, h3, h4⟩ | ⟨h1, h2, h3, h4⟩ | ⟨h1, h2, h3, h4⟩
  all_goals
    sl_exec (disch := first | sl_exact h1 | sl_exact h2 | sl_exact h3 | sl_exact h4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

end Body

variable (m : (ℓ : Loc nD τ sig) → Buf (Elt F) ℓ) (ρ : Dev nD → PrngReg)

/-- Scratch buffer 0 as the body is handed it. -/
abbrev scr0 : Memref sig .tc .vmem S256x64x256 .bf16 := Memref.whole cc0_scratch0
/-- Scratch buffer 1 as the body is handed it. -/
abbrev scr1 : Memref sig .tc .vmem S2x1x64x64x256 .bf16 := Memref.whole cc0_scratch1

/-- The pipeline's invariant, the scratch as memrefs at some contents. -/
theorem inv_eq (c : Dev nD) :
    (Pipeline.ΦA spec0 c : sProp 𝕄) = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- Nothing is said of the output's contents. -/
def forgets : Fin 15 → Bool := fun w => w.val == 14

/-- The proof data: the arrays as the region finds them, each input's buffer left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d

/-- What the pipeline calls the body with at a point, and what it takes back. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare d))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ (∃ d, owns (c : Thread nD τ) (win0_14.stage (cfg0.slots t 14)) fullShare d))

set_option maxHeartbeats 2000000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  rw [show (dats m 0 c).Φ t.castSucc = Pipeline.ΦA spec0 c from rfl, inv_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_run c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (branches_at t) Set.univ _)
  unfold Held
  isplitl [H0 H1 H2 H3 H4 H5 H6 H7 H8 H9 H10 H11 H12 H13 H14 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [HS0]; · iexact HS0
    iexact HS1
  iintro ⟨H0, H1, H2, H3, H4, H5, H6, H7, H8, H9, H10, H11, H12, H13, H14, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem body_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, body_row]
  exact triple_restated (sound_body m c t) rfl .rfl fun _ => .rfl

set_option backward.isDefEq.respectTransparency.types false in
/-- The launch: every run ends with the input arrays as they were and the semaphores at zero. -/
theorem launch_run : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

/-- The frame: the argument arrays are unchanged and the semaphores end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 9 rfl).trans ((A_eq m c 9).trans (V_main_arg3 m c)),
      (Pipeline.RDat.FramePost.arr_in h.1 c 10 rfl).trans ((A_eq m c 10).trans (V_main_arg4 m c)),
      (Pipeline.RDat.FramePost.arr_in h.1 c 11 rfl).trans ((A_eq m c 11).trans (V_main_arg5 m c)),
      (Pipeline.RDat.FramePost.arr_in h.1 c 12 rfl).trans ((A_eq m c 12).trans (V_main_arg6 m c)),
      (Pipeline.RDat.FramePost.arr_in h.1 c 13 rfl).trans ((A_eq m c 13).trans (V_main_arg7 m c))⟩, h.2⟩) (launch_run m ρ)

end Cert.ConvFrame

end
-- ==== Proof.BitFrames.lean ====
/- The frames of the scan's and the convolution's kernels: their bodies are their idealizations', so the same runs serve. -/
module

public import proofs.«01_k».proof.Proof.ScanFrame
public import proofs.«01_k».proof.Proof.ConvFrame
public import proofs.«01_k».proof.Proof.Gen.Kernel5
public import proofs.«01_k».proof.Proof.Gen.Kernel7
public import proofs.«01_k».proof.Defs

@[expose] public section

set_option maxRecDepth 65536
set_option maxHeartbeats 4000000

noncomputable section

namespace Cert.BitFrames

open Idealize.ShloMosaic

variable {F : FTy → Type} [FloatOps F]

theorem scan_body : Cert.Kernel5.defs₀ (F := F) = Cert.Kernel5Ideal.defs₀ (F := F) :=
  congrArg Defs.onTc (funext fun l => funext fun p => match l, p with
    | 0, (t, s) => rfl
    | ⟨_ + 1, h⟩, _ => absurd h (Nat.not_lt.2 (Nat.le_add_left _ _)))

theorem scan_defs : Cert.Kernel5.defs (F := F) = Cert.Kernel5Ideal.defs (F := F) :=
  congrArg (Pipeline.defs Cert.Kernel5Ideal.pcfgs) scan_body

theorem scan : Cert.quiescent_Kernel5 (hKernel5 := Cert.Kernel5.Gen.facts) := fun m ρ _ => by
  rw [scan_defs]
  exact Cert.ScanFrame.frame (F := Bits) m ρ

theorem conv_body : Cert.Kernel7.defs₀ (F := F) = Cert.Kernel7Ideal.defs₀ (F := F) :=
  congrArg Defs.onTc (funext fun l => funext fun p => match l, p with
    | 0, (t, s) => rfl
    | ⟨_ + 1, h⟩, _ => absurd h (Nat.not_lt.2 (Nat.le_add_left _ _)))

theorem conv_defs : Cert.Kernel7.defs (F := F) = Cert.Kernel7Ideal.defs (F := F) :=
  congrArg (Pipeline.defs Cert.Kernel7Ideal.pcfgs) conv_body

theorem conv : Cert.quiescent_Kernel7 (hKernel7 := Cert.Kernel7.Gen.facts) := fun m ρ _ => by
  rw [conv_defs]
  exact Cert.ConvFrame.frame (F := Bits) m ρ

end Cert.BitFrames

end
-- ==== Proof.Resp.lean ====
/- The impulse responses of the two directions, as the kernel's host code and the reference write them, over the extended reals. -/
module

public import proofs.«01_k».proof.Proof.Gen.Kernel8Ideal.Frame
public import proofs.«01_k».proof.Proof.Gen.Reference8Ideal.Read
public import Idealize.ShloMosaic.Lib.Pointwise
public import Idealize.ShloMosaic.Lib.KernelVsHost
public import Idealize.ShloMosaic.Lib.StableHlo.RunRead

@[expose] public section

noncomputable section

namespace Cert.Resp

open Idealize.ShloMosaic

/-! ## The response, entry by entry -/

section Entries

open Cert.Kernel8Ideal

variable (x0 x1 : FVec Ideal S1x2x32x64 .f32) (x2 : FVec Ideal S1x2x32 .f32) (x3 x4 : FVec Ideal S1x2x32x64x16 .f32) (x5 x6 : FVec Ideal S1x2x32x16x64 .f32)

/-- An exponent: a part of the continuous eigenvalue times the step. -/
def ex (x : FVec Ideal S1x2x32x64 .f32) (x2 : FVec Ideal S1x2x32 .f32) (d : Fin 2) (g : Fin 32) (p : Fin 64) : EReal :=
  x (ix4 0 d g p) * Ideal.exp (x2 (ix3 0 d g))

/-- A distance as a number. -/
def num (k : Fin 16) : EReal := (((BitVec.ofNat 32 k.val).toInt : ℝ) : EReal)

/-- The real and the imaginary part of the discretized eigenvalue less one. -/
def nr (d : Fin 2) (g : Fin 32) (p : Fin 64) : EReal := Ideal.exp (ex x0 x2 d g p) * Ideal.cos (ex x1 x2 d g p) - 1
def ni (d : Fin 2) (g : Fin 32) (p : Fin 64) : EReal := Ideal.exp (ex x0 x2 d g p) * Ideal.sin (ex x1 x2 d g p)

def den (d : Fin 2) (g : Fin 32) (p : Fin 64) : EReal := x0 (ix4 0 d g p) * x0 (ix4 0 d g p) + x1 (ix4 0 d g p) * x1 (ix4 0 d g p)

def qr (d : Fin 2) (g : Fin 32) (p : Fin 64) : EReal :=
  Ideal.div (nr x0 x1 x2 d g p * x0 (ix4 0 d g p) + ni x0 x1 x2 d g p * x1 (ix4 0 d g p)) (den x0 x1 d g p)
def qi (d : Fin 2) (g : Fin 32) (p : Fin 64) : EReal :=
  Ideal.div (ni x0 x1 x2 d g p * x0 (ix4 0 d g p) - nr x0 x1 x2 d g p * x1 (ix4 0 d g p)) (den x0 x1 d g p)

/-- The discretized input matrix. -/
def br (d : Fin 2) (g : Fin 32) (p : Fin 64) (e : Fin 16) : EReal :=
  qr x0 x1 x2 d g p * x3 (ix5 0 d g p e) - qi x0 x1 x2 d g p * x4 (ix5 0 d g p e)
def bi (d : Fin 2) (g : Fin 32) (p : Fin 64) (e : Fin 16) : EReal :=
  qr x0 x1 x2 d g p * x4 (ix5 0 d g p e) + qi x0 x1 x2 d g p * x3 (ix5 0 d g p e)

/-- A power of the discretized eigenvalue. -/
def pr (d : Fin 2) (g : Fin 32) (k : Fin 16) (p : Fin 64) : EReal := Ideal.exp (ex x0 x2 d g p * num k) * Ideal.cos (ex x1 x2 d g p * num k)
def pi (d : Fin 2) (g : Fin 32) (k : Fin 16) (p : Fin 64) : EReal := Ideal.exp (ex x0 x2 d g p * num k) * Ideal.sin (ex x1 x2 d g p * num k)

/-- The output matrix times a power. -/
def wr (d : Fin 2) (g : Fin 32) (k c : Fin 16) (p : Fin 64) : EReal :=
  x5 (ix5 0 d g c p) * pr x0 x1 x2 d g k p - x6 (ix5 0 d g c p) * pi x0 x1 x2 d g k p
def wi (d : Fin 2) (g : Fin 32) (k c : Fin 16) (p : Fin 64) : EReal :=
  x5 (ix5 0 d g c p) * pi x0 x1 x2 d g k p + x6 (ix5 0 d g c p) * pr x0 x1 x2 d g k p

def resp (d : Fin 2) (g : Fin 32) (k c e : Fin 16) : EReal :=
  (∑ p : Fin 64, wr x0 x1 x2 x5 x6 d g k c p * br x0 x1 x2 x3 x4 d g p e) - ∑ p : Fin 64, wi x0 x1 x2 x5 x6 d g k c p * bi x0 x1 x2 x3 x4 d g p e

end Entries

/-! ## The kernel's host code -/

section Kernel

open Cert.Kernel8Ideal Cert.Kernel8Ideal.Gen

theorem cut3 (d : Fin 2) : S2x32x64.Slices ![d.val, 0, 0] S1x32x64 := by revert d; decide
theorem cutb (d : Fin 2) : S2x32x64x16.Slices ![d.val, 0, 0, 0] S1x32x64x16 := by revert d; decide
theorem cutc (d : Fin 2) : S2x32x16x64.Slices ![d.val, 0, 0, 0] S1x32x16x64 := by revert d; decide

def kex (x : FVec Ideal S1x2x32x64 .f32) (x2 : FVec Ideal S1x2x32 .f32) : FVec Ideal S2x32x64 .f32 :=
  mulf (shapeCast S2x32x64 x shapeCasts_S1x2x32x64_S2x32x64)
    (broadcastInDim S2x32x64 ![0, 1, 2] bcast_S2x32x1_S2x32x64_0_1_2 (broadcastInDim S2x32x1 ![0, 1] bcast_S2x32_S2x32x1_0_1 (Host.exp (shapeCast S2x32 x2 shapeCasts_S1x2x32_S2x32))))

/-- One direction of an array of exponents. -/
def dir (d : Fin 2) (y : FVec Ideal S2x32x64 .f32) : FVec Ideal S32x1x64 .f32 :=
  broadcastInDim S32x1x64 ![0, 2] bcast_S32x64_S32x1x64_0_2 (shapeCast S32x64 (extractStridedSlice S1x32x64 ![d.val, 0, 0] y (cut3 d)) shapeCasts_S1x32x64_S32x64)

/-- The distance one. -/
def one : FVec Ideal S32x1x64 .f32 :=
  broadcastInDim S32x1x64 ![0, 1, 2] bcast_S32x1x1_S32x1x64_0_1_2 (broadcastInDim S32x1x1 ![0, 1] bcast_S32x1_S32x1x1_0_1 (constant S32x1 .f32 0x3F800000#32))

def firstRe (d : Fin 2) (yr yi : FVec Ideal S2x32x64 .f32) : FVec Ideal S32x1x64 .f32 :=
  mulf (Host.exp (mulf (dir d yr) one)) (Host.cos (mulf (dir d yi) one))
def firstIm (d : Fin 2) (yr yi : FVec Ideal S2x32x64 .f32) : FVec Ideal S32x1x64 .f32 :=
  mulf (Host.exp (mulf (dir d yr) one)) (Host.sin (mulf (dir d yi) one))

def stack (a b : FVec Ideal S32x1x64 .f32) : FVec Ideal S2x32x64 .f32 :=
  concatenate S2x32x64 0 [⟨S1x32x64, broadcastInDim S1x32x64 ![1, 2] bcast_S32x64_S1x32x64_1_2 (shapeCast S32x64 a shapeCasts_S32x1x64_S32x64)⟩,
    ⟨S1x32x64, broadcastInDim S1x32x64 ![1, 2] bcast_S32x64_S1x32x64_1_2 (shapeCast S32x64 b shapeCasts_S32x1x64_S32x64)⟩] concatenates_S1x32x64_S1x32x64_S2x32x64_d0

def knr (yr yi : FVec Ideal S2x32x64 .f32) : FVec Ideal S2x32x64 .f32 :=
  subf (stack (firstRe 0 yr yi) (firstRe 1 yr yi)) (broadcastInDim S2x32x64 ![] bcast_S_S2x32x64 (constant S_ .f32 0x3F800000#32 : FVec Ideal S_ .f32))
def kni (yr yi : FVec Ideal S2x32x64 .f32) : FVec Ideal S2x32x64 .f32 := stack (firstIm 0 yr yi) (firstIm 1 yr yi)

def plain (x : FVec Ideal S1x2x32x64 .f32) : FVec Ideal S2x32x64 .f32 := shapeCast S2x32x64 x shapeCasts_S1x2x32x64_S2x32x64

def kden (x0 x1 : FVec Ideal S1x2x32x64 .f32) : FVec Ideal S2x32x64 .f32 := addf (mulf (plain x0) (plain x0)) (mulf (plain x1) (plain x1))

variable (x0 x1 : FVec Ideal S1x2x32x64 .f32) (x2 : FVec Ideal S1x2x32 .f32) (x3 x4 : FVec Ideal S1x2x32x64x16 .f32) (x5 x6 : FVec Ideal S1x2x32x16x64 .f32)

def kqr : FVec Ideal S2x32x64 .f32 :=
  Host.divf (addf (mulf (knr (kex x0 x2) (kex x1 x2)) (plain x0)) (mulf (kni (kex x0 x2) (kex x1 x2)) (plain x1))) (kden x0 x1)
def kqi : FVec Ideal S2x32x64 .f32 :=
  Host.divf (subf (mulf (kni (kex x0 x2) (kex x1 x2)) (plain x0)) (mulf (knr (kex x0 x2) (kex x1 x2)) (plain x1))) (kden x0 x1)

/-- A factor repeated along the channels. -/
def wideq (q : FVec Ideal S2x32x64 .f32) : FVec Ideal S2x32x64x16 .f32 :=
  broadcastInDim S2x32x64x16 ![0, 1, 2, 3] bcast_S2x32x64x1_S2x32x64x16_0_1_2_3 (broadcastInDim S2x32x64x1 ![0, 1, 2] bcast_S2x32x64_S2x32x64x1_0_1_2 q)

def plainb (x : FVec Ideal S1x2x32x64x16 .f32) : FVec Ideal S2x32x64x16 .f32 := shapeCast S2x32x64x16 x shapeCasts_S1x2x32x64x16_S2x32x64x16

def kbr : FVec Ideal S2x32x64x16 .f32 := subf (mulf (wideq (kqr x0 x1 x2)) (plainb x3)) (mulf (wideq (kqi x0 x1 x2)) (plainb x4))
def kbi : FVec Ideal S2x32x64x16 .f32 := addf (mulf (wideq (kqr x0 x1 x2)) (plainb x4)) (mulf (wideq (kqi x0 x1 x2)) (plainb x3))

/-- One direction's exponents at every distance, the distances read from the table `T`. -/
def at16 (T : FVec Ideal S32x16 .f32) (d : Fin 2) (y : FVec Ideal S2x32x64 .f32) : FVec Ideal S32x16x64 .f32 :=
  mulf (broadcastInDim S32x16x64 ![0, 1, 2] bcast_S32x1x64_S32x16x64_0_1_2 (dir d y))
    (broadcastInDim S32x16x64 ![0, 1, 2] bcast_S32x16x1_S32x16x64_0_1_2 (broadcastInDim S32x16x1 ![0, 1] bcast_S32x16_S32x16x1_0_1 T))

def kpr (T : FVec Ideal S32x16 .f32) (d : Fin 2) (yr yi : FVec Ideal S2x32x64 .f32) : FVec Ideal S32x16x64 .f32 :=
  mulf (Host.exp (at16 T d yr)) (Host.cos (at16 T d yi))
def kpi (T : FVec Ideal S32x16 .f32) (d : Fin 2) (yr yi : FVec Ideal S2x32x64 .f32) : FVec Ideal S32x16x64 .f32 :=
  mulf (Host.exp (at16 T d yr)) (Host.sin (at16 T d yi))

/-- One direction of the output matrix, repeated along the distances. -/
def outc (d : Fin 2) (x : FVec Ideal S1x2x32x16x64 .f32) : FVec Ideal S32x16x16x64 .f32 :=
  broadcastInDim S32x16x16x64 ![0, 1, 2, 3] bcast_S32x1x16x64_S32x16x16x64_0_1_2_3 (broadcastInDim S32x1x16x64 ![0, 2, 3] bcast_S32x16x64_S32x1x16x64_0_2_3
    (shapeCast S32x16x64 (extractStridedSlice S1x32x16x64 ![d.val, 0, 0, 0] (shapeCast S2x32x16x64 x shapeCasts_S1x2x32x16x64_S2x32x16x64) (cutc d)) shapeCasts_S1x32x16x64_S32x16x64))

/-- A power repeated along the channels. -/
def widep (p : FVec Ideal S32x16x64 .f32) : FVec Ideal S32x16x16x64 .f32 :=
  broadcastInDim S32x16x16x64 ![0, 1, 2, 3] bcast_S32x16x1x64_S32x16x16x64_0_1_2_3 (broadcastInDim S32x16x1x64 ![0, 1, 3] bcast_S32x16x64_S32x16x1x64_0_1_3 p)

def kwr (T : FVec Ideal S32x16 .f32) (d : Fin 2) : FVec Ideal S32x16x16x64 .f32 :=
  subf (mulf (outc d x5) (widep (kpr T d (kex x0 x2) (kex x1 x2)))) (mulf (outc d x6) (widep (kpi T d (kex x0 x2) (kex x1 x2))))
def kwi (T : FVec Ideal S32x16 .f32) (d : Fin 2) : FVec Ideal S32x16x16x64 .f32 :=
  addf (mulf (outc d x5) (widep (kpi T d (kex x0 x2) (kex x1 x2)))) (mulf (outc d x6) (widep (kpr T d (kex x0 x2) (kex x1 x2))))

/-- One direction of the input matrix. -/
def dirb (d : Fin 2) (b : FVec Ideal S2x32x64x16 .f32) : FVec Ideal S32x64x16 .f32 :=
  shapeCast S32x64x16 (extractStridedSlice S1x32x64x16 ![d.val, 0, 0, 0] b (cutb d)) shapeCasts_S1x32x64x16_S32x64x16

def kresp (T : FVec Ideal S32x16 .f32) (d : Fin 2) : FVec Ideal S32x16x16x16 .f32 :=
  subf (Host.dotGeneral dot_S32x16x16x64_S32x64x16_S32x16x16x16_3_1_12_2_0_0 (some .fp32) (kwr x0 x1 x2 x5 x6 T d) (dirb d (kbr x0 x1 x2 x3 x4)))
    (Host.dotGeneral dot_S32x16x16x64_S32x64x16_S32x16x16x16_3_1_12_2_0_0 (some .fp32) (kwi x0 x1 x2 x5 x6 T d) (dirb d (kbi x0 x1 x2 x3 x4)))

/-! ### At an index -/

theorem kex_apply (x : FVec Ideal S1x2x32x64 .f32) (d : Fin 2) (g : Fin 32) (p : Fin 64) : kex x x2 (ix3 d g p) = ex x x2 d g p := by
  pointwise [kex, ex]

theorem dir_apply (d : Fin 2) (y : FVec Ideal S2x32x64 .f32) (g : Fin 32) (p : Fin 64) : dir d y (ix3 g 0 p) = y (ix3 d g p) := by
  fin_cases d <;> pointwise [dir]

theorem one_apply (g : Fin 32) (p : Fin 64) : one (ix3 g 0 p) = 1 := by
  pointwise [one]

theorem firstRe_apply (d : Fin 2) (yr yi : FVec Ideal S2x32x64 .f32) (g : Fin 32) (p : Fin 64) :
    firstRe d yr yi (ix3 g 0 p) = Ideal.exp (yr (ix3 d g p)) * Ideal.cos (yi (ix3 d g p)) := by
  pointwise [firstRe]
  rw [dir_apply, dir_apply, one_apply, mul_one, mul_one]

theorem firstIm_apply (d : Fin 2) (yr yi : FVec Ideal S2x32x64 .f32) (g : Fin 32) (p : Fin 64) :
    firstIm d yr yi (ix3 g 0 p) = Ideal.exp (yr (ix3 d g p)) * Ideal.sin (yi (ix3 d g p)) := by
  pointwise [firstIm]
  rw [dir_apply, dir_apply, one_apply, mul_one, mul_one]

theorem stack_apply (a b : FVec Ideal S32x1x64 .f32) (d : Fin 2) (g : Fin 32) (p : Fin 64) :
    stack a b (ix3 d g p) = if d = 0 then a (ix3 g 0 p) else b (ix3 g 0 p) := by
  fin_cases d <;> pointwise [stack]

theorem knr_apply (yr yi : FVec Ideal S2x32x64 .f32) (d : Fin 2) (g : Fin 32) (p : Fin 64) :
    knr yr yi (ix3 d g p) = Ideal.exp (yr (ix3 d g p)) * Ideal.cos (yi (ix3 d g p)) - 1 := by
  pointwise [knr]
  rw [stack_apply, firstRe_apply, firstRe_apply]
  fin_cases d <;> rfl

theorem kni_apply (yr yi : FVec Ideal S2x32x64 .f32) (d : Fin 2) (g : Fin 32) (p : Fin 64) :
    kni yr yi (ix3 d g p) = Ideal.exp (yr (ix3 d g p)) * Ideal.sin (yi (ix3 d g p)) := by
  unfold kni
  rw [stack_apply, firstIm_apply, firstIm_apply]
  fin_cases d <;> rfl

theorem plain_apply (x : FVec Ideal S1x2x32x64 .f32) (d : Fin 2) (g : Fin 32) (p : Fin 64) : plain x (ix3 d g p) = x (ix4 0 d g p) := by
  pointwise [plain]

theorem kqr_apply (d : Fin 2) (g : Fin 32) (p : Fin 64) : kqr x0 x1 x2 (ix3 d g p) = qr x0 x1 x2 d g p := by
  pointwise [kqr, kden]
  rw [knr_apply, kni_apply, plain_apply, plain_apply, kex_apply, kex_apply]
  rfl

theorem kqi_apply (d : Fin 2) (g : Fin 32) (p : Fin 64) : kqi x0 x1 x2 (ix3 d g p) = qi x0 x1 x2 d g p := by
  pointwise [kqi, kden]
  rw [knr_apply, kni_apply, plain_apply, plain_apply, kex_apply, kex_apply]
  rfl

theorem wideq_apply (q : FVec Ideal S2x32x64 .f32) (d : Fin 2) (g : Fin 32) (p : Fin 64) (e : Fin 16) : wideq q (ix4 d g p e) = q (ix3 d g p) := by
  pointwise [wideq]

theorem plainb_apply (x : FVec Ideal S1x2x32x64x16 .f32) (d : Fin 2) (g : Fin 32) (p : Fin 64) (e : Fin 16) : plainb x (ix4 d g p e) = x (ix5 0 d g p e) := by
  pointwise [plainb]

theorem kbr_apply (d : Fin 2) (g : Fin 32) (p : Fin 64) (e : Fin 16) : kbr x0 x1 x2 x3 x4 (ix4 d g p e) = br x0 x1 x2 x3 x4 d g p e := by
  pointwise [kbr]
  rw [wideq_apply, wideq_apply, plainb_apply, plainb_apply, kqr_apply, kqi_apply]
  rfl

theorem kbi_apply (d : Fin 2) (g : Fin 32) (p : Fin 64) (e : Fin 16) : kbi x0 x1 x2 x3 x4 (ix4 d g p e) = bi x0 x1 x2 x3 x4 d g p e := by
  pointwise [kbi]
  rw [wideq_apply, wideq_apply, plainb_apply, plainb_apply, kqr_apply, kqi_apply]
  rfl

theorem at16_apply (T : FVec Ideal S32x16 .f32) (d : Fin 2) (y : FVec Ideal S2x32x64 .f32) (g : Fin 32) (k : Fin 16) (p : Fin 64) :
    at16 T d y (ix3 g k p) = y (ix3 d g p) * T (ix2 g k) := by
  pointwise [at16]
  rw [dir_apply]

theorem kpr_apply (T : FVec Ideal S32x16 .f32) (d : Fin 2) (yr yi : FVec Ideal S2x32x64 .f32) (g : Fin 32) (k : Fin 16) (p : Fin 64) :
    kpr T d yr yi (ix3 g k p) = Ideal.exp (yr (ix3 d g p) * T (ix2 g k)) * Ideal.cos (yi (ix3 d g p) * T (ix2 g k)) := by
  pointwise [kpr]
  rw [at16_apply, at16_apply]

theorem kpi_apply (T : FVec Ideal S32x16 .f32) (d : Fin 2) (yr yi : FVec Ideal S2x32x64 .f32) (g : Fin 32) (k : Fin 16) (p : Fin 64) :
    kpi T d yr yi (ix3 g k p) = Ideal.exp (yr (ix3 d g p) * T (ix2 g k)) * Ideal.sin (yi (ix3 d g p) * T (ix2 g k)) := by
  pointwise [kpi]
  rw [at16_apply, at16_apply]

theorem outc_apply (d : Fin 2) (x : FVec Ideal S1x2x32x16x64 .f32) (g : Fin 32) (k c : Fin 16) (p : Fin 64) : outc d x (ix4 g k c p) = x (ix5 0 d g c p) := by
  fin_cases d <;> pointwise [outc]

theorem widep_apply (q : FVec Ideal S32x16x64 .f32) (g : Fin 32) (k c : Fin 16) (p : Fin 64) : widep q (ix4 g k c p) = q (ix3 g k p) := by
  pointwise [widep]

theorem dirb_apply (d : Fin 2) (b : FVec Ideal S2x32x64x16 .f32) (g : Fin 32) (p : Fin 64) (e : Fin 16) : dirb d b (ix3 g p e) = b (ix4 d g p e) := by
  fin_cases d <;> pointwise [dirb]

variable (T : FVec Ideal S32x16 .f32) (hT : ∀ (g : Fin 32) (k : Fin 16), T (ix2 g k) = num k)

include hT

theorem kwr_apply (d : Fin 2) (g : Fin 32) (k c : Fin 16) (p : Fin 64) : kwr x0 x1 x2 x5 x6 T d (ix4 g k c p) = wr x0 x1 x2 x5 x6 d g k c p := by
  pointwise [kwr]
  rw [outc_apply, outc_apply, widep_apply, widep_apply, kpr_apply, kpi_apply, kex_apply, kex_apply, hT]
  rfl

theorem kwi_apply (d : Fin 2) (g : Fin 32) (k c : Fin 16) (p : Fin 64) : kwi x0 x1 x2 x5 x6 T d (ix4 g k c p) = wi x0 x1 x2 x5 x6 d g k c p := by
  pointwise [kwi]
  rw [outc_apply, outc_apply, widep_apply, widep_apply, kpr_apply, kpi_apply, kex_apply, kex_apply, hT]
  rfl

theorem kresp_apply (d : Fin 2) (g : Fin 32) (k c e : Fin 16) : kresp x0 x1 x2 x3 x4 x5 x6 T d (ix4 g k c e) = resp x0 x1 x2 x3 x4 x5 x6 d g k c e := by
  pointwise [kresp, dot_S32x16x16x64_S32x64x16_S32x16x16x16_3_1_12_2_0_0]
  simp only [kwr_apply x0 x1 x2 x5 x6 T hT, kwi_apply x0 x1 x2 x5 x6 T hT, dirb_apply, kbr_apply, kbi_apply]
  rfl

end Kernel

end Cert.Resp

end
-- ==== Proof.Strip.lean ====
/- The S5 scan's intra-chunk table: what the kernel body stores for a group, at an index, in terms of the group's
   responses and feed-through. The body's text for a group is stated once, for any group. -/
module

public import proofs.«01_k».proof.Proof.Gen.Kernel8Ideal.Frame
public import Idealize.ShloMosaic.Lib.Pointwise
public import Idealize.ShloMosaic.Lib.Pipeline.Value

@[expose] public section

set_option maxRecDepth 65536

noncomputable section

namespace Cert.Strip

open Idealize.ShloMosaic Cert.Kernel8Ideal Cert.Kernel8Ideal.Gen

variable {F : FTy → Type} [FloatOps F]

/-! ## The body's text for one group -/

/-- The lane numbers. -/
def lane : IVec S16x512 32 := iota .tc S16x512 32 [1] iota_S16x512_d1_w32

/-- The row numbers. -/
def chan : IVec S16x512 32 := iota .tc S16x512 32 [0] iota_S16x512_d0_w32

/-- The lane number divided by sixteen, rounding down. -/
def laneDiv : IVec S16x512 32 :=
  select (andi (cmpi .ne (subi (extui 32 (cmpi .sgt lane (broadcast S16x512 0#32)) natLt_1_32) (extui 32 (cmpi .slt lane (broadcast S16x512 0#32)) natLt_1_32))
        (broadcast S16x512 (Scalar.subi (Scalar.extui (Scalar.cmpi .sgt 16#32 0#32)) (Scalar.extui (Scalar.cmpi .slt 16#32 0#32)))))
      (cmpi .ne (remsi lane (broadcast S16x512 16#32)) (broadcast S16x512 0#32)))
    (subi (divsi lane (broadcast S16x512 16#32)) (broadcast S16x512 1#32)) (divsi lane (broadcast S16x512 16#32))

/-- The divisor of the remainder. -/
def sixteen : BitVec 32 := Scalar.select (Scalar.cmpi .eq 16#32 0#32) 1#32 16#32

/-- The lane number's remainder by sixteen. -/
def laneMod : IVec S16x512 32 :=
  select (andi (xori (cmpi .slt (remsi lane (broadcast S16x512 sixteen)) (broadcast S16x512 0#32))
        (broadcastTo S16x512 (broadcast S16x512 (Scalar.cmpi .slt sixteen 0#32)) broadcasts_S16x512_S16x512))
      (cmpi .ne (remsi lane (broadcast S16x512 sixteen)) (broadcast S16x512 0#32)))
    (addi (remsi lane (broadcast S16x512 sixteen)) (broadcast S16x512 sixteen)) (remsi lane (broadcast S16x512 sixteen))

/-- A sum with its copy `n` lanes on. -/
def double (n : BitVec 32) (x : FVec F S512x128 .f32) : FVec F S512x128 .f32 :=
  addf x (dynamicRotate 1 n none x rotates_S512x128_d1)

/-- The group's responses, repeated every sixteen lanes. -/
def wide (x : Vec F S1x512x128 .f32) : FVec F S512x512 .f32 :=
  let y := double 64#32 (double 32#32 (double 16#32 (shapeCast S512x128 x shapeCasts_S1x512x128_S512x128)))
  concatenate S512x512 1 [⟨S512x128, y⟩, ⟨S512x128, y⟩, ⟨S512x128, y⟩, ⟨S512x128, y⟩] concatenates_S512x128_S512x128_S512x128_S512x128_S512x512_d1

/-- The zero distance: both directions and the feed-through. -/
def first (k : FVec F S512x512 .f32) (d : Vec F S1x1x512 .f32) : FVec F S16x512 .f32 :=
  addf (addf (extractStridedSlice S16x512 ![0, 0] k slices_S512x512_o0_0_S16x512) (extractStridedSlice S16x512 ![256, 0] k slices_S512x512_o256_0_S16x512))
    (select (cmpi .eq chan laneMod)
      (broadcastTo S16x512 (shapeCast S1x512 (shapeCast S1x512 d shapeCasts_S1x1x512_S1x512) shapeCasts_S1x512_S1x512) broadcasts_S1x512_S16x512)
      (broadcast S16x512 (Scalar.ofBits .f32 0x00000000#32)))

/-- The row at which the response for the run of lanes `j` begins: forward distances up to run fourteen, backward ones after. -/
def place (j : Nat) : Nat := if j < 15 then 16 * (15 - j) else 16 * (j + 1)

theorem place_le (j : Fin 31) : place j.val + 16 ≤ 512 := by revert j; decide

theorem slices_at (j : Fin 31) : S512x512.Slices ![place j.val, 0] S16x512 := by revert j; decide

/-- The response for the run of lanes `j` put into the strip. -/
def put (k : FVec F S512x512 .f32) (s : FVec F S16x512 .f32) (j : Fin 31) : FVec F S16x512 .f32 :=
  select (cmpi .eq laneDiv (broadcast S16x512 (BitVec.ofNat 32 j.val))) (extractStridedSlice S16x512 ![place j.val, 0] k (slices_at j)) s

/-- The runs in the order in which the body puts them. -/
def runs : List (Fin 31) := [0, 1, 2, 3, 4, 5, 6, 7, 8, 9, 10, 11, 12, 13, 14, 16, 17, 18, 19, 20, 21, 22, 23, 24, 25, 26, 27, 28, 29, 30]

def strip (k : FVec F S512x512 .f32) (d : Vec F S1x1x512 .f32) : FVec F S16x512 .f32 := runs.foldl (put k) (first k d)

/-- The token in slot `l` of a chunk, seen from group `o`. -/
def tok (o l : Nat) : Nat := 8 * (l / 8) + (l % 8 + 8 - o) % 8

theorem tok_lt (o l : Nat) (h : l < 16) : tok o l < 16 := by unfold tok; omega

/-- The strip from the lane at which the row of slot `l` begins. -/
def window (o : Nat) (s : FVec F S16x512 .f32) (l : Fin 16) : FVec F S16x256 .f32 :=
  if tok o l.val = 15 then extractStridedSlice S16x256 ![0, 0] s slices_S16x512_o0_0_S16x256
  else extractStridedSlice S16x256 ![0, 0] (dynamicRotate 1 (BitVec.ofNat 32 (272 + 16 * tok o l.val)) none s rotates_S16x512_d1) slices_S16x512_o0_0_S16x256

theorem cats (o : Nat) (s : FVec F S16x512 .f32) :
    Shape.Concatenates ((List.ofFn fun l : Fin 16 => (⟨S16x256, window o s l⟩ : (s : Shape) × (s.Idx → F .f32))).map (·.1)) S256x256 0 := by
  rw [List.map_ofFn]
  show Shape.Concatenates (List.ofFn fun _ : Fin 16 => S16x256) S256x256 0
  decide

def rows (o : Nat) (s : FVec F S16x512 .f32) : FVec F S256x256 .f32 :=
  concatenate S256x256 0 (List.ofFn fun l : Fin 16 => (⟨S16x256, window o s l⟩ : (s : Shape) × (s.Idx → F .f32))) (cats o s)

/-- Each half of the lanes turned by the group's number of slots. -/
def turn (o : Nat) (x : FVec F S256x256 .f32) : FVec F S256x256 .f32 :=
  if o = 0 then x
  else concatenate S256x256 1 [⟨S256x128, dynamicRotate 1 (BitVec.ofNat 32 (16 * o)) none (extractStridedSlice S256x128 ![0, 0] x slices_S256x256_o0_0_S256x128) rotates_S256x128_d1⟩,
    ⟨S256x128, dynamicRotate 1 (BitVec.ofNat 32 (16 * o)) none (extractStridedSlice S256x128 ![0, 128] x slices_S256x256_o0_128_S256x128) rotates_S256x128_d1⟩]
    concatenates_S256x128_S256x128_S256x256_d1

/-- What the body stores for group `o` of a grid point. -/
def group (o : Nat) (x : Vec F S1x512x128 .f32) (d : Vec F S1x1x512 .f32) : Vec F S1x256x256 .bf16 :=
  shapeCast S1x256x256 (truncf .bf16 (transpose S256x256 [1, 0] (turn o (rows o (strip (wide x) d))) transposes_S256x256_p1_0_S256x256) bitsLt_bf16_f32)
    shapeCasts_S256x256_S1x256x256

set_option maxHeartbeats 64000000 in
/-- The body's stores, one per group. -/
theorem out_eq (x0 : Vec F S8x512x128 .f32) (x1 : Vec F S8x1x512 .f32) :
    out0_2 x0 x1 = View.canon [⟨r0_23, group 7 (View.ld x0 r0_21) (View.ld x1 r0_22)⟩, ⟨r0_20, group 6 (View.ld x0 r0_18) (View.ld x1 r0_19)⟩,
      ⟨r0_17, group 5 (View.ld x0 r0_15) (View.ld x1 r0_16)⟩, ⟨r0_14, group 4 (View.ld x0 r0_12) (View.ld x1 r0_13)⟩,
      ⟨r0_11, group 3 (View.ld x0 r0_9) (View.ld x1 r0_10)⟩, ⟨r0_8, group 2 (View.ld x0 r0_6) (View.ld x1 r0_7)⟩,
      ⟨r0_5, group 1 (View.ld x0 r0_3) (View.ld x1 r0_4)⟩, ⟨r0_2, group 0 (View.ld x0 r0_0) (View.ld x1 r0_1)⟩] := by
  unfold out0_2
  refine congrArg View.canon ?_
  refine congrArg₂ List.cons (congrArg (Sigma.mk r0_23) ?_) ?_
  · rfl
  refine congrArg₂ List.cons (congrArg (Sigma.mk r0_20) ?_) ?_
  · rfl
  refine congrArg₂ List.cons (congrArg (Sigma.mk r0_17) ?_) ?_
  · rfl
  refine congrArg₂ List.cons (congrArg (Sigma.mk r0_14) ?_) ?_
  · rfl
  refine congrArg₂ List.cons (congrArg (Sigma.mk r0_11) ?_) ?_
  · rfl
  refine congrArg₂ List.cons (congrArg (Sigma.mk r0_8) ?_) ?_
  · rfl
  refine congrArg₂ List.cons (congrArg (Sigma.mk r0_5) ?_) ?_
  · rfl
  refine congrArg₂ List.cons (congrArg (Sigma.mk r0_2) ?_) ?_
  · rfl
  rfl

end Cert.Strip

end
-- ==== Proof.StripVal.lean ====
/- The intra-chunk table's entries: what the body stores for a group, at an index, over the extended reals. -/
module

public import proofs.«01_k».proof.Proof.Strip
public import Idealize.ShloMosaic.Lib.KernelVsHost

@[expose] public section

noncomputable section

namespace Cert.Strip

open Idealize.ShloMosaic Cert.Kernel8Ideal Cert.Kernel8Ideal.Gen

/-! ## A slice and a turn along the lanes, at an index -/

theorem slice2 {α : Type} {A B P Q : Nat} (o0 o1 : Nat) (x : (⟨2, ![A, B]⟩ : Shape).Idx → α) (h : (⟨2, ![A, B]⟩ : Shape).Slices ![o0, o1] ⟨2, ![P, Q]⟩)
    (p : Fin P) (q : Fin Q) (a : Fin A) (b : Fin B) (ha : a.val = o0 + p.val) (hb : b.val = o1 + q.val) :
    extractStridedSlice ⟨2, ![P, Q]⟩ ![o0, o1] x h (ix2 p q) = x (ix2 a b) :=
  extractStridedSlice_apply _ _ _ _ _ (fun i => match i with
    | ⟨0, _⟩ => ha
    | ⟨1, _⟩ => hb)

theorem rot2 {α : Type} {A B : Nat} (n : Nat) (hn : n < 2 ^ 32) (x : (⟨2, ![A, B]⟩ : Shape).Idx → α) (h : (⟨2, ![A, B]⟩ : Shape).Rotates (1 : Fin 2) none)
    (p : Fin A) (q b : Fin B) (hb : b.val = (q.val + B - n % B) % B) :
    dynamicRotate (1 : Fin 2) (BitVec.ofNat 32 n) none x h (ix2 p q) = x (ix2 p b) :=
  dynamicRotate_apply _ _ _ _ _ _ (fun i => match i with
    | ⟨0, _⟩ => rfl
    | ⟨1, _⟩ => by
      show b.val = (q.val + B - (BitVec.ofNat 32 n).toNat % B) % B
      rw [BitVec.toNat_ofNat, Nat.mod_eq_of_lt hn]; exact hb)

/-! ## The two masks -/

theorem laneDiv_apply (c : Fin 16) (y : Fin 512) : laneDiv (ix2 c y) = BitVec.ofNat 32 (y.val / 16) := by
  have h : ∀ y : Fin 512, laneDiv (ix2 (0 : Fin 16) y) = BitVec.ofNat 32 (y.val / 16) := by decide +kernel
  exact (show laneDiv (ix2 c y) = laneDiv (ix2 (0 : Fin 16) y) from rfl).trans (h y)

theorem laneMod_apply (c : Fin 16) (y : Fin 512) : laneMod (ix2 c y) = BitVec.ofNat 32 (y.val % 16) := by
  have h : ∀ y : Fin 512, laneMod (ix2 (0 : Fin 16) y) = BitVec.ofNat 32 (y.val % 16) := by decide +kernel
  exact (show laneMod (ix2 c y) = laneMod (ix2 (0 : Fin 16) y) from rfl).trans (h y)

theorem chan_apply (c : Fin 16) (y : Fin 512) : chan (ix2 c y) = BitVec.ofNat 32 c.val := by
  have h : ∀ c : Fin 16, chan (ix2 c (0 : Fin 512)) = BitVec.ofNat 32 c.val := by decide +kernel
  exact (show chan (ix2 c y) = chan (ix2 c (0 : Fin 512)) from rfl).trans (h c)

theorem same_iff (p q : Fin 32) : IntOp.cmpi .eq (BitVec.ofNat 32 p.val) (BitVec.ofNat 32 q.val) = 1 ↔ p.val = q.val := by
  revert p q; decide +kernel

/-! ## The strip -/

variable (k : FVec Ideal S512x512 .f32) (d : Vec Ideal S1x1x512 .f32)

theorem put_apply (s : FVec Ideal S16x512 .f32) (j : Fin 31) (c : Fin 16) (y : Fin 512) :
    put k s j (ix2 c y) = if y.val / 16 = j.val then k (ix2 ⟨place j.val + c.val, by have := place_le j; omega⟩ y) else s (ix2 c y) := by
  have e : extractStridedSlice S16x512 ![place j.val, 0] k (slices_at j) (ix2 c y)
      = k (ix2 ⟨place j.val + c.val, by have := place_le j; omega⟩ y) :=
    slice2 _ _ _ _ _ _ _ _ rfl (Nat.zero_add _).symm
  have i := same_iff ⟨y.val / 16, by omega⟩ ⟨j.val, by omega⟩
  show Scalar.select (IntOp.cmpi .eq (laneDiv (ix2 c y)) (BitVec.ofNat 32 j.val)) (extractStridedSlice S16x512 ![place j.val, 0] k (slices_at j) (ix2 c y)) (s (ix2 c y)) = _
  rw [laneDiv_apply, e]
  unfold Scalar.select
  by_cases h : y.val / 16 = j.val
  · rw [if_pos h, if_pos (i.mpr h)]
  · rw [if_neg h, if_neg (fun q => h (i.mp q))]

theorem fold_miss (c : Fin 16) (y : Fin 512) : ∀ (L : List (Fin 31)) (s : FVec Ideal S16x512 .f32) (_ : ∀ j ∈ L, y.val / 16 ≠ j.val),
    L.foldl (put k) s (ix2 c y) = s (ix2 c y)
  | [], s, _ => rfl
  | a :: L, s, h => by
    rw [List.foldl_cons, fold_miss c y L _ (fun j hj => h j (List.mem_cons_of_mem _ hj)), put_apply, if_neg (h a List.mem_cons_self)]

theorem fold_hit (c : Fin 16) (y : Fin 512) (j : Fin 31) (hy : y.val / 16 = j.val) : ∀ (L : List (Fin 31)) (s : FVec Ideal S16x512 .f32) (_ : j ∈ L),
    L.foldl (put k) s (ix2 c y) = k (ix2 ⟨place j.val + c.val, by have := place_le j; omega⟩ y)
  | [], s, h => absurd h (by simp)
  | a :: L, s, h => by
    rw [List.foldl_cons]
    by_cases hm : j ∈ L
    · exact fold_hit c y j hy L _ hm
    · obtain rfl : j = a := (List.mem_cons.mp h).resolve_right hm
      rw [fold_miss k c y L _ (fun j' hj' e => hm ((Fin.ext (hy.symm.trans e) : j = j') ▸ hj')), put_apply, if_pos hy]

theorem strip_off (c : Fin 16) (y : Fin 512) (j : Fin 31) (hy : y.val / 16 = j.val) (hj : j.val ≠ 15) :
    strip k d (ix2 c y) = k (ix2 ⟨place j.val + c.val, by have := place_le j; omega⟩ y) :=
  fold_hit k c y j hy runs _ ((by decide : ∀ j : Fin 31, j.val ≠ 15 → j ∈ runs) j hj)

theorem strip_mid (c : Fin 16) (y : Fin 512) (hy : y.val / 16 = 15) : strip k d (ix2 c y)
    = k (ix2 ⟨c.val, by omega⟩ y) + k (ix2 ⟨256 + c.val, by omega⟩ y) + if c.val = y.val % 16 then d (ix3 0 0 y) else 0 := by
  refine (fold_miss k c y runs _ (fun j hj => by rw [hy]; exact ((by decide : ∀ j ∈ runs, 15 ≠ j.val) j hj))).trans ?_
  have e0 : extractStridedSlice S16x512 ![0, 0] k slices_S512x512_o0_0_S16x512 (ix2 c y) = k (ix2 ⟨c.val, by omega⟩ y) :=
    slice2 _ _ _ _ _ _ _ _ (Nat.zero_add _).symm (Nat.zero_add _).symm
  have e1 : extractStridedSlice S16x512 ![256, 0] k slices_S512x512_o256_0_S16x512 (ix2 c y) = k (ix2 ⟨256 + c.val, by omega⟩ y) :=
    slice2 _ _ _ _ _ _ _ _ rfl (Nat.zero_add _).symm
  have e2 : (broadcastTo S16x512 (shapeCast S1x512 (shapeCast S1x512 d shapeCasts_S1x1x512_S1x512) shapeCasts_S1x512_S1x512) broadcasts_S1x512_S16x512
      : FVec Ideal S16x512 .f32) (ix2 c y) = d (ix3 0 0 y) := by pointwise
  have e3 : (broadcast S16x512 (Scalar.ofBits .f32 0x00000000#32) : FVec Ideal S16x512 .f32) (ix2 c y) = 0 := by pointwise
  have i := same_iff ⟨c.val, by omega⟩ ⟨y.val % 16, by omega⟩
  show extractStridedSlice S16x512 ![0, 0] k slices_S512x512_o0_0_S16x512 (ix2 c y) + extractStridedSlice S16x512 ![256, 0] k slices_S512x512_o256_0_S16x512 (ix2 c y)
    + Scalar.select (IntOp.cmpi .eq (chan (ix2 c y)) (laneMod (ix2 c y)))
      ((broadcastTo S16x512 (shapeCast S1x512 (shapeCast S1x512 d shapeCasts_S1x1x512_S1x512) shapeCasts_S1x512_S1x512) broadcasts_S1x512_S16x512
        : FVec Ideal S16x512 .f32) (ix2 c y)) ((broadcast S16x512 (Scalar.ofBits .f32 0x00000000#32) : FVec Ideal S16x512 .f32) (ix2 c y)) = _
  rw [e0, e1, e2, e3, chan_apply, laneMod_apply]
  unfold Scalar.select
  by_cases h : c.val = y.val % 16
  · rw [if_pos h, if_pos (i.mpr h)]
  · rw [if_neg h, if_neg (fun q => h (i.mp q))]

/-! ## The responses repeated along the lanes -/

/-- `w` is `g` repeated every sixteen lanes, below lane `n`, and zero from there on. -/
def Rep (n : Nat) (w : FVec Ideal S512x128 .f32) (g : Fin 512 → Fin 16 → EReal) : Prop :=
  ∀ (a : Fin 512) (l : Fin 128), w (ix2 a l) = if l.val < n then g a ⟨l.val % 16, by omega⟩ else 0

theorem double_apply (n : Nat) (hn : n < 128) (w : FVec Ideal S512x128 .f32) (a : Fin 512) (l : Fin 128) :
    double (BitVec.ofNat 32 n) w (ix2 a l) = w (ix2 a l) + w (ix2 a ⟨(l.val + 128 - n) % 128, by omega⟩) := by
  show w (ix2 a l) + dynamicRotate 1 (BitVec.ofNat 32 n) none w rotates_S512x128_d1 (ix2 a l) = _
  refine congrArg (w (ix2 a l) + ·) (rot2 n (by omega) w _ a l _ ?_)
  show (l.val + 128 - n) % 128 = (l.val + 128 - n % 128) % 128
  rw [Nat.mod_eq_of_lt hn]

theorem rep_double (n : Nat) (hn : n ≤ 64) (h16 : n % 16 = 0) (w : FVec Ideal S512x128 .f32) (g : Fin 512 → Fin 16 → EReal) (h : Rep n w g) :
    Rep (2 * n) (double (BitVec.ofNat 32 n) w) g := by
  intro a l
  rw [double_apply n (by omega), h a l, h a]
  by_cases h1 : l.val < n
  · have h2 : ¬ (l.val + 128 - n) % 128 < n := by omega
    rw [if_pos h1, if_neg h2, if_pos (by omega), add_zero]
  · by_cases h3 : l.val < 2 * n
    · have h2 : (l.val + 128 - n) % 128 < n := by omega
      rw [if_neg h1, if_pos h2, if_pos h3, zero_add]
      exact congrArg (g a) (Fin.ext (show (l.val + 128 - n) % 128 % 16 = l.val % 16 by omega))
    · have h2 : ¬ (l.val + 128 - n) % 128 < n := by omega
      rw [if_neg h1, if_neg h2, if_neg h3, add_zero]

theorem wide_apply (x : Vec Ideal S1x512x128 .f32) (hx : ∀ (a : Fin 512) (l : Fin 128), 16 ≤ l.val → x (ix3 0 a l) = 0) (a y : Fin 512) :
    wide x (ix2 a y) = x (ix3 0 a ⟨y.val % 16, by omega⟩) := by
  have h0 : Rep 16 (shapeCast S512x128 x shapeCasts_S1x512x128_S512x128 : FVec Ideal S512x128 .f32) (fun a l => x (ix3 0 a ⟨l.val, by omega⟩)) := by
    intro a l
    have e : (shapeCast S512x128 x shapeCasts_S1x512x128_S512x128 : FVec Ideal S512x128 .f32) (ix2 a l) = x (ix3 0 a l) := by pointwise
    rw [e]
    by_cases h : l.val < 16
    · rw [if_pos h]
      exact congrArg (fun q => x (ix3 0 a q)) (Fin.ext (show l.val = l.val % 16 by omega))
    · rw [if_neg h, hx a l (by omega)]
  have h3 := rep_double 64 (by omega) (by omega) _ _ (rep_double 32 (by omega) (by omega) _ _ (rep_double 16 (by omega) (by omega) _ _ h0))
  refine (concatenate_ofFn_apply (t := S512x512) (s₁ := S512x128) 1 (fun _ : Fin 4 => double 64#32 (double 32#32 (double 16#32 (shapeCast S512x128 x shapeCasts_S1x512x128_S512x128 : FVec Ideal S512x128 .f32))))
    concatenates_S512x128_S512x128_S512x128_S512x128_S512x512_d1 rfl 128 rfl (ix2 a y) ⟨y.val / 128, by omega⟩ rfl
    (ix2 a ⟨y.val % 128, by omega⟩) rfl (fun b hb => ?_)).trans ?_
  · fin_cases b
    · rfl
    · exact absurd rfl hb
  · refine (h3 a ⟨y.val % 128, by omega⟩).trans ?_
    rw [if_pos (show y.val % 128 < 2 * 64 by omega)]
    exact congrArg (fun q => x (ix3 0 a q)) (Fin.ext (show y.val % 128 % 16 = y.val % 16 by omega))

/-! ## The rows and their turn -/

theorem window_apply (o : Nat) (s : FVec Ideal S16x512 .f32) (l c : Fin 16) (z : Fin 256) : window o s l (ix2 c z)
    = s (ix2 c ⟨z.val + 16 * (15 - tok o l.val), by omega⟩) := by
  have ht := tok_lt o l.val l.isLt
  unfold window
  by_cases h : tok o l.val = 15
  · rw [if_pos h]
    refine slice2 _ _ _ _ _ _ _ _ (Nat.zero_add _).symm ?_
    show z.val + 16 * (15 - tok o l.val) = 0 + z.val
    omega
  · rw [if_neg h]
    refine (slice2 0 0 _ _ c z c (⟨z.val, by omega⟩ : Fin 512) (Nat.zero_add _).symm (Nat.zero_add _).symm).trans (rot2 (272 + 16 * tok o l.val) (by omega) _ _ _ _ _ ?_)
    show z.val + 16 * (15 - tok o l.val) = (z.val + 512 - (272 + 16 * tok o l.val) % 512) % 512
    omega

theorem rows_apply (o : Nat) (s : FVec Ideal S16x512 .f32) (r z : Fin 256) : rows o s (ix2 r z)
    = s (ix2 ⟨r.val % 16, by omega⟩ ⟨z.val + 16 * (15 - tok o (r.val / 16)), by omega⟩) := by
  refine (concatenate_ofFn_apply (t := S256x256) (s₁ := S16x256) 0 (window o s) _ rfl 16 rfl (ix2 r z) ⟨r.val / 16, by omega⟩ rfl
    (ix2 ⟨r.val % 16, by omega⟩ z) rfl (fun b hb => ?_)).trans (window_apply o s _ _ _)
  fin_cases b
  · exact absurd rfl hb
  · rfl

theorem half_at (n : Fin 2) : S256x256.Slices ![0, 128 * n.val] S256x128 := by revert n; decide

theorem turn_apply (o : Fin 8) (x : FVec Ideal S256x256 .f32) (r z : Fin 256) : turn o.val x (ix2 r z)
    = x (ix2 r ⟨128 * (z.val / 128) + (z.val % 128 + 128 - 16 * o.val) % 128, by omega⟩) := by
  unfold turn
  by_cases h : o.val = 0
  · rw [if_pos h]
    exact congrArg (fun q => x (ix2 r q)) (Fin.ext (show z.val = 128 * (z.val / 128) + (z.val % 128 + 128 - 16 * o.val) % 128 by omega))
  · rw [if_neg h]
    refine (concatenate_ofFn_apply (t := S256x256) (s₁ := S256x128) 1
      (fun n : Fin 2 => dynamicRotate 1 (BitVec.ofNat 32 (16 * o.val)) none (extractStridedSlice S256x128 ![0, 128 * n.val] x (half_at n)) rotates_S256x128_d1)
      concatenates_S256x128_S256x128_S256x256_d1 rfl 128 rfl (ix2 r z) ⟨z.val / 128, by omega⟩ rfl
      (ix2 r ⟨z.val % 128, by omega⟩) rfl (fun b hb => ?_)).trans ?_
    · fin_cases b
      · rfl
      · exact absurd rfl hb
    · refine (rot2 (16 * o.val) (by omega) _ _ _ _ (⟨(z.val % 128 + 128 - 16 * o.val) % 128, by omega⟩ : Fin 128) ?_).trans
        (slice2 _ _ _ _ _ _ _ _ (Nat.zero_add _).symm rfl)
      show (z.val % 128 + 128 - 16 * o.val) % 128 = (z.val % 128 + 128 - 16 * o.val % 128) % 128
      omega

theorem group_apply (o : Fin 8) (x : Vec Ideal S1x512x128 .f32) (d : Vec Ideal S1x1x512 .f32) (r s : Fin 256) : group o.val x d (ix3 0 r s)
    = strip (wide x) d (ix2 ⟨s.val % 16, by omega⟩ ⟨16 * (tok o.val (r.val / 16) + 15 - tok o.val (s.val / 16)) + r.val % 16, by
        have := tok_lt o.val (r.val / 16) (by omega); omega⟩) := by
  have hr := tok_lt o.val (r.val / 16) (by omega)
  have hs := tok_lt o.val (s.val / 16) (by omega)
  have e : group o.val x d (ix3 0 r s) = turn o.val (rows o.val (strip (wide x) d)) (ix2 s r) := by
    pointwise [group]
  have f : 128 * (r.val / 128) + (r.val % 128 + 128 - 16 * o.val) % 128 = 16 * tok o.val (r.val / 16) + r.val % 16 := by
    unfold tok
    fin_cases o <;> (simp only []; omega)
  rw [e, turn_apply, rows_apply]
  refine congrArg (fun q => strip (wide x) d (ix2 ⟨s.val % 16, by omega⟩ q)) (Fin.ext ?_)
  show 128 * (r.val / 128) + (r.val % 128 + 128 - 16 * o.val) % 128 + 16 * (15 - tok o.val (s.val / 16)) = _
  rw [f]
  show _ = 16 * (tok o.val (r.val / 16) + 15 - tok o.val (s.val / 16)) + r.val % 16
  omega

/-! ## The stored group -/

variable (o : Fin 8) (x : Vec Ideal S1x512x128 .f32) (hx : ∀ (a : Fin 512) (l : Fin 128), 16 ≤ l.val → x (ix3 0 a l) = 0) (r s : Fin 256)

include hx

/-- A later token gets an earlier one through the forward response at their distance. -/
theorem group_fwd (n : Fin 16) (h : tok o.val (s.val / 16) = tok o.val (r.val / 16) + n.val) (hn : 0 < n.val) :
    group o.val x d (ix3 0 r s) = x (ix3 0 ⟨16 * n.val + s.val % 16, by omega⟩ ⟨r.val % 16, by omega⟩) := by
  have hr := tok_lt o.val (r.val / 16) (by omega)
  have hs := tok_lt o.val (s.val / 16) (by omega)
  rw [group_apply, strip_off _ _ _ _ ⟨15 - n.val, by omega⟩ (show (16 * (tok o.val (r.val / 16) + 15 - tok o.val (s.val / 16)) + r.val % 16) / 16 = 15 - n.val by omega)
    (show 15 - n.val ≠ 15 by omega), wide_apply x hx]
  refine congrArg₂ (fun p q => x (ix3 0 p q)) (Fin.ext ?_) (Fin.ext ?_)
  · show place (15 - n.val) + s.val % 16 = 16 * n.val + s.val % 16
    unfold place; rw [if_pos (by omega)]; omega
  · show (16 * (tok o.val (r.val / 16) + 15 - tok o.val (s.val / 16)) + r.val % 16) % 16 = r.val % 16
    omega

/-- An earlier token gets a later one through the backward response. -/
theorem group_bwd (n : Fin 16) (h : tok o.val (r.val / 16) = tok o.val (s.val / 16) + n.val) (hn : 0 < n.val) :
    group o.val x d (ix3 0 r s) = x (ix3 0 ⟨256 + 16 * n.val + s.val % 16, by omega⟩ ⟨r.val % 16, by omega⟩) := by
  have hr := tok_lt o.val (r.val / 16) (by omega)
  have hs := tok_lt o.val (s.val / 16) (by omega)
  rw [group_apply, strip_off _ _ _ _ ⟨15 + n.val, by omega⟩ (show (16 * (tok o.val (r.val / 16) + 15 - tok o.val (s.val / 16)) + r.val % 16) / 16 = 15 + n.val by omega)
    (show 15 + n.val ≠ 15 by omega), wide_apply x hx]
  refine congrArg₂ (fun p q => x (ix3 0 p q)) (Fin.ext ?_) (Fin.ext ?_)
  · show place (15 + n.val) + s.val % 16 = 256 + 16 * n.val + s.val % 16
    unfold place; rw [if_neg (by omega)]; omega
  · show (16 * (tok o.val (r.val / 16) + 15 - tok o.val (s.val / 16)) + r.val % 16) % 16 = r.val % 16
    omega

/-- A token gets itself through both responses at distance zero and the feed-through. -/
theorem group_mid (h : tok o.val (r.val / 16) = tok o.val (s.val / 16)) :
    group o.val x d (ix3 0 r s) = x (ix3 0 ⟨s.val % 16, by omega⟩ ⟨r.val % 16, by omega⟩) + x (ix3 0 ⟨256 + s.val % 16, by omega⟩ ⟨r.val % 16, by omega⟩)
      + if s.val % 16 = r.val % 16 then d (ix3 0 0 ⟨240 + r.val % 16, by omega⟩) else 0 := by
  have hr := tok_lt o.val (r.val / 16) (by omega)
  have hs := tok_lt o.val (s.val / 16) (by omega)
  have e : (⟨16 * (tok o.val (r.val / 16) + 15 - tok o.val (s.val / 16)) + r.val % 16, by omega⟩ : Fin 512) = ⟨240 + r.val % 16, by omega⟩ :=
    Fin.ext (show 16 * (tok o.val (r.val / 16) + 15 - tok o.val (s.val / 16)) + r.val % 16 = 240 + r.val % 16 by omega)
  have e' : (⟨(240 + r.val % 16) % 16, by omega⟩ : Fin 128) = ⟨r.val % 16, by omega⟩ := Fin.ext (show (240 + r.val % 16) % 16 = r.val % 16 by omega)
  rw [group_apply, e, strip_mid _ _ _ _ (show (240 + r.val % 16) / 16 = 15 by omega), wide_apply x hx, wide_apply x hx]
  have f : (240 + r.val % 16) % 16 = r.val % 16 := by omega
  simp only [f]

end Cert.Strip

end
-- ==== Proof.RResp.lean ====
/- The reference's impulse responses of the two directions, and its table, at an index, over the extended reals. -/
module

public import proofs.«01_k».proof.Proof.Resp
public import proofs.«01_k».proof.Proof.Gen.Reference8Ideal.Read
public import proofs.«01_k».proof.Proof.StripVal

@[expose] public section

noncomputable section

namespace Cert.Resp

open Idealize.ShloMosaic Cert.Reference8Ideal Cert.Reference8Ideal.Gen Cert.Reference8Ideal.Read

/-! ## The response's text, for either direction -/

theorem cuta (d : Fin 2) : S1x2x32x64.Slices ![0, d.val, 0, 0] S1x1x32x64 := by revert d; decide
theorem cuts (d : Fin 2) : S1x2x32.Slices ![0, d.val, 0] S1x1x32 := by revert d; decide
theorem cuti (d : Fin 2) : S1x2x32x64x16.Slices ![0, d.val, 0, 0, 0] S1x1x32x64x16 := by revert d; decide
theorem cuto (d : Fin 2) : S1x2x32x16x64.Slices ![0, d.val, 0, 0, 0] S1x1x32x16x64 := by revert d; decide

variable (d : Fin 2) (x0 x1 : FVec Ideal S1x2x32x64 .f32) (x2 : FVec Ideal S1x2x32 .f32) (x3 x4 : FVec Ideal S1x2x32x64x16 .f32) (x5 x6 : FVec Ideal S1x2x32x16x64 .f32)

def ra (x : FVec Ideal S1x2x32x64 .f32) : FVec Ideal S32x64 .f32 :=
  shapeCast S32x64 (extractStridedSlice S1x1x32x64 ![0, d.val, 0, 0] x (cuta d)) shapeCasts_S1x1x32x64_S32x64

def rs : FVec Ideal S32 .f32 := shapeCast S32 (extractStridedSlice S1x1x32 ![0, d.val, 0] x2 (cuts d)) shapeCasts_S1x1x32_S32

def rb (x : FVec Ideal S1x2x32x64x16 .f32) : FVec Ideal S32x64x16 .f32 :=
  shapeCast S32x64x16 (extractStridedSlice S1x1x32x64x16 ![0, d.val, 0, 0, 0] x (cuti d)) shapeCasts_S1x1x32x64x16_S32x64x16

def rc (x : FVec Ideal S1x2x32x16x64 .f32) : FVec Ideal S32x16x64 .f32 :=
  shapeCast S32x16x64 (extractStridedSlice S1x1x32x16x64 ![0, d.val, 0, 0, 0] x (cuto d)) shapeCasts_S1x1x32x16x64_S32x16x64

def rex (x : FVec Ideal S1x2x32x64 .f32) : FVec Ideal S32x64 .f32 :=
  mulf (ra d x) (broadcastInDim S32x64 ![0, 1] bcast_S32x1_S32x64_0_1 (broadcastInDim S32x1 ![0] bcast_S32_S32x1_0 (Host.exp (rs d x2))))

def rnr : FVec Ideal S32x64 .f32 := subf (mulf (Host.exp (rex d x2 x0)) (Host.cos (rex d x2 x1))) (broadcastInDim S32x64 ![] bcast_S_S32x64 (constant S_ .f32 0x3F800000#32 : FVec Ideal S_ .f32))
def rni : FVec Ideal S32x64 .f32 := mulf (Host.exp (rex d x2 x0)) (Host.sin (rex d x2 x1))
def rden : FVec Ideal S32x64 .f32 := addf (mulf (ra d x0) (ra d x0)) (mulf (ra d x1) (ra d x1))
def rqr : FVec Ideal S32x64 .f32 := Host.divf (addf (mulf (rnr d x0 x1 x2) (ra d x0)) (mulf (rni d x0 x1 x2) (ra d x1))) (rden d x0 x1)
def rqi : FVec Ideal S32x64 .f32 := Host.divf (subf (mulf (rni d x0 x1 x2) (ra d x0)) (mulf (rnr d x0 x1 x2) (ra d x1))) (rden d x0 x1)

def rwide (q : FVec Ideal S32x64 .f32) : FVec Ideal S32x64x16 .f32 :=
  broadcastInDim S32x64x16 ![0, 1, 2] bcast_S32x64x1_S32x64x16_0_1_2 (broadcastInDim S32x64x1 ![0, 1] bcast_S32x64_S32x64x1_0_1 q)

def rbr : FVec Ideal S32x64x16 .f32 := subf (mulf (rwide (rqr d x0 x1 x2)) (rb d x3)) (mulf (rwide (rqi d x0 x1 x2)) (rb d x4))
def rbi : FVec Ideal S32x64x16 .f32 := addf (mulf (rwide (rqr d x0 x1 x2)) (rb d x4)) (mulf (rwide (rqi d x0 x1 x2)) (rb d x3))

/-- The exponents at every distance. -/
def rat (y : FVec Ideal S32x64 .f32) : FVec Ideal S32x16x64 .f32 :=
  mulf (broadcastInDim S32x16x64 ![0, 1, 2] bcast_S32x1x64_S32x16x64_0_1_2 (broadcastInDim S32x1x64 ![0, 2] bcast_S32x64_S32x1x64_0_2 y))
    (broadcastInDim S32x16x64 ![0, 1, 2] bcast_S1x16x1_S32x16x64_0_1_2 (broadcastInDim S1x16x1 ![1] bcast_S16_S1x16x1_1 (sitofp .f32 (iotaInDim S16 32 0))))

def rpr : FVec Ideal S32x16x64 .f32 := mulf (Host.exp (rat (rex d x2 x0))) (Host.cos (rat (rex d x2 x1)))
def rpi : FVec Ideal S32x16x64 .f32 := mulf (Host.exp (rat (rex d x2 x0))) (Host.sin (rat (rex d x2 x1)))

def rout (x : FVec Ideal S1x2x32x16x64 .f32) : FVec Ideal S32x16x16x64 .f32 :=
  broadcastInDim S32x16x16x64 ![0, 1, 2, 3] bcast_S32x1x16x64_S32x16x16x64_0_1_2_3 (broadcastInDim S32x1x16x64 ![0, 2, 3] bcast_S32x16x64_S32x1x16x64_0_2_3 (rc d x))

def rpow (p : FVec Ideal S32x16x64 .f32) : FVec Ideal S32x16x16x64 .f32 :=
  broadcastInDim S32x16x16x64 ![0, 1, 2, 3] bcast_S32x16x1x64_S32x16x16x64_0_1_2_3 (broadcastInDim S32x16x1x64 ![0, 1, 3] bcast_S32x16x64_S32x16x1x64_0_1_3 p)

def rwr : FVec Ideal S32x16x16x64 .f32 := subf (mulf (rout d x5) (rpow (rpr d x0 x1 x2))) (mulf (rout d x6) (rpow (rpi d x0 x1 x2)))
def rwi : FVec Ideal S32x16x16x64 .f32 := addf (mulf (rout d x5) (rpow (rpi d x0 x1 x2))) (mulf (rout d x6) (rpow (rpr d x0 x1 x2)))

def rresp : FVec Ideal S32x16x16x16 .f32 :=
  subf (Host.dotGeneral dot_S32x16x16x64_S32x64x16_S32x16x16x16_3_1_12_2_0_0 (some .fp32) (rwr d x0 x1 x2 x5 x6) (rbr d x0 x1 x2 x3 x4))
    (Host.dotGeneral dot_S32x16x16x64_S32x64x16_S32x16x16x16_3_1_12_2_0_0 (some .fp32) (rwi d x0 x1 x2 x5 x6) (rbi d x0 x1 x2 x3 x4))

theorem ref_fwd : val_main_v93 (F := Ideal) x0 x1 x2 x3 x4 x5 x6 = rresp 0 x0 x1 x2 x3 x4 x5 x6 := rfl
theorem ref_bwd : val_main_v187 (F := Ideal) x0 x1 x2 x3 x4 x5 x6 = rresp 1 x0 x1 x2 x3 x4 x5 x6 := rfl

/-! ### At an index -/

theorem ra_apply (x : FVec Ideal S1x2x32x64 .f32) (g : Fin 32) (p : Fin 64) : ra d x (ix2 g p) = x (ix4 0 d g p) := by
  fin_cases d <;> pointwise [ra]

theorem rs_apply (g : Fin 32) : rs d x2 (ix1 g) = x2 (ix3 0 d g) := by
  fin_cases d <;> pointwise [rs]

theorem rb_apply (x : FVec Ideal S1x2x32x64x16 .f32) (g : Fin 32) (p : Fin 64) (e : Fin 16) : rb d x (ix3 g p e) = x (ix5 0 d g p e) := by
  fin_cases d <;> pointwise [rb]

theorem rex_apply (x : FVec Ideal S1x2x32x64 .f32) (g : Fin 32) (p : Fin 64) : rex d x2 x (ix2 g p) = ex x x2 d g p := by
  pointwise [rex]
  rw [ra_apply, rs_apply]
  rfl

theorem rnr_apply (g : Fin 32) (p : Fin 64) : rnr d x0 x1 x2 (ix2 g p) = nr x0 x1 x2 d g p := by
  pointwise [rnr]
  rw [rex_apply, rex_apply]
  rfl

theorem rni_apply (g : Fin 32) (p : Fin 64) : rni d x0 x1 x2 (ix2 g p) = ni x0 x1 x2 d g p := by
  pointwise [rni]
  rw [rex_apply, rex_apply]
  rfl

theorem rqr_apply (g : Fin 32) (p : Fin 64) : rqr d x0 x1 x2 (ix2 g p) = qr x0 x1 x2 d g p := by
  pointwise [rqr, rden]
  rw [rnr_apply, rni_apply, ra_apply, ra_apply]
  rfl

theorem rqi_apply (g : Fin 32) (p : Fin 64) : rqi d x0 x1 x2 (ix2 g p) = qi x0 x1 x2 d g p := by
  pointwise [rqi, rden]
  rw [rnr_apply, rni_apply, ra_apply, ra_apply]
  rfl

theorem rwide_apply (q : FVec Ideal S32x64 .f32) (g : Fin 32) (p : Fin 64) (e : Fin 16) : rwide q (ix3 g p e) = q (ix2 g p) := by
  pointwise [rwide]

theorem rbr_apply (g : Fin 32) (p : Fin 64) (e : Fin 16) : rbr d x0 x1 x2 x3 x4 (ix3 g p e) = br x0 x1 x2 x3 x4 d g p e := by
  pointwise [rbr]
  rw [rwide_apply, rwide_apply, rb_apply, rb_apply, rqr_apply, rqi_apply]
  rfl

theorem rbi_apply (g : Fin 32) (p : Fin 64) (e : Fin 16) : rbi d x0 x1 x2 x3 x4 (ix3 g p e) = bi x0 x1 x2 x3 x4 d g p e := by
  pointwise [rbi]
  rw [rwide_apply, rwide_apply, rb_apply, rb_apply, rqr_apply, rqi_apply]
  rfl

theorem rat_apply (y : FVec Ideal S32x64 .f32) (g : Fin 32) (k : Fin 16) (p : Fin 64) : rat y (ix3 g k p) = y (ix2 g p) * num k := by
  pointwise [rat]
  rfl

theorem rpr_apply (g : Fin 32) (k : Fin 16) (p : Fin 64) : rpr d x0 x1 x2 (ix3 g k p) = pr x0 x1 x2 d g k p := by
  pointwise [rpr]
  rw [rat_apply, rat_apply, rex_apply, rex_apply]
  rfl

theorem rpi_apply (g : Fin 32) (k : Fin 16) (p : Fin 64) : rpi d x0 x1 x2 (ix3 g k p) = pi x0 x1 x2 d g k p := by
  pointwise [rpi]
  rw [rat_apply, rat_apply, rex_apply, rex_apply]
  rfl

theorem rout_apply (x : FVec Ideal S1x2x32x16x64 .f32) (g : Fin 32) (k c : Fin 16) (p : Fin 64) : rout d x (ix4 g k c p) = x (ix5 0 d g c p) := by
  fin_cases d <;> pointwise [rout, rc]

theorem rpow_apply (q : FVec Ideal S32x16x64 .f32) (g : Fin 32) (k c : Fin 16) (p : Fin 64) : rpow q (ix4 g k c p) = q (ix3 g k p) := by
  pointwise [rpow]

theorem rwr_apply (g : Fin 32) (k c : Fin 16) (p : Fin 64) : rwr d x0 x1 x2 x5 x6 (ix4 g k c p) = wr x0 x1 x2 x5 x6 d g k c p := by
  pointwise [rwr]
  rw [rout_apply, rout_apply, rpow_apply, rpow_apply, rpr_apply, rpi_apply]
  rfl

theorem rwi_apply (g : Fin 32) (k c : Fin 16) (p : Fin 64) : rwi d x0 x1 x2 x5 x6 (ix4 g k c p) = wi x0 x1 x2 x5 x6 d g k c p := by
  pointwise [rwi]
  rw [rout_apply, rout_apply, rpow_apply, rpow_apply, rpr_apply, rpi_apply]
  rfl

theorem rresp_apply (g : Fin 32) (k c e : Fin 16) : rresp d x0 x1 x2 x3 x4 x5 x6 (ix4 g k c e) = resp x0 x1 x2 x3 x4 x5 x6 d g k c e := by
  pointwise [rresp, dot_S32x16x16x64_S32x64x16_S32x16x16x16_3_1_12_2_0_0]
  simp only [rwr_apply, rwi_apply, rbr_apply, rbi_apply]
  rfl

/-! ## The reference's table -/

open Cert.Strip (tok)

/-- The token of a slot, seen from a group. -/
def tk (g : Fin 32) (l : Fin 16) : Fin 16 := ⟨tok (g.val % 8) l.val, Strip.tok_lt _ _ l.isLt⟩

theorem word_tok (g : Fin 32) (l : Fin 16) : (val_main_v200 (F := Ideal) : IVec S32x16 32) (ix2 g l) = BitVec.ofNat 32 (tk g l).val := by
  revert g l; decide +kernel

theorem six {n0 n1 n2 n3 n4 n5 : Nat} (j : (⟨6, ![n0, n1, n2, n3, n4, n5]⟩ : Shape).Idx) (a : Fin n0) (b : Fin n1) (c : Fin n2) (d : Fin n3) (e : Fin n4) (f : Fin n5)
    (h0 : j 0 = a) (h1 : j 1 = b) (h2 : j 2 = c) (h3 : j 3 = d) (h4 : j 4 = e) (h5 : j 5 = f) : j = ix6 a b c d e f := by
  subst h0 h1 h2 h3 h4 h5
  funext q
  match q with | ⟨0, _⟩ => rfl | ⟨1, _⟩ => rfl | ⟨2, _⟩ => rfl | ⟨3, _⟩ => rfl | ⟨4, _⟩ => rfl | ⟨5, _⟩ => rfl

theorem nought : (id (constant S_ .f32 0x00000000#32 : FVec Ideal S_ .f32)) ix0 = (0 : EReal) := by
  show (constant S_ .f32 0x00000000#32 : FVec Ideal S_ .f32) ix0 = 0
  pointwise

/-- A token is a distance after another one. -/
theorem after_iff (p q k : Fin 16) : IntOp.cmpi .eq (BitVec.ofNat 32 p.val) (IntOp.addi (BitVec.ofNat 32 q.val) (BitVec.ofNat 32 k.val)) = 1 ↔ p.val = q.val + k.val := by
  revert p q k; decide +kernel

theorem take_fwd (g : Fin 32) (a b k c e : Fin 16) : val_main_v213 (F := Ideal) x0 x1 x2 x3 x4 x5 x6 (ix6 g a b k c e)
    = if (tk g b).val = (tk g a).val + k.val then resp x0 x1 x2 x3 x4 x5 x6 0 g k c e else 0 := by
  have i := after_iff (tk g b) (tk g a) k
  have h : val_main_v213 (F := Ideal) x0 x1 x2 x3 x4 x5 x6 (ix6 g a b k c e)
      = Scalar.select (IntOp.cmpi .eq ((val_main_v200 (F := Ideal) : IVec S32x16 32) (ix2 g b)) (IntOp.addi ((val_main_v200 (F := Ideal) : IVec S32x16 32) (ix2 g a)) (BitVec.ofNat 32 k.val)))
        (val_main_v93 (F := Ideal) x0 x1 x2 x3 x4 x5 x6 (ix4 g k c e)) (0 : EReal) := by
    pointwise [val_main_v213, val_main_call0_v1, val_main_call0_v2, val_main_call0_v3, val_main_call0_v0, val_main_cst_2, val_main_v212, val_main_v211, val_main_v210, val_main_v209, val_main_v208, val_main_v207, val_main_v206, val_main_v205, val_main_v204, val_main_v203, val_main_v202, val_main_v201]
    exact congrArg (Scalar.select _ _) nought
  rw [h, word_tok, word_tok, ref_fwd, rresp_apply]
  unfold Scalar.select
  by_cases q : (tk g b).val = (tk g a).val + k.val
  · rw [if_pos q, if_pos (i.mpr q)]
  · rw [if_neg q, if_neg (fun z => q (i.mp z))]

theorem take_bwd (g : Fin 32) (a b k c e : Fin 16) : val_main_v224 (F := Ideal) x0 x1 x2 x3 x4 x5 x6 (ix6 g a b k c e)
    = if (tk g a).val = (tk g b).val + k.val then resp x0 x1 x2 x3 x4 x5 x6 1 g k c e else 0 := by
  have i := after_iff (tk g a) (tk g b) k
  have h : val_main_v224 (F := Ideal) x0 x1 x2 x3 x4 x5 x6 (ix6 g a b k c e)
      = Scalar.select (IntOp.cmpi .eq ((val_main_v200 (F := Ideal) : IVec S32x16 32) (ix2 g a)) (IntOp.addi ((val_main_v200 (F := Ideal) : IVec S32x16 32) (ix2 g b)) (BitVec.ofNat 32 k.val)))
        (val_main_v187 (F := Ideal) x0 x1 x2 x3 x4 x5 x6 (ix4 g k c e)) (0 : EReal) := by
    pointwise [val_main_v224, val_main_call1_v1, val_main_call1_v2, val_main_call1_v3, val_main_call1_v0, val_main_cst_4, val_main_v223, val_main_v222, val_main_v221, val_main_v220, val_main_v219, val_main_v218, val_main_v217, val_main_v216, val_main_v215, val_main_v203, val_main_v202, val_main_v201]
    exact congrArg (Scalar.select _ _) nought
  rw [h, word_tok, word_tok, ref_bwd, rresp_apply]
  unfold Scalar.select
  by_cases q : (tk g a).val = (tk g b).val + k.val
  · rw [if_pos q, if_pos (i.mpr q)]
  · rw [if_neg q, if_neg (fun z => q (i.mp z))]

theorem both_iff (p q p' q' : Fin 16) : IntOp.andi (IntOp.cmpi .eq (BitVec.ofNat 32 p.val) (BitVec.ofNat 32 q.val)) (IntOp.cmpi .eq (BitVec.ofNat 32 p'.val) (BitVec.ofNat 32 q'.val)) = 1
    ↔ p = q ∧ p' = q' := by
  have h : ∀ p q : Fin 16, IntOp.cmpi .eq (BitVec.ofNat 32 p.val) (BitVec.ofNat 32 q.val) = if p = q then 1 else 0 := by decide +kernel
  rw [h, h]
  by_cases a : p = q <;> by_cases b : p' = q' <;> simp [a, b, IntOp.andi]

theorem skip_apply (x7 : FVec Ideal S1x512 .f32) (g : Fin 32) (a b c e : Fin 16) : val_main_v248 (F := Ideal) x7 (ix5 g a b c e)
    = if a = b ∧ c = e then x7 (ix2 0 ⟨g.val * 16 + c.val, by omega⟩) else 0 := by
  have i := both_iff a b c e
  have h : val_main_v248 (F := Ideal) x7 (ix5 g a b c e)
      = Scalar.select (IntOp.andi (IntOp.cmpi .eq (BitVec.ofNat 32 a.val) (BitVec.ofNat 32 b.val)) (IntOp.cmpi .eq (BitVec.ofNat 32 c.val) (BitVec.ofNat 32 e.val)))
        (x7 (ix2 0 ⟨g.val * 16 + c.val, by omega⟩)) (0 : EReal) := by
    pointwise [val_main_v248, val_main_call2_v1, val_main_call2_v2, val_main_call2_v3, val_main_call2_v0, val_main_cst_6, val_main_v247, val_main_v246, val_main_v245, val_main_v244, val_main_v243, val_main_v242, val_main_v241, val_main_v240, val_main_v239, val_main_v238, val_main_v237, val_main_v236, val_main_v235, val_main_v234, val_main_v233, val_main_v232, val_main_v231, val_main_v230, val_main_v229, val_main_v228, val_main_v227]
    exact congrArg (Scalar.select _ _) nought
  rw [h]
  unfold Scalar.select
  by_cases q : a = b ∧ c = e
  · rw [if_pos q, if_pos (i.mpr q)]
  · rw [if_neg q, if_neg (fun z => q (i.mp z))]

/-- The reference's entry: the responses taken at the tokens' distance, and the feed-through. -/
theorem table_apply (x7 : FVec Ideal S1x512 .f32) (g : Fin 32) (a b c e : Fin 16) :
    val_main_v252 (F := Ideal) x0 x1 x2 x3 x4 x5 x6 x7 (ix3 g ⟨16 * a.val + e.val, by omega⟩ ⟨16 * b.val + c.val, by omega⟩)
    = ((∑ k : Fin 16, if (tk g b).val = (tk g a).val + k.val then resp x0 x1 x2 x3 x4 x5 x6 0 g k c e else 0)
        + ∑ k : Fin 16, if (tk g a).val = (tk g b).val + k.val then resp x0 x1 x2 x3 x4 x5 x6 1 g k c e else 0)
      + if a = b ∧ c = e then x7 (ix2 0 ⟨g.val * 16 + c.val, by omega⟩) else 0 := by
  have h : val_main_v252 (F := Ideal) x0 x1 x2 x3 x4 x5 x6 x7 (ix3 g ⟨16 * a.val + e.val, by omega⟩ ⟨16 * b.val + c.val, by omega⟩)
      = (val_main_v214 (F := Ideal) x0 x1 x2 x3 x4 x5 x6 (ix5 g a b c e) + val_main_v225 (F := Ideal) x0 x1 x2 x3 x4 x5 x6 (ix5 g a b c e))
        + val_main_v248 (F := Ideal) x7 (ix5 g a b c e) := by
    pointwise [val_main_v252, val_main_v251, val_main_v250, val_main_v249, val_main_v226]
  have h1 : val_main_v214 (F := Ideal) x0 x1 x2 x3 x4 x5 x6 (ix5 g a b c e)
      = ∑ k : Fin 16, val_main_v213 (F := Ideal) x0 x1 x2 x3 x4 x5 x6 (ix6 g a b k c e) := by
    refine (val_main_v214_apply x0 x1 x2 x3 x4 x5 x6 _).trans ?_
    rw [show (val_main_cst_3 (F := Ideal)) = (fun _ => (0 : EReal)) from funext fun i => by pointwise [val_main_cst_3]]
    exact (zero_add _).trans (Finset.sum_congr rfl fun k _ => congrArg _ (six _ _ _ _ _ _ _
      rfl rfl rfl rfl rfl rfl))
  have h2 : val_main_v225 (F := Ideal) x0 x1 x2 x3 x4 x5 x6 (ix5 g a b c e)
      = ∑ k : Fin 16, val_main_v224 (F := Ideal) x0 x1 x2 x3 x4 x5 x6 (ix6 g a b k c e) := by
    refine (val_main_v225_apply x0 x1 x2 x3 x4 x5 x6 _).trans ?_
    rw [show (val_main_cst_5 (F := Ideal)) = (fun _ => (0 : EReal)) from funext fun i => by pointwise [val_main_cst_5]]
    exact (zero_add _).trans (Finset.sum_congr rfl fun k _ => congrArg _ (six _ _ _ _ _ _ _
      rfl rfl rfl rfl rfl rfl))
  rw [h, h1, h2, skip_apply]
  simp only [take_fwd, take_bwd]

end Cert.Resp

end
-- ==== Proof.Lanes.lean ====
/- The intra-chunk table: the arrays that the call reads, as terms over the arguments. -/
module

public import proofs.«01_k».proof.Proof.Resp
public import Idealize.ShloMosaic.Lib.StableHlo.RunRead

@[expose] public section

noncomputable section

namespace Cert.Table

open Idealize.ShloMosaic Cert.Kernel8Ideal Cert.Kernel8Ideal.Gen Idealize.ShloMosaic.TcCoe Idealize.SL.Sem Cert.Resp
open Idealize.ShloMosaic.Pipeline (Dat)

/-- A table of distances from its words. -/
def ofWords (w : Fin 512 → BitVec 32) : FVec Ideal S32x16 .f32 := fun i => FloatOps.ofBits .f32 (w (S32x16.rowMajor i))

/-! ## The arrays that the call reads -/

section Arrays

variable (x0 x1 : FVec Ideal S1x2x32x64 .f32) (x2 : FVec Ideal S1x2x32 .f32) (x3 x4 : FVec Ideal S1x2x32x64x16 .f32) (x5 x6 : FVec Ideal S1x2x32x16x64 .f32) (x7 : FVec Ideal S1x512 .f32)

/-- Both directions' responses. -/
def both : FVec Ideal S32x32x16x16 .f32 :=
  concatenate S32x32x16x16 1 [⟨S32x16x16x16, kresp x0 x1 x2 x3 x4 x5 x6 (ofWords lit0) 0⟩, ⟨S32x16x16x16, kresp x0 x1 x2 x3 x4 x5 x6 (ofWords lit1) 1⟩]
    concatenates_S32x16x16x16_S32x16x16x16_S32x32x16x16_d1

/-- The responses, padded to whole lanes. -/
def lanes : FVec Ideal S32x512x128 .f32 :=
  pad S32x512x128 ![0, 0, 0] ![0, 0, 112] ![0, 0, 0] (shapeCast S32x512x16 (both x0 x1 x2 x3 x4 x5 x6) shapeCasts_S32x32x16x16_S32x512x16)
    (sitofp .f32 (constantI S_ 32 0#32) : FVec Ideal S_ .f32) pads_S32x512x16_S32x512x128_000_000_01120 h_S_

/-- The feed-through repeated along the lanes. -/
def skips : FVec Ideal S32x1x512 .f32 :=
  shapeCast S32x1x512 (broadcastInDim S1x32x1x1x32x16 ![0, 1, 2, 3, 4, 5] bcast_S1x32x1x1x1x16_S1x32x1x1x32x16_0_1_2_3_4_5
    (shapeCast S1x32x1x1x1x16 (shapeCast S32x1x16 (shapeCast S512 x7 shapeCasts_S1x512_S512) shapeCasts_S512_S32x1x16) shapeCasts_S32x1x16_S1x32x1x1x1x16))
    shapeCasts_S1x32x1x1x32x16_S32x1x512

end Arrays

variable (m : (ℓ : Loc nD τ sig) → Buf (Elt Ideal) ℓ)

set_option maxRecDepth 65536 in
set_option maxHeartbeats 16000000 in
theorem V_main_v217 (c : Dev nD) : (V m c main_v217 : (⟨S32x512x128, .f32⟩ : BufTy).Contents (Elt Ideal))
    = lanes (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  unfold V hostOps0 hostOps0_1 hostOps0_2
  after_results_simp
  rfl

set_option maxRecDepth 65536 in
set_option maxHeartbeats 16000000 in
theorem V_main_v221 (c : Dev nD) : (V m c main_v221 : (⟨S32x1x512, .f32⟩ : BufTy).Contents (Elt Ideal)) = skips (m ((c : Thread nD τ).loc main_arg7)) := by
  unfold V hostOps0 hostOps0_1 hostOps0_2
  after_results_simp
  rfl

end Cert.Table

end
-- ==== Proof.Table.lean ====
/- The intra-chunk table: what a grid point writes back is its block of the reference's table. -/
module

public import proofs.«01_k».proof.Proof.RResp
public import proofs.«01_k».proof.Proof.Lanes
public import Idealize.ShloMosaic.Lib.StableHlo.RunRead

@[expose] public section

noncomputable section

namespace Cert.Table

open Idealize.ShloMosaic Cert.Kernel8Ideal Cert.Kernel8Ideal.Gen Idealize.ShloMosaic.TcCoe Idealize.SL.Sem Cert.Resp
open Idealize.ShloMosaic.Pipeline (Dat)
open Cert.Strip (tok group)

/-! ## The distances -/

/-- The f32 words of the numbers below sixteen. -/
def digit : Fin 16 → BitVec 32 := ![0x00000000#32, 0x3F800000#32, 0x40000000#32, 0x40400000#32, 0x40800000#32, 0x40A00000#32, 0x40C00000#32, 0x40E00000#32,
  0x41000000#32, 0x41100000#32, 0x41200000#32, 0x41300000#32, 0x41400000#32, 0x41500000#32, 0x41600000#32, 0x41700000#32]

theorem digit_eq (k : Fin 16) : (FloatOps.ofBits .f32 (digit k) : Ideal .f32) = num k := by
  show Ideal.ofBits .f32 (digit k) = num k
  fin_cases k <;> simp [digit, num, Ideal.ofBits, Ideal.ieee, -EReal.coe_mul] <;> norm_num

theorem ofWords_apply (w : Fin 512 → BitVec 32) (h : ∀ (g : Fin 32) (k : Fin 16), w (S32x16.rowMajor (ix2 g k)) = digit k) (g : Fin 32) (k : Fin 16) :
    ofWords w (ix2 g k) = num k := by
  show (FloatOps.ofBits .f32 (w (S32x16.rowMajor (ix2 g k))) : Ideal .f32) = _
  rw [h]; exact digit_eq k

theorem words0 (g : Fin 32) (k : Fin 16) : lit0 (S32x16.rowMajor (ix2 g k)) = digit k := by revert g k; decide +kernel
theorem words1 (g : Fin 32) (k : Fin 16) : lit1 (S32x16.rowMajor (ix2 g k)) = digit k := by revert g k; decide +kernel

/-! ## The arrays at an index -/

section Arrays

variable (x0 x1 : FVec Ideal S1x2x32x64 .f32) (x2 : FVec Ideal S1x2x32 .f32) (x3 x4 : FVec Ideal S1x2x32x64x16 .f32) (x5 x6 : FVec Ideal S1x2x32x16x64 .f32) (x7 : FVec Ideal S1x512 .f32)

theorem lanes_in (g n : Fin 32) (c e : Fin 16) : lanes x0 x1 x2 x3 x4 x5 x6 (ix3 g ⟨16 * n.val + c.val, by omega⟩ ⟨e.val, by omega⟩)
    = both x0 x1 x2 x3 x4 x5 x6 (ix4 g n c e) := by
  unfold lanes
  generalize both x0 x1 x2 x3 x4 x5 x6 = y
  refine (pad_apply_of_inside _ _ _ _ _ _ _ _ (ix3 g ⟨16 * n.val + c.val, by omega⟩ e) (fun a => match a with
    | ⟨0, _⟩ => by show g.val = 0 + g.val * (0 + 1); omega
    | ⟨1, _⟩ => by show 16 * n.val + c.val = 0 + (16 * n.val + c.val) * (0 + 1); omega
    | ⟨2, _⟩ => by show e.val = 0 + e.val * (0 + 1); omega)).trans ?_
  pointwise

theorem lanes_out (g : Fin 32) (a : Fin 512) (l : Fin 128) (h : 16 ≤ l.val) : lanes x0 x1 x2 x3 x4 x5 x6 (ix3 g a l) = 0 := by
  unfold lanes
  refine (pad_apply_of_not_inside _ _ _ _ _ _ _ _ (2 : Fin 3) ?_).trans ?_
  · show ¬ (0 ≤ l.val ∧ (l.val - 0) % (0 + 1) = 0 ∧ (l.val - 0) / (0 + 1) < 16)
    omega
  · show (((0#32 : BitVec 32).toInt : ℝ) : EReal) = 0
    simp

theorem lanes_fwd (g : Fin 32) (n c e : Fin 16) : lanes x0 x1 x2 x3 x4 x5 x6 (ix3 g ⟨16 * n.val + c.val, by omega⟩ ⟨e.val, by omega⟩)
    = resp x0 x1 x2 x3 x4 x5 x6 0 g n c e := by
  refine (lanes_in x0 x1 x2 x3 x4 x5 x6 g ⟨n.val, by omega⟩ c e).trans ?_
  refine (concatenate_pair_apply_left (t := S32x32x16x16) (s₁ := S32x16x16x16) (s₂ := S32x16x16x16) 1 _ _ _ (ix4 g ⟨n.val, by omega⟩ c e) rfl (ix4 g n c e) (fun b => ?_)).trans
    (kresp_apply x0 x1 x2 x3 x4 x5 x6 _ (ofWords_apply _ words0) 0 g n c e)
  fin_cases b <;> rfl

theorem lanes_bwd (g : Fin 32) (n c e : Fin 16) : lanes x0 x1 x2 x3 x4 x5 x6 (ix3 g ⟨256 + 16 * n.val + c.val, by omega⟩ ⟨e.val, by omega⟩)
    = resp x0 x1 x2 x3 x4 x5 x6 1 g n c e := by
  have q : (⟨256 + 16 * n.val + c.val, by omega⟩ : Fin 512) = ⟨16 * (16 + n.val) + c.val, by omega⟩ :=
    Fin.ext (show 256 + 16 * n.val + c.val = 16 * (16 + n.val) + c.val by omega)
  rw [q]
  refine (lanes_in x0 x1 x2 x3 x4 x5 x6 g ⟨16 + n.val, by omega⟩ c e).trans ?_
  refine (concatenate_pair_apply_right (t := S32x32x16x16) (s₁ := S32x16x16x16) (s₂ := S32x16x16x16) 1 _ _ _ (ix4 g ⟨16 + n.val, by omega⟩ c e) rfl rfl (ix4 g n c e) (fun b hb => ?_) ?_).trans
    (kresp_apply x0 x1 x2 x3 x4 x5 x6 _ (ofWords_apply _ words1) 1 g n c e)
  · fin_cases b
    · rfl
    · exact absurd rfl hb
    · rfl
    · rfl
  · show n.val + 16 = 16 + n.val; omega

theorem skips_apply (g : Fin 32) (e : Fin 16) : skips x7 (ix3 g 0 ⟨240 + e.val, by omega⟩) = x7 (ix2 0 ⟨g.val * 16 + e.val, by omega⟩) := by
  pointwise [skips]

/-! ## An entry -/

theorem sum_hit (p q n : Fin 16) (h : p.val = q.val + n.val) (f : Fin 16 → EReal) : (∑ k : Fin 16, if p.val = q.val + k.val then f k else 0) = f n :=
  (Finset.sum_eq_single n (fun k _ hk => if_neg (fun z => hk (Fin.ext (by omega)))) (fun z => absurd (Finset.mem_univ _) z)).trans (if_pos h)

theorem sum_miss (p q : Fin 16) (h : p.val < q.val) (f : Fin 16 → EReal) : (∑ k : Fin 16, if p.val = q.val + k.val then f k else 0) = 0 :=
  Finset.sum_eq_zero fun k _ => if_neg (by omega)

theorem tok_inj (o : Fin 8) (l l' : Fin 16) (h : tok o.val l.val = tok o.val l'.val) : l = l' := by
  revert o l l'; decide +kernel

/-- One group's responses. -/
def part0 (x : FVec Ideal S32x512x128 .f32) (g : Fin 32) : Vec Ideal S1x512x128 .f32 := fun j => x (ix3 g (j 1) (j 2))

/-- One group's feed-through. -/
def part1 (x : FVec Ideal S32x1x512 .f32) (g : Fin 32) : Vec Ideal S1x1x512 .f32 := fun j => x (ix3 g (j 1) (j 2))

theorem entry (g : Fin 32) (r s : Fin 256) :
    group (g.val % 8) (part0 (lanes x0 x1 x2 x3 x4 x5 x6) g) (part1 (skips x7) g) (ix3 0 r s)
      = Cert.Reference8Ideal.Read.val_main_v252 (F := Ideal) x0 x1 x2 x3 x4 x5 x6 x7 (ix3 g r s) := by
  have e : Cert.Reference8Ideal.Read.val_main_v252 (F := Ideal) x0 x1 x2 x3 x4 x5 x6 x7 (ix3 g r s) = _ :=
    (congrArg₂ (fun p q => Cert.Reference8Ideal.Read.val_main_v252 (F := Ideal) x0 x1 x2 x3 x4 x5 x6 x7 (ix3 g p q))
      (Fin.ext (show r.val = 16 * (r.val / 16) + r.val % 16 by omega)) (Fin.ext (show s.val = 16 * (s.val / 16) + s.val % 16 by omega))).trans
    (table_apply x0 x1 x2 x3 x4 x5 x6 x7 g ⟨r.val / 16, by omega⟩ ⟨s.val / 16, by omega⟩ ⟨s.val % 16, by omega⟩ ⟨r.val % 16, by omega⟩)
  rw [e]
  have hx : ∀ (a : Fin 512) (l : Fin 128), 16 ≤ l.val → part0 (lanes x0 x1 x2 x3 x4 x5 x6) g (ix3 0 a l) = 0 :=
    fun a l h => lanes_out x0 x1 x2 x3 x4 x5 x6 g a l h
  rcases lt_trichotomy (tk g ⟨r.val / 16, by omega⟩).val (tk g ⟨s.val / 16, by omega⟩).val with h | h | h
  · have hn : (tk g ⟨s.val / 16, by omega⟩).val = (tk g ⟨r.val / 16, by omega⟩).val
        + (⟨(tk g ⟨s.val / 16, by omega⟩).val - (tk g ⟨r.val / 16, by omega⟩).val, by omega⟩ : Fin 16).val := by
      show _ = _ + (_ - _); omega
    rw [sum_hit _ _ _ hn, sum_miss _ _ h, if_neg (fun z => by rw [z.1] at h; exact absurd h (lt_irrefl _)), add_zero, add_zero]
    exact (Strip.group_fwd _ ⟨g.val % 8, by omega⟩ _ hx r s _ hn (Nat.sub_pos_of_lt h)).trans
      (lanes_fwd x0 x1 x2 x3 x4 x5 x6 g _ ⟨s.val % 16, by omega⟩ ⟨r.val % 16, by omega⟩)
  · have i := tok_inj ⟨g.val % 8, by omega⟩ _ _ h
    rw [sum_hit _ _ 0 h.symm, sum_hit _ _ 0 h]
    refine (Strip.group_mid _ ⟨g.val % 8, by omega⟩ _ hx r s h).trans ?_
    have z0 : (⟨s.val % 16, by omega⟩ : Fin 512) = ⟨16 * (0 : Fin 16).val + s.val % 16, by show 16 * 0 + s.val % 16 < 512; omega⟩ :=
      Fin.ext (show s.val % 16 = 16 * 0 + s.val % 16 by omega)
    have z1 : (⟨256 + s.val % 16, by omega⟩ : Fin 512) = ⟨256 + 16 * (0 : Fin 16).val + s.val % 16, by show 256 + 16 * 0 + s.val % 16 < 512; omega⟩ :=
      Fin.ext (show 256 + s.val % 16 = 256 + 16 * 0 + s.val % 16 by omega)
    rw [z0, z1]
    refine congrArg₂ (· + ·) (congrArg₂ (· + ·) (lanes_fwd x0 x1 x2 x3 x4 x5 x6 g 0 ⟨s.val % 16, by omega⟩ ⟨r.val % 16, by omega⟩)
      (lanes_bwd x0 x1 x2 x3 x4 x5 x6 g 0 ⟨s.val % 16, by omega⟩ ⟨r.val % 16, by omega⟩)) ?_
    by_cases q : s.val % 16 = r.val % 16
    · rw [if_pos q, if_pos ⟨i, Fin.ext q⟩]
      refine (skips_apply x7 g ⟨r.val % 16, by omega⟩).trans ?_
      exact congrArg (fun z => x7 (ix2 0 z)) (Fin.ext (show g.val * 16 + r.val % 16 = g.val * 16 + s.val % 16 by rw [q]))
    · rw [if_neg q, if_neg (fun z => q (congrArg Fin.val z.2))]
  · have hn : (tk g ⟨r.val / 16, by omega⟩).val = (tk g ⟨s.val / 16, by omega⟩).val
        + (⟨(tk g ⟨r.val / 16, by omega⟩).val - (tk g ⟨s.val / 16, by omega⟩).val, by omega⟩ : Fin 16).val := by
      show _ = _ + (_ - _); omega
    rw [sum_hit _ _ _ hn, sum_miss _ _ h, if_neg (fun z => by rw [z.1] at h; exact absurd h (lt_irrefl _)), add_zero, zero_add]
    exact (Strip.group_bwd _ ⟨g.val % 8, by omega⟩ _ hx r s _ hn (Nat.sub_pos_of_lt h)).trans
      (lanes_bwd x0 x1 x2 x3 x4 x5 x6 g _ ⟨s.val % 16, by omega⟩ ⟨r.val % 16, by omega⟩)

end Arrays

/-! ## A grid point's block -/

/-- One group's entries of a block. -/
def cell (x0 : Vec Ideal S8x512x128 .f32) (x1 : Vec Ideal S8x1x512 .f32) (i : S8x256x256.Idx) : Elt Ideal .bf16 :=
  group (i 0).val (fun j : S1x512x128.Idx => x0 (ix3 (i 0) (j 1) (j 2))) (fun j : S1x1x512.Idx => x1 (ix3 (i 0) (j 1) (j 2))) (ix3 0 (i 1) (i 2))

theorem ld3 {B C : Nat} {e : EltTy} (x : Vec Ideal ⟨3, ![8, B, C]⟩ e) (o : Fin 8)
    (h : ∀ a, (![o.val, 0, 0] : Fin 3 → Nat) a + (⟨3, ![1, B, C]⟩ : Shape).size a ≤ (⟨3, ![8, B, C]⟩ : Shape).size a) :
    View.ld x (Rect.unit (s := ⟨3, ![8, B, C]⟩) ![o.val, 0, 0] (⟨3, ![1, B, C]⟩ : Shape).size h) = fun j : (⟨3, ![1, B, C]⟩ : Shape).Idx => x (ix3 o (j 1) (j 2)) := by
  rw [View.ld_unit]
  funext j
  refine congrArg x (funext fun q => Fin.ext ?_)
  have h0 : (j 0).val < 1 := (j 0).isLt
  match q with
  | ⟨0, _⟩ => show o.val + (j 0).val = o.val; omega
  | ⟨1, _⟩ => show 0 + (j 1).val = (j 1).val; omega
  | ⟨2, _⟩ => show 0 + (j 2).val = (j 2).val; omega

theorem piece (x0 : Vec Ideal S8x512x128 .f32) (x1 : Vec Ideal S8x1x512 .f32) (o : Fin 8)
    (h0 : ∀ a, (![o.val, 0, 0] : Fin 3 → Nat) a + S1x512x128.size a ≤ S8x512x128.size a) (h1 : ∀ a, (![o.val, 0, 0] : Fin 3 → Nat) a + S1x1x512.size a ≤ S8x1x512.size a)
    (h2 : ∀ a, (![o.val, 0, 0] : Fin 3 → Nat) a + S1x256x256.size a ≤ S8x256x256.size a) (x : S1x256x256.Idx) :
    group o.val (View.ld x0 (Rect.unit (s := S8x512x128) ![o.val, 0, 0] S1x512x128.size h0)) (View.ld x1 (Rect.unit (s := S8x1x512) ![o.val, 0, 0] S1x1x512.size h1)) x
      = cell x0 x1 ((Rect.unit (s := S8x256x256) ![o.val, 0, 0] S1x256x256.size h2).emb x) := by
  have z : (x 0).val < 1 := (x 0).isLt
  have e : (Rect.unit (s := S8x256x256) ![o.val, 0, 0] S1x256x256.size h2).emb x = (ix3 o (x 1) (x 2) : S8x256x256.Idx) := by
    funext q; apply Fin.ext
    match q with
    | ⟨0, _⟩ => show o.val + 1 * (x 0).val = o.val; omega
    | ⟨1, _⟩ => show 0 + 1 * (x 1).val = (x 1).val; omega
    | ⟨2, _⟩ => show 0 + 1 * (x 2).val = (x 2).val; omega
  have f : x = (ix3 0 (x 1) (x 2) : S1x256x256.Idx) := by
    funext q
    match q with
    | ⟨0, _⟩ => exact Fin.ext (show (x 0).val = 0 by omega)
    | ⟨1, _⟩ => rfl
    | ⟨2, _⟩ => rfl
  rw [e, ld3 x0 o h0, ld3 x1 o h1]
  exact congrArg (group o.val _ _) f

theorem out2_apply (x0 : Vec Ideal S8x512x128 .f32) (x1 : Vec Ideal S8x1x512 .f32) (i : S8x256x256.Idx) : out0_2 x0 x1 i = cell x0 x1 i := by
  rw [Strip.out_eq]
  refine View.canon_apply_of_pieces (Val := Elt Ideal) (cell x0 x1) _ (fun p hp x => ?_) i (cover0_2 _ _ _ _ _ _ _ _ i)
  simp only [List.mem_cons, List.not_mem_nil, or_false] at hp
  rcases hp with rfl | rfl | rfl | rfl | rfl | rfl | rfl | rfl
  · exact piece x0 x1 7 _ _ inb_S8x256x256_S1x256x256_7_0_0 x
  · exact piece x0 x1 6 _ _ inb_S8x256x256_S1x256x256_6_0_0 x
  · exact piece x0 x1 5 _ _ inb_S8x256x256_S1x256x256_5_0_0 x
  · exact piece x0 x1 4 _ _ inb_S8x256x256_S1x256x256_4_0_0 x
  · exact piece x0 x1 3 _ _ inb_S8x256x256_S1x256x256_3_0_0 x
  · exact piece x0 x1 2 _ _ inb_S8x256x256_S1x256x256_2_0_0 x
  · exact piece x0 x1 1 _ _ inb_S8x256x256_S1x256x256_1_0_0 x
  · exact piece x0 x1 0 _ _ inb_S8x256x256_S1x256x256_0_0_0 x

variable (m : (ℓ : Loc nD τ sig) → Buf (Elt Ideal) ℓ)

theorem N_eq : cfg0.N = 4 := rfl

theorem idx0 : ∀ t : Fin cfg0.N, win0_0.index t (0 : Fin 3) = t.val ∧ win0_0.index t (1 : Fin 3) = 0 ∧ win0_0.index t (2 : Fin 3) = 0 := (by decide +kernel : ∀ t : Fin grid0.N, _)
theorem idx1 : ∀ t : Fin cfg0.N, win0_1.index t (0 : Fin 3) = t.val ∧ win0_1.index t (1 : Fin 3) = 0 ∧ win0_1.index t (2 : Fin 3) = 0 := (by decide +kernel : ∀ t : Fin grid0.N, _)
theorem idx2 : ∀ t : Fin cfg0.N, win0_2.index t (0 : Fin 3) = t.val ∧ win0_2.index t (1 : Fin 3) = 0 ∧ win0_2.index t (2 : Fin 3) = 0 := (by decide +kernel : ∀ t : Fin grid0.N, _)

/-- The group that a grid point's slot `o` holds. -/
def grp (t : Fin cfg0.N) (o : Fin 8) : Fin 32 := ⟨8 * t.val + o.val, by have := t.isLt; have h : cfg0.N = 4 := N_eq; omega⟩

theorem emb0 (t : Fin cfg0.N) (o : Fin 8) (a : Fin 512) (b : Fin 128) : ((cfg0.win 0).blk t).view.emb (ix3 o a b) = (ix3 (grp t o) a b) := by
  obtain ⟨e0, e1, e2⟩ := idx0 t
  funext q; apply Fin.ext
  match q with
  | ⟨0, _⟩ => show win0_0.index t (0 : Fin 3) * 8 + 1 * o.val = 8 * t.val + o.val; omega
  | ⟨1, _⟩ => show win0_0.index t (1 : Fin 3) * 512 + 1 * a.val = a.val; omega
  | ⟨2, _⟩ => show win0_0.index t (2 : Fin 3) * 128 + 1 * b.val = b.val; omega

theorem emb1 (t : Fin cfg0.N) (o : Fin 8) (a : Fin 1) (b : Fin 512) : ((cfg0.win 1).blk t).view.emb (ix3 o a b) = (ix3 (grp t o) a b) := by
  obtain ⟨e0, e1, e2⟩ := idx1 t
  funext q; apply Fin.ext
  match q with
  | ⟨0, _⟩ => show win0_1.index t (0 : Fin 3) * 8 + 1 * o.val = 8 * t.val + o.val; omega
  | ⟨1, _⟩ => show win0_1.index t (1 : Fin 3) * 1 + 1 * a.val = a.val; omega
  | ⟨2, _⟩ => show win0_1.index t (2 : Fin 3) * 512 + 1 * b.val = b.val; omega

theorem emb2 (t : Fin cfg0.N) (o : Fin 8) (a b : Fin 256) : ((cfg0.win 2).blk t).view.emb (ix3 o a b) = (ix3 (grp t o) a b) := by
  obtain ⟨e0, e1, e2⟩ := idx2 t
  funext q; apply Fin.ext
  match q with
  | ⟨0, _⟩ => show win0_2.index t (0 : Fin 3) * 8 + 1 * o.val = 8 * t.val + o.val; omega
  | ⟨1, _⟩ => show win0_2.index t (1 : Fin 3) * 256 + 1 * a.val = a.val; omega
  | ⟨2, _⟩ => show win0_2.index t (2 : Fin 3) * 256 + 1 * b.val = b.val; omega

theorem iblk0 (c : Dev nD) (t : Fin cfg0.N) (o : Fin 8) (a : Fin 512) (b : Fin 128) : iblk m c 0 t (ix3 o a b) = V m c main_v217 (ix3 (grp t o) a b) := by
  show V m c main_v217 (((cfg0.win 0).blk t).view.emb (ix3 o a b)) = _; rw [emb0]

theorem iblk1 (c : Dev nD) (t : Fin cfg0.N) (o : Fin 8) (a : Fin 1) (b : Fin 512) : iblk m c 1 t (ix3 o a b) = V m c main_v221 (ix3 (grp t o) a b) := by
  show V m c main_v221 (((cfg0.win 1).blk t).view.emb (ix3 o a b)) = _; rw [emb1]

/-- The reference's table of the argument arrays of device `c`. -/
abbrev result (c : Dev nD) : Buf (Elt Ideal) ((c : Thread nD τ).loc main_v222) :=
  Cert.Reference8Ideal.Read.val_main_v252 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

theorem flushed2 (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2]
  funext i
  show out0_2 (iblk m c 0 t) (iblk m c 1 t) i = result m c (((cfg0.win 2).blk t).view.emb i)
  obtain ⟨o, r, s, rfl⟩ : ∃ (o : Fin 8) (r s : Fin 256), i = ix3 o r s := ⟨i 0, i 1, i 2, eq_ix3 i⟩
  rw [emb2, out2_apply]
  refine Eq.trans ?_ (entry _ _ _ _ _ _ _ _ (grp t o) r s)
  have e : (grp t o).val % 8 = o.val := by show (8 * t.val + o.val) % 8 = o.val; omega
  rw [e]
  refine congrArg₂ (fun p q => group (F := Ideal) o.val p q (ix3 0 r s)) (funext fun j => ?_) (funext fun j => ?_)
  · exact (iblk0 m c t o (j 1) (j 2)).trans (congrFun (V_main_v217 m c) _)
  · exact (iblk1 m c t o (j 1) (j 2)).trans (congrFun (V_main_v221 m c) _)

theorem mem_of_eq {s : Shape} {A : Set s.Idx} {i j : s.Idx} (h : i = j) (hj : j ∈ A) : i ∈ A := h ▸ hj

theorem cover2 (i : S32x256x256.Idx) : ∃ t : Fin cfg0.N, (cfg0.win 2).flush t = true ∧ i ∈ ((cfg0.win 2).blk t).view.set := by
  have h1 : (i 0).val < 32 := (i 0).isLt
  refine ⟨(⟨(i 0).val / 8, by show (i 0).val / 8 < 4; omega⟩ : Fin cfg0.N), flush0_2 _, ?_⟩
  have h := ((cfg0.win 2).blk (⟨(i 0).val / 8, by show (i 0).val / 8 < 4; omega⟩ : Fin cfg0.N)).view.emb_mem_set
    (ix3 ⟨(i 0).val % 8, by omega⟩ (i 1) (i 2))
  rw [emb2 (⟨(i 0).val / 8, by show (i 0).val / 8 < 4; omega⟩ : Fin cfg0.N) ⟨(i 0).val % 8, by omega⟩ (i 1) (i 2)] at h
  have e : i = ix3 (grp (⟨(i 0).val / 8, by show (i 0).val / 8 < 4; omega⟩ : Fin cfg0.N) ⟨(i 0).val % 8, by omega⟩) (i 1) (i 2) := by
    refine (eq_ix3 i).trans (congrArg (fun q => ix3 q (i 1) (i 2)) (Fin.ext ?_))
    show (i 0).val = 8 * ((i 0).val / 8) + (i 0).val % 8
    omega
  exact mem_of_eq e h

theorem final (c : Dev nD) : (dats m 0 c).arrAt 2 cfg0.N = result m c :=
  (dats m 0 c).arrAt_eq_of_cover 2 (result m c) (fun t _ => flushed2 m c t) cover2

/-- The kernel ends with the reference's table, and its arguments as they were. -/
theorem run (ρ : Dev nD → PrngReg) : θ_run defs (onTc (τ := τ) (main (F := Ideal))) ⟨m, fun _ => 0, ρ⟩ fun r => ∀ c : Dev nD,
      r.2.mem ((c : Thread nD τ).loc main_v222) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.Table

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Loops
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Loops
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.KVal
public import proofs.«01_k».proof.Proof.Proj
public import proofs.«01_k».proof.Proof.Ctx
public import proofs.«01_k».proof.Proof.Mod
public import proofs.«01_k».proof.Proof.ScanFrame
public import proofs.«01_k».proof.Proof.ConvFrame
public import proofs.«01_k».proof.Proof.BitFrames
public import proofs.«01_k».proof.Proof.Table
public import Idealize.ShloMosaic.Adequacy
public import Idealize.ShloMosaic.Init

@[expose] public section

noncomputable section

namespace Cert.Proof

open Idealize.ShloMosaic Idealize.SL.Sem

theorem frame_kernel : Cert.quiescent_Kernel (hKernel := Cert.Kernel.Gen.facts) := fun m ρ _ => Cert.Kernel.Gen.frame m ρ

theorem frame_ideal : Cert.quiescent_KernelIdeal (hKernelIdeal := Cert.KernelIdeal.Gen.facts) :=
  fun m ρ _ => Cert.KernelIdeal.Gen.frame m ρ

theorem frame_reference : Cert.quiescent_ReferenceIdeal (hReferenceIdeal := Cert.ReferenceIdeal.Gen.facts) :=
  fun m ρ _ => (θ_run _ _ _).mono (fun r h => ⟨fun c => (h c).2, sem_eq_zero_of_no_sems (by decide) r.2⟩)
    (Cert.ReferenceIdeal.Value.run (F := Ideal) m ρ)

theorem ref_congr {x0 y0 : (⟨Cert.ReferenceIdeal.S8x4096x1024, .f32⟩ : BufTy).Contents (Elt Ideal)} {x1 y1 : (⟨Cert.ReferenceIdeal.S16x1x6144, .f32⟩ : BufTy).Contents (Elt Ideal)} {x2 y2 : (⟨Cert.ReferenceIdeal.S16x2048x512, .bf16⟩ : BufTy).Contents (Elt Ideal)} {x3 y3 : (⟨Cert.ReferenceIdeal.S8x4096x512, .bf16⟩ : BufTy).Contents (Elt Ideal)} {x4 y4 : (⟨Cert.ReferenceIdeal.S1x512x1024, .f32⟩ : BufTy).Contents (Elt Ideal)} {x5 y5 : (⟨Cert.ReferenceIdeal.S1x1024, .f32⟩ : BufTy).Contents (Elt Ideal)} {x6 y6 : (⟨Cert.ReferenceIdeal.S1x512, .f32⟩ : BufTy).Contents (Elt Ideal)} {x7 y7 : (⟨Cert.ReferenceIdeal.S1x512, .f32⟩ : BufTy).Contents (Elt Ideal)} {x8 y8 : (⟨Cert.ReferenceIdeal.S1x1024x1024, .f32⟩ : BufTy).Contents (Elt Ideal)} {x9 y9 : (⟨Cert.ReferenceIdeal.S1x1024, .f32⟩ : BufTy).Contents (Elt Ideal)} {x10 y10 : (⟨Cert.ReferenceIdeal.S1x1024x4096, .f32⟩ : BufTy).Contents (Elt Ideal)} {x11 y11 : (⟨Cert.ReferenceIdeal.S1x4096x1024, .f32⟩ : BufTy).Contents (Elt Ideal)} {x12 y12 : (⟨Cert.ReferenceIdeal.S1024, .f32⟩ : BufTy).Contents (Elt Ideal)}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) :
    Cert.ReferenceIdeal.Read.val_main_v136 (F := Ideal) x0 x1 x2 x3 x4 x5 x6 x7 x8 x9 x10 x11 x12 = Cert.ReferenceIdeal.Read.val_main_v136 (F := Ideal) y0 y1 y2 y3 y4 y5 y6 y7 y8 y9 y10 y11 y12 := by
  subst h0 h1 h2 h3 h4 h5 h6 h7 h8 h9 h10 h11 h12
  rfl

theorem algebraic : Cert.algebraic_KernelIdeal_ReferenceIdeal (hKernelIdeal := Cert.KernelIdeal.Gen.facts)
    (hReferenceIdeal := Cert.ReferenceIdeal.Gen.facts) := by
  intro m g m' g' _ hag
  refine ⟨Cert.KVal.result m, Cert.KVal.run m g, ?_⟩
  refine (θ_run _ _ _).mono (fun r h c => ⟨(h c).1.trans ?_, (h c).2⟩) (Cert.ReferenceIdeal.Value.run (F := Ideal) m' g')
  obtain ⟨h0, h1, h2, h3, h4, h5, h6, h7, h8, h9, h10, h11, h12⟩ := hag c
  refine (Cert.ReferenceIdeal.Read.val_main_v136_eq (F := Ideal) (StableHlo.launchContents m' c)).trans ?_
  exact ref_congr h0 h1 h2 h3 h4 h5 h6 h7 h8 h9 h10 h11 h12

theorem frame_kernel2 : Cert.quiescent_Kernel2 (hKernel2 := Cert.Kernel2.Gen.facts) := fun m ρ _ => Cert.Kernel2.Gen.frame m ρ

theorem frame_ideal2 : Cert.quiescent_Kernel2Ideal (hKernel2Ideal := Cert.Kernel2Ideal.Gen.facts) :=
  fun m ρ _ => Cert.Kernel2Ideal.Gen.frame m ρ

theorem frame_reference2 : Cert.quiescent_Reference2Ideal (hReference2Ideal := Cert.Reference2Ideal.Gen.facts) :=
  fun m ρ _ => (θ_run _ _ _).mono (fun r h => ⟨fun c => (h c).2.2, sem_eq_zero_of_no_sems (by decide) r.2⟩)
    (Cert.Reference2Ideal.Value.run (F := Ideal) m ρ)

theorem ref2_congr_v68 {x0 y0 : (⟨Cert.Reference2Ideal.S8x4096x1024, .f32⟩ : BufTy).Contents (Elt Ideal)} {x1 y1 : (⟨Cert.Reference2Ideal.S16x1x6144, .f32⟩ : BufTy).Contents (Elt Ideal)} {x2 y2 : (⟨Cert.Reference2Ideal.S1x1024, .f32⟩ : BufTy).Contents (Elt Ideal)} {x3 y3 : (⟨Cert.Reference2Ideal.S1x1024x2048, .f32⟩ : BufTy).Contents (Elt Ideal)} (h0 : x0 = y0) (h1 : x1 = y1) (h2 : x2 = y2) (h3 : x3 = y3) :
    Cert.Reference2Ideal.Read.val_main_v68 (F := Ideal) x0 x1 x2 x3 = Cert.Reference2Ideal.Read.val_main_v68 (F := Ideal) y0 y1 y2 y3 := by
  subst h0 h1 h2 h3
  rfl

theorem ref2_congr_v69 {x0 y0 : (⟨Cert.Reference2Ideal.S8x4096x1024, .f32⟩ : BufTy).Contents (Elt Ideal)} {x1 y1 : (⟨Cert.Reference2Ideal.S16x1x6144, .f32⟩ : BufTy).Contents (Elt Ideal)} {x2 y2 : (⟨Cert.Reference2Ideal.S1x1024, .f32⟩ : BufTy).Contents (Elt Ideal)} {x3 y3 : (⟨Cert.Reference2Ideal.S1x1024x2048, .f32⟩ : BufTy).Contents (Elt Ideal)} (h0 : x0 = y0) (h1 : x1 = y1) (h2 : x2 = y2) (h3 : x3 = y3) :
    Cert.Reference2Ideal.Read.val_main_v69 (F := Ideal) x0 x1 x2 x3 = Cert.Reference2Ideal.Read.val_main_v69 (F := Ideal) y0 y1 y2 y3 := by
  subst h0 h1 h2 h3
  rfl

theorem algebraic2 : Cert.algebraic_Kernel2Ideal_Reference2Ideal (hKernel2Ideal := Cert.Kernel2Ideal.Gen.facts)
    (hReference2Ideal := Cert.Reference2Ideal.Gen.facts) := by
  intro m g m' g' _ hag
  refine ⟨Cert.Proj.result5 m, Cert.Proj.result6 m, Cert.Proj.run m g, ?_⟩
  refine (θ_run _ _ _).mono (fun r h c => ⟨(h c).1.trans ?_, (h c).2.1.trans ?_, (h c).2.2⟩) (Cert.Reference2Ideal.Value.run (F := Ideal) m' g')
  · obtain ⟨h0, h1, h2, h3⟩ := hag c
    exact (Cert.Reference2Ideal.Read.val_main_v68_eq (F := Ideal) m' c).trans (ref2_congr_v68 h0 h1 h2 h3)
  · obtain ⟨h0, h1, h2, h3⟩ := hag c
    exact (Cert.Reference2Ideal.Read.val_main_v69_eq (F := Ideal) m' c).trans (ref2_congr_v69 h0 h1 h2 h3)

theorem frame_kernel3 : Cert.quiescent_Kernel3 (hKernel3 := Cert.Kernel3.Gen.facts) := fun m ρ _ => Cert.Kernel3.Gen.frame m ρ

theorem frame_ideal3 : Cert.quiescent_Kernel3Ideal (hKernel3Ideal := Cert.Kernel3Ideal.Gen.facts) :=
  fun m ρ _ => Cert.Kernel3Ideal.Gen.frame m ρ

theorem frame_reference3 : Cert.quiescent_Reference3Ideal (hReference3Ideal := Cert.Reference3Ideal.Gen.facts) :=
  fun m ρ _ => (θ_run _ _ _).mono (fun r h => ⟨fun c => (h c).2, sem_eq_zero_of_no_sems (by decide) r.2⟩)
    (Cert.Reference3Ideal.Value.run (F := Ideal) m ρ)

theorem ref3_congr_v32 {x0 y0 : (⟨Cert.Reference3Ideal.S8x256x1024, .f32⟩ : BufTy).Contents (Elt Ideal)} {x1 y1 : (⟨Cert.Reference3Ideal.S16x1x6144, .f32⟩ : BufTy).Contents (Elt Ideal)} {x2 y2 : (⟨Cert.Reference3Ideal.S1x1024, .f32⟩ : BufTy).Contents (Elt Ideal)} {x3 y3 : (⟨Cert.Reference3Ideal.S1x1024x2048, .f32⟩ : BufTy).Contents (Elt Ideal)} (h0 : x0 = y0) (h1 : x1 = y1) (h2 : x2 = y2) (h3 : x3 = y3) :
    Cert.Reference3Ideal.Read.val_main_v32 (F := Ideal) x0 x1 x2 x3 = Cert.Reference3Ideal.Read.val_main_v32 (F := Ideal) y0 y1 y2 y3 := by
  subst h0 h1 h2 h3
  rfl

theorem algebraic3 : Cert.algebraic_Kernel3Ideal_Reference3Ideal (hKernel3Ideal := Cert.Kernel3Ideal.Gen.facts)
    (hReference3Ideal := Cert.Reference3Ideal.Gen.facts) := by
  intro m g m' g' _ hag
  refine ⟨Cert.Ctx.result m, Cert.Ctx.run m g, ?_⟩
  refine (θ_run _ _ _).mono (fun r h c => ⟨(h c).1.trans ?_, (h c).2⟩) (Cert.Reference3Ideal.Value.run (F := Ideal) m' g')
  obtain ⟨h0, h1, h2, h3⟩ := hag c
  exact (Cert.Reference3Ideal.Read.val_main_v32_eq (F := Ideal) _ _ _ _).trans (ref3_congr_v32 h0 h1 h2 h3)

theorem frame_kernel4 : Cert.quiescent_Kernel4 (hKernel4 := Cert.Kernel4.Gen.facts) := fun m ρ _ => Cert.Kernel4.Gen.frame m ρ

theorem frame_ideal4 : Cert.quiescent_Kernel4Ideal (hKernel4Ideal := Cert.Kernel4Ideal.Gen.facts) :=
  fun m ρ _ => Cert.Kernel4Ideal.Gen.frame m ρ

theorem frame_reference4 : Cert.quiescent_Reference4Ideal (hReference4Ideal := Cert.Reference4Ideal.Gen.facts) :=
  fun m ρ _ => (θ_run _ _ _).mono (fun r h => ⟨fun c => (h c).2, sem_eq_zero_of_no_sems (by decide) r.2⟩)
    (Cert.Reference4Ideal.Value.run (F := Ideal) m ρ)

theorem ref4_congr_v16 {x0 y0 : (⟨Cert.Reference4Ideal.S8x1024, .f32⟩ : BufTy).Contents (Elt Ideal)} {x1 y1 : (⟨Cert.Reference4Ideal.S1024, .f32⟩ : BufTy).Contents (Elt Ideal)} {x2 y2 : (⟨Cert.Reference4Ideal.S1x1024x6144, .f32⟩ : BufTy).Contents (Elt Ideal)} {x3 y3 : (⟨Cert.Reference4Ideal.S1x6144, .f32⟩ : BufTy).Contents (Elt Ideal)} (h0 : x0 = y0) (h1 : x1 = y1) (h2 : x2 = y2) (h3 : x3 = y3) :
    Cert.Reference4Ideal.Read.val_main_v16 (F := Ideal) x0 x1 x2 x3 = Cert.Reference4Ideal.Read.val_main_v16 (F := Ideal) y0 y1 y2 y3 := by
  subst h0 h1 h2 h3
  rfl

theorem algebraic4 : Cert.algebraic_Kernel4Ideal_Reference4Ideal (hKernel4Ideal := Cert.Kernel4Ideal.Gen.facts)
    (hReference4Ideal := Cert.Reference4Ideal.Gen.facts) := by
  intro m g m' g' _ hag
  refine ⟨Cert.Mod.result m, Cert.Mod.run m g, ?_⟩
  refine (θ_run _ _ _).mono (fun r h c => ⟨(h c).1.trans ?_, (h c).2⟩) (Cert.Reference4Ideal.Value.run (F := Ideal) m' g')
  obtain ⟨h0, h1, h2, h3⟩ := hag c
  exact (Cert.Reference4Ideal.Read.val_main_v16_eq (F := Ideal) _ _ _ _).trans (ref4_congr_v16 h0 h1 h2 h3)

theorem frame_ideal5 : Cert.quiescent_Kernel5Ideal (hKernel5Ideal := Cert.Kernel5Ideal.Gen.facts) :=
  fun m ρ _ => Cert.ScanFrame.frame m ρ

theorem frame_ideal7 : Cert.quiescent_Kernel7Ideal (hKernel7Ideal := Cert.Kernel7Ideal.Gen.facts) :=
  fun m ρ _ => Cert.ConvFrame.frame m ρ

theorem frame_kernel8 : Cert.quiescent_Kernel8 (hKernel8 := Cert.Kernel8.Gen.facts) := fun m ρ _ => Cert.Kernel8.Gen.frame m ρ

theorem frame_ideal8 : Cert.quiescent_Kernel8Ideal (hKernel8Ideal := Cert.Kernel8Ideal.Gen.facts) :=
  fun m ρ _ => Cert.Kernel8Ideal.Gen.frame m ρ

theorem frame_reference8 : Cert.quiescent_Reference8Ideal (hReference8Ideal := Cert.Reference8Ideal.Gen.facts) :=
  fun m ρ _ => (θ_run _ _ _).mono (fun r h => ⟨fun c => (h c).2, sem_eq_zero_of_no_sems (by decide) r.2⟩)
    (Cert.Reference8Ideal.Value.run (F := Ideal) m ρ)

theorem ref8_congr {x0 y0 : (⟨Cert.Reference8Ideal.S1x2x32x64, .f32⟩ : BufTy).Contents (Elt Ideal)} {x1 y1 : (⟨Cert.Reference8Ideal.S1x2x32x64, .f32⟩ : BufTy).Contents (Elt Ideal)} {x2 y2 : (⟨Cert.Reference8Ideal.S1x2x32, .f32⟩ : BufTy).Contents (Elt Ideal)} {x3 y3 : (⟨Cert.Reference8Ideal.S1x2x32x64x16, .f32⟩ : BufTy).Contents (Elt Ideal)} {x4 y4 : (⟨Cert.Reference8Ideal.S1x2x32x64x16, .f32⟩ : BufTy).Contents (Elt Ideal)} {x5 y5 : (⟨Cert.Reference8Ideal.S1x2x32x16x64, .f32⟩ : BufTy).Contents (Elt Ideal)} {x6 y6 : (⟨Cert.Reference8Ideal.S1x2x32x16x64, .f32⟩ : BufTy).Contents (Elt Ideal)} {x7 y7 : (⟨Cert.Reference8Ideal.S1x512, .f32⟩ : BufTy).Contents (Elt Ideal)}
    (h0 : x0 = y0) (h1 : x1 = y1) (h2 : x2 = y2) (h3 : x3 = y3) (h4 : x4 = y4) (h5 : x5 = y5) (h6 : x6 = y6) (h7 : x7 = y7) :
    Cert.Reference8Ideal.Read.val_main_v252 (F := Ideal) x0 x1 x2 x3 x4 x5 x6 x7 = Cert.Reference8Ideal.Read.val_main_v252 (F := Ideal) y0 y1 y2 y3 y4 y5 y6 y7 := by
  subst h0 h1 h2 h3 h4 h5 h6 h7
  rfl

theorem algebraic8 : Cert.algebraic_Kernel8Ideal_Reference8Ideal (hKernel8Ideal := Cert.Kernel8Ideal.Gen.facts)
    (hReference8Ideal := Cert.Reference8Ideal.Gen.facts) := by
  intro m g m' g' _ hag
  refine ⟨Cert.Table.result m, Cert.Table.run m g, ?_⟩
  refine (θ_run _ _ _).mono (fun r h c => ⟨(h c).1.trans ?_, (h c).2⟩) (Cert.Reference8Ideal.Value.run (F := Ideal) m' g')
  obtain ⟨h0, h1, h2, h3, h4, h5, h6, h7⟩ := hag c
  refine (Cert.Reference8Ideal.Read.val_main_v252_eq (F := Ideal) (StableHlo.launchContents m' c)).trans ?_
  exact ref8_congr h0 h1 h2 h3 h4 h5 h6 h7

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Kernel7.Gen.facts, Cert.Kernel7Ideal.Gen.facts,
  Cert.Kernel8.Gen.facts, Cert.Kernel8Ideal.Gen.facts, Cert.Reference8Ideal.Gen.facts,
  frame_kernel, frame_ideal, frame_reference, frame_kernel2, frame_ideal2, frame_reference2, frame_kernel3, frame_ideal3, frame_reference3, frame_kernel4, frame_ideal4, frame_reference4,
  Cert.BitFrames.scan, frame_ideal5, Cert.BitFrames.conv, frame_ideal7, frame_kernel8, frame_ideal8, frame_reference8,
  trivial, algebraic, trivial, algebraic2, trivial, algebraic3, trivial, algebraic4, trivial, trivial, trivial, algebraic8⟩

end Cert.Proof

end
